-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x512 : Shape := ⟨3, ![4, 4096, 512]⟩
abbrev S512x16384 : Shape := ⟨2, ![512, 16384]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S1x4096x128 : Shape := ⟨3, ![1, 4096, 128]⟩
abbrev S128x4096 : Shape := ⟨2, ![128, 4096]⟩
abbrev S1x1x128 : Shape := ⟨3, ![1, 1, 128]⟩

abbrev nBuf : Space → Nat
  | .hbm => 72
  | .vmem => 19
  | .smem => 0
  | _ => 0

abbrev bufTy : (tb : Table) → Fin (tcTables nBuf tb) → BufTy
  | .hbm, ⟨0, _⟩ => ⟨S4x4096x512, .bf16⟩
  | .hbm, ⟨1, _⟩ => ⟨S512x16384, .bf16⟩
  | .hbm, ⟨2, _⟩ => ⟨S4x4096x512, .bf16⟩
  | .hbm, ⟨3, _⟩ => ⟨S4x4096x512, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S4x1x1, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S_, .f32⟩
  | .hbm, ⟨38, _⟩ => ⟨S4x128x128, .f32⟩
  | .hbm, ⟨39, _⟩ => ⟨S4x128x128, .f32⟩
  | .hbm, ⟨40, _⟩ => ⟨S4x1, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S4x128, .f32⟩
  | .hbm, ⟨49, _⟩ => ⟨S_, .f32⟩
  | .hbm, ⟨50, _⟩ => ⟨S4x128, .f32⟩
  | .hbm, ⟨51, _⟩ => ⟨S4x128, .f32⟩
  | .hbm, ⟨52, _⟩ => ⟨S4x1, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S4x128, .f32⟩
  | .hbm, ⟨58, _⟩ => ⟨S4x128, .f32⟩
  | .hbm, ⟨59, _⟩ => ⟨S4x128, .f32⟩
  | .hbm, ⟨60, _⟩ => ⟨S4x128, .f32⟩
  | .hbm, ⟨61, _⟩ => ⟨S4x128x1, .f32⟩
  | .hbm, ⟨62, _⟩ => ⟨S4x128x128, .f32⟩
  | .hbm, ⟨63, _⟩ => ⟨S4x128x1, .f32⟩
  | .hbm, ⟨64, _⟩ => ⟨S4x128x128, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x1x1, .f32⟩
  | .hbm, ⟨70, _⟩ => ⟨S4x1x128, .f32⟩
  | .hbm, ⟨71, _⟩ => ⟨S4x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S128x4096, .bf16⟩
  | .local _ .vmem, ⟨3, _⟩ => ⟨S128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x4096x128, .bf16⟩
  | .local _ .vmem, ⟨17, _⟩ => ⟨S1x4096x128, .bf16⟩
  | .local _ .vmem, ⟨18, _⟩ => ⟨S128x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x4096x512 : Shape := ⟨3, ![4, 4096, 512]⟩
abbrev S512x16384 : Shape := ⟨2, ![512, 16384]⟩
abbrev S512x4x4096 : Shape := ⟨3, ![512, 4, 4096]⟩
abbrev S4x4096x4x128 : Shape := ⟨4, ![4, 4096, 4, 128]⟩
abbrev S4x4x4096x128 : Shape := ⟨4, ![4, 4, 4096, 128]⟩
abbrev S4x4x32x128x128 : Shape := ⟨5, ![4, 4, 32, 128, 128]⟩
abbrev S_ : Shape := ⟨0, ![]⟩
abbrev S4 : Shape := ⟨1, ![4]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S1x4x1x128x1 : Shape := ⟨5, ![1, 4, 1, 128, 1]⟩
abbrev S1x4x1x1 : Shape := ⟨4, ![1, 4, 1, 1]⟩
abbrev S4x4x128x128 : Shape := ⟨4, ![4, 4, 128, 128]⟩
abbrev S32x4x4x128x128 : Shape := ⟨5, ![32, 4, 4, 128, 128]⟩
abbrev S1x4x4x128x128 : Shape := ⟨5, ![1, 4, 4, 128, 128]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x4x4096 : Shape := ⟨3, ![4, 4, 4096]⟩
abbrev S4x4x4096x1 : Shape := ⟨4, ![4, 4, 4096, 1]⟩

abbrev nBuf : Space → Nat
  | .hbm => 179
  | .vmem => 0
  | .smem => 0
  | _ => 0

abbrev hbmTy0_0 (i : Nat) : BufTy := match i % 128 with
  | 0 => ⟨S4x4096x512, .bf16⟩
  | 1 => ⟨S512x16384, .bf16⟩
  | 2 => ⟨S4x4096x512, .bf16⟩
  | 3 => ⟨S4x4096x512, .bf16⟩
  | 4 => ⟨S512x4x4096, .bf16⟩
  | 5 => ⟨S4x4096x512, .bf16⟩
  | 6 => ⟨S4x4096x512, .f32⟩
  | 7 => ⟨S4x4096x4x128, .f32⟩
  | 8 => ⟨S4x4x4096x128, .f32⟩
  | 9 => ⟨S4x4x32x128x128, .f32⟩
  | 10 => ⟨S_, .f32⟩
  | 11 => ⟨S4x4x32x128x128, .f32⟩
  | 12 => ⟨S4x4x32x128x128, .f32⟩
  | 13 => ⟨S4x4096x512, .f32⟩
  | 14 => ⟨S4x4096x4x128, .f32⟩
  | 15 => ⟨S4x4x4096x128, .f32⟩
  | 16 => ⟨S4x4x32x128x128, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S4, .f32⟩
  | 26 => ⟨S4, .f32⟩
  | 27 => ⟨S128, .f32⟩
  | 28 => ⟨S4x1, .f32⟩
  | 29 => ⟨S_, .f32⟩
  | 30 => ⟨S128, .f32⟩
  | 31 => ⟨S128, .f32⟩
  | 32 => ⟨S1x128, .f32⟩
  | 33 => ⟨S4x128, .f32⟩
  | 34 => ⟨S4x128, .f32⟩
  | 35 => ⟨S4x128, .f32⟩
  | 36 => ⟨S4x128, .f32⟩
  | 37 => ⟨S1x4x1x128x1, .f32⟩
  | 38 => ⟨S4x4x32x128x128, .f32⟩
  | 39 => ⟨S4x4x32x128x128, .f32⟩
  | 40 => ⟨S4x4x32x128x128, .f32⟩
  | 41 => ⟨S_, .f32⟩
  | 42 => ⟨S4, .f32⟩
  | 43 => ⟨S4, .f32⟩
  | 44 => ⟨S4, .f32⟩
  | 45 => ⟨S1x4x1x1, .f32⟩
  | 46 => ⟨S_, .f32⟩
  | 47 => ⟨S4x4x128x128, .f32⟩
  | 48 => ⟨S32x4x4x128x128, .f32⟩
  | 49 => ⟨S_, .f32⟩
  | 50 => ⟨S32x4x4x128x128, .f32⟩
  | 51 => ⟨S_, .i32⟩
  | 52 => ⟨S32x4x4x128x128, .f32⟩
  | 53 => ⟨S1x4x1x1, .f32⟩
  | 54 => ⟨S_, .i32⟩
  | 55 => ⟨S4x4x128x128, .f32⟩
  | 56 => ⟨S32x4x4x128x128, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1x4x4x128x128, .f32⟩
  | 64 => ⟨S4x4x128x128, .f32⟩
  | 65 => ⟨S4x4x128x128, .f32⟩
  | 66 => ⟨S4x4x128x128, .f32⟩
  | 67 => ⟨S4x4x128x128, .f32⟩
  | 68 => ⟨S1x4x4x128x128, .f32⟩
  | 69 => ⟨S_, .i32⟩
  | 70 => ⟨S_, .i32⟩
  | 71 => ⟨S_, .i32⟩
  | 72 => ⟨S_, .i32⟩
  | 73 => ⟨S32x4x4x128x128, .f32⟩
  | 74 => ⟨S_, .i32⟩
  | 75 => ⟨S_, .i32⟩
  | 76 => ⟨S4x4x32x128x128, .f32⟩
  | 77 => ⟨S4x4096x512, .f32⟩
  | 78 => ⟨S4x4096x4x128, .f32⟩
  | 79 => ⟨S4x4x4096x128, .f32⟩
  | 80 => ⟨S4x4x32x128x128, .f32⟩
  | 81 => ⟨S512x4x4096, .bf16⟩
  | 82 => ⟨S4x4096x512, .bf16⟩
  | 83 => ⟨S4x4096x512, .f32⟩
  | 84 => ⟨S4x4096x4x128, .f32⟩
  | 85 => ⟨S4x4x4096x128, .f32⟩
  | 86 => ⟨S4x4x32x128x128, .f32⟩
  | 87 => ⟨S_, .f32⟩
  | 88 => ⟨S4x4x32x128x128, .f32⟩
  | 89 => ⟨S4x4x32x128x128, .f32⟩
  | 90 => ⟨S4x4096x512, .f32⟩
  | 91 => ⟨S4x4096x4x128, .f32⟩
  | 92 => ⟨S4x4x4096x128, .f32⟩
  | 93 => ⟨S4x4x32x128x128, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S4, .f32⟩
  | 102 => ⟨S4, .f32⟩
  | 103 => ⟨S4, .f32⟩
  | 104 => ⟨S128, .f32⟩
  | 105 => ⟨S128x1, .f32⟩
  | 106 => ⟨S1x128, .f32⟩
  | 107 => ⟨S128x128, .f32⟩
  | 108 => ⟨S128x128, .f32⟩
  | 109 => ⟨S128x128, .f32⟩
  | 110 => ⟨S128, .i32⟩
  | 111 => ⟨S128x1, .i32⟩
  | 112 => ⟨S128, .i32⟩
  | 113 => ⟨S1x128, .i32⟩
  | 114 => ⟨S128x128, .i32⟩
  | 115 => ⟨S128x128, .i32⟩
  | 116 => ⟨S128x128, .i1⟩
  | 117 => ⟨S4x1x1, .f32⟩
  | 118 => ⟨S_, .f32⟩
  | 119 => ⟨S128x128, .f32⟩
  | 120 => ⟨S128x128, .f32⟩
  | 121 => ⟨S1x128x128, .f32⟩
  | 122 => ⟨S4x128x128, .f32⟩
  | 123 => ⟨S4x128x128, .f32⟩
  | 124 => ⟨S4x128x128, .f32⟩
  | 125 => ⟨S4x128x128, .f32⟩
  | 126 => ⟨S_, .f32⟩
  | 127 => ⟨S_, .f32⟩
  | _ => ⟨S4x4096x512, .bf16⟩

abbrev hbmTy0_1 (i : Nat) : BufTy := match i % 128 with
  | 0 => ⟨S4x128x128, .i1⟩
  | 1 => ⟨S4x128x128, .f32⟩
  | 2 => ⟨S4x128x128, .f32⟩
  | 3 => ⟨S4x4x32x128x128, .f32⟩
  | 4 => ⟨S1x4x1x128x128, .f32⟩
  | 5 => ⟨S4x4x32x128x128, .f32⟩
  | 6 => ⟨S4x4x32x128x128, .f32⟩
  | 7 => ⟨S4x4x32x128x128, .f32⟩
  | 8 => ⟨S4x1, .f32⟩
  | 9 => ⟨S_, .f32⟩
  | 10 => ⟨S128, .f32⟩
  | 11 => ⟨S128, .f32⟩
  | 12 => ⟨S1x128, .f32⟩
  | 13 => ⟨S4x128, .f32⟩
  | 14 => ⟨S4x128, .f32⟩
  | 15 => ⟨S4x128, .f32⟩
  | 16 => ⟨S4x128, .f32⟩
  | 17 => ⟨S1x4x1x128x1, .f32⟩
  | 18 => ⟨S4x4x32x128x128, .f32⟩
  | 19 => ⟨S4x4x32x128x128, .f32⟩
  | 20 => ⟨S4x4x32x128x128, .f32⟩
  | 21 => ⟨S4x4x32x128x128, .f32⟩
  | 22 => ⟨S4x4x4096x128, .f32⟩
  | 23 => ⟨S_, .f32⟩
  | 24 => ⟨S4x4x4096, .f32⟩
  | 25 => ⟨S4x4x4096x1, .f32⟩
  | 26 => ⟨S_, .f32⟩
  | 27 => ⟨S4x4x4096x1, .f32⟩
  | 28 => ⟨S4x4x4096x1, .f32⟩
  | 29 => ⟨S4x4x4096x128, .f32⟩
  | 30 => ⟨S4x4x4096x128, .f32⟩
  | 31 => ⟨S4x4x4096x128, .f32⟩
  | 32 => ⟨S_, .f32⟩
  | 33 => ⟨S4x4x4096, .f32⟩
  | 34 => ⟨S4x4x4096x1, .f32⟩
  | 35 => ⟨S_, .f32⟩
  | 36 => ⟨S4x4x4096x1, .f32⟩
  | 37 => ⟨S4x4x4096x1, .f32⟩
  | 38 => ⟨S4x4x4096x128, .f32⟩
  | 39 => ⟨S4x4x4096x128, .f32⟩
  | 40 => ⟨S_, .f32⟩
  | 41 => ⟨S4x4x4096x1, .f32⟩
  | 42 => ⟨S4x4x4096x1, .f32⟩
  | 43 => ⟨S4x4x4096x1, .f32⟩
  | 44 => ⟨S4x4x4096x128, .f32⟩
  | 45 => ⟨S4x4x4096x128, .f32⟩
  | 46 => ⟨S4x4096x4x128, .f32⟩
  | 47 => ⟨S4x4096x512, .f32⟩
  | 48 => ⟨S4x4096x512, .f32⟩
  | 49 => ⟨S4x4096x512, .f32⟩
  | 50 => ⟨S4x4096x512, .bf16⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_c : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev main_v40_4 : Ref sig .tc := ⟨.hbm, 56, rfl⟩
abbrev main_while0c_c_21 : Ref sig .tc := ⟨.hbm, 57, rfl⟩
abbrev main_while0c_v130 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_c_2 : Ref sig .tc := ⟨.hbm, 62, rfl⟩
abbrev main_while0b_call0_v0 : Ref sig .tc := ⟨.hbm, 63, rfl⟩
abbrev main_while0b_v130 : Ref sig .tc := ⟨.hbm, 64, rfl⟩
abbrev main_while0b_v131 : Ref sig .tc := ⟨.hbm, 65, rfl⟩
abbrev main_while0b_v132 : Ref sig .tc := ⟨.hbm, 66, rfl⟩
abbrev main_while0b_v133 : Ref sig .tc := ⟨.hbm, 67, rfl⟩
abbrev main_while0b_call1_v0 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_c_2 : Ref sig .tc := ⟨.hbm, 72, rfl⟩
abbrev main_while0b_v134 : Ref sig .tc := ⟨.hbm, 73, rfl⟩
abbrev main_while0b_c_21 : Ref sig .tc := ⟨.hbm, 74, rfl⟩
abbrev main_while0b_v135 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_9 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_10 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_11 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_12 : Ref sig .tc := ⟨.hbm, 151, rfl⟩
abbrev main_v107 : Ref sig .tc := ⟨.hbm, 152, rfl⟩
abbrev main_v108 : Ref sig .tc := ⟨.hbm, 153, rfl⟩
abbrev main_cst_13 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_14 : Ref sig .tc := ⟨.hbm, 160, rfl⟩
abbrev main_v114 : Ref sig .tc := ⟨.hbm, 161, rfl⟩
abbrev main_v115 : Ref sig .tc := ⟨.hbm, 162, rfl⟩
abbrev main_cst_15 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_16 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S1024x1024 : Shape := ⟨2, ![1024, 1024]⟩
abbrev S1024 : Shape := ⟨1, ![1024]⟩
abbrev S2x1024x5632 : Shape := ⟨3, ![2, 1024, 5632]⟩
abbrev S3x2816 : Shape := ⟨2, ![3, 2816]⟩
abbrev S2816 : Shape := ⟨1, ![2816]⟩
abbrev S2x2816x1024 : Shape := ⟨3, ![2, 2816, 1024]⟩
abbrev S_ : Shape := ⟨0, ![]⟩
abbrev S8x2816 : Shape := ⟨2, ![8, 2816]⟩
abbrev S1 : Shape := ⟨1, ![1]⟩
abbrev S1x1024 : Shape := ⟨2, ![1, 1024]⟩
abbrev S1x2816 : Shape := ⟨2, ![1, 2816]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S504x256 : Shape := ⟨2, ![504, 256]⟩
abbrev S1x256 : Shape := ⟨2, ![1, 256]⟩
abbrev S256x2816 : Shape := ⟨2, ![256, 2816]⟩
abbrev S2816x1024 : Shape := ⟨2, ![2816, 1024]⟩

abbrev nBuf : Space → Nat
  | .hbm => 22
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S2x1024x5632, .bf16⟩
  | .hbm, ⟨6, _⟩ => ⟨S3x2816, .f32⟩
  | .hbm, ⟨7, _⟩ => ⟨S2816, .f32⟩
  | .hbm, ⟨8, _⟩ => ⟨S2x2816x1024, .bf16⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x2816, .f32⟩
  | .hbm, ⟨13, _⟩ => ⟨S_, .i32⟩
  | .hbm, ⟨14, _⟩ => ⟨S1, .i32⟩
  | .hbm, ⟨15, _⟩ => ⟨S8x2816, .f32⟩
  | .hbm, ⟨16, _⟩ => ⟨S1x1024, .f32⟩
  | .hbm, ⟨17, _⟩ => ⟨S1x1024, .f32⟩
  | .hbm, ⟨18, _⟩ => ⟨S1x2816, .f32⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S8x2816, .f32⟩
  | .local _ .vmem, ⟨9, _⟩ => ⟨S1x2816, .f32⟩
  | .local _ .vmem, ⟨10, _⟩ => ⟨S1x2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x2816, .f32⟩
  | .local _ .vmem, ⟨16, _⟩ => ⟨S512x2816, .bf16⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S2x1024x5632 : Shape := ⟨3, ![2, 1024, 5632]⟩
abbrev S3x2816 : Shape := ⟨2, ![3, 2816]⟩
abbrev S2816 : Shape := ⟨1, ![2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S2x1024x5632, .bf16⟩
  | .hbm, ⟨6, _⟩ => ⟨S3x2816, .f32⟩
  | .hbm, ⟨7, _⟩ => ⟨S2816, .f32⟩
  | .hbm, ⟨8, _⟩ => ⟨S2x2816x1024, .bf16⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S4x4096x1024, .f32⟩
  | .hbm, ⟨48, _⟩ => ⟨S1x1024x5632, .bf16⟩
  | .hbm, ⟨49, _⟩ => ⟨S1024x5632, .bf16⟩
  | .hbm, ⟨50, _⟩ => ⟨S1024x5632, .f32⟩
  | .hbm, ⟨51, _⟩ => ⟨S1x2816x1024, .bf16⟩
  | .hbm, ⟨52, _⟩ => ⟨S2816x1024, .bf16⟩
  | .hbm, ⟨53, _⟩ => ⟨S2816x1024, .f32⟩
  | .hbm, ⟨54, _⟩ => ⟨S4x4096x5632, .f32⟩
  | .hbm, ⟨55, _⟩ => ⟨S4x4096x2816, .f32⟩
  | .hbm, ⟨56, _⟩ => ⟨S4x4096x2816, .f32⟩
  | .hbm, ⟨57, _⟩ => ⟨S_, .i32⟩
  | .hbm, ⟨58, _⟩ => ⟨S_, .f32⟩
  | .hbm, ⟨59, _⟩ => ⟨S4x4098x2816, .f32⟩
  | .hbm, ⟨60, _⟩ => ⟨S1x2816, .f32⟩
  | .hbm, ⟨61, _⟩ => ⟨S2816, .f32⟩
  | .hbm, ⟨62, _⟩ => ⟨S4x4096x2816, .f32⟩
  | .hbm, ⟨63, _⟩ => ⟨S1x1x2816, .f32⟩
  | .hbm, ⟨64, _⟩ => ⟨S4x4096x2816, .f32⟩
  | .hbm, ⟨65, _⟩ => ⟨S4x4096x2816, .f32⟩
  | .hbm, ⟨66, _⟩ => ⟨S1x2816, .f32⟩
  | .hbm, ⟨67, _⟩ => ⟨S2816, .f32⟩
  | .hbm, ⟨68, _⟩ => ⟨S4x4096x2816, .f32⟩
  | .hbm, ⟨69, _⟩ => ⟨S1x1x2816, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S1x2816, .f32⟩
  | .hbm, ⟨74, _⟩ => ⟨S2816, .f32⟩
  | .hbm, ⟨75, _⟩ => ⟨S4x4096x2816, .f32⟩
  | .hbm, ⟨76, _⟩ => ⟨S1x1x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S1x1x2816, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S4x4096x2816, .f32⟩
  | .hbm, ⟨85, _⟩ => ⟨S_, .f32⟩
  | .hbm, ⟨86, _⟩ => ⟨S4x4096x2816, .f32⟩
  | .hbm, ⟨87, _⟩ => ⟨S4x4096x2816, .f32⟩
  | .hbm, ⟨88, _⟩ => ⟨S_, .f32⟩
  | .hbm, ⟨89, _⟩ => ⟨S4x4096x2816, .f32⟩
  | .hbm, ⟨90, _⟩ => ⟨S4x4096x2816, .f32⟩
  | .hbm, ⟨91, _⟩ => ⟨S4x4096x2816, .f32⟩
  | .hbm, ⟨92, _⟩ => ⟨S4x4096x2816, .f32⟩
  | .hbm, ⟨93, _⟩ => ⟨S4x4096x1024, .f32⟩
  | .hbm, ⟨94, _⟩ => ⟨S_, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S_, .f32⟩
  | .hbm, ⟨108, _⟩ => ⟨S4x4096, .f32⟩
  | .hbm, ⟨109, _⟩ => ⟨S4x4096x1, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S4x4096x1024, .f32⟩
  | .hbm, ⟨114, _⟩ => ⟨S4x4096x1024, .f32⟩
  | .hbm, ⟨115, _⟩ => ⟨S_, .f32⟩
  | .hbm, ⟨116, _⟩ => ⟨S4x4096x1, .f32⟩
  | .hbm, ⟨117, _⟩ => ⟨S4x4096x1, .f32⟩
  | .hbm, ⟨118, _⟩ => ⟨S4x4096x1, .f32⟩
  | .hbm, ⟨119, _⟩ => ⟨S4x4096x1024, .f32⟩
  | .hbm, ⟨120, _⟩ => ⟨S4x4096x1024, .f32⟩
  | .hbm, ⟨121, _⟩ => ⟨S1x1x1024, .f32⟩
  | .hbm, ⟨122, _⟩ => ⟨S4x4096x1024, .f32⟩
  | .hbm, ⟨123, _⟩ => ⟨S4x4096x1024, .f32⟩
  | .hbm, ⟨124, _⟩ => ⟨S1x1x1024, .f32⟩
  | .hbm, ⟨125, _⟩ => ⟨S4x4096x1024, .f32⟩
  | .hbm, ⟨126, _⟩ => ⟨S4x4096x1024, .f32⟩
  | .hbm, ⟨127, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_cst_7 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_8 : Ref sig .tc := ⟨.hbm, 107, rfl⟩
abbrev main_v77 : Ref sig .tc := ⟨.hbm, 108, rfl⟩
abbrev main_v78 : Ref sig .tc := ⟨.hbm, 109, rfl⟩
abbrev main_cst_9 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_10 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S2x1024x5632 : Shape := ⟨3, ![2, 1024, 5632]⟩
abbrev S3x2816 : Shape := ⟨2, ![3, 2816]⟩
abbrev S2816 : Shape := ⟨1, ![2816]⟩
abbrev S2x2816x1024 : Shape := ⟨3, ![2, 2816, 1024]⟩
abbrev S_ : Shape := ⟨0, ![]⟩
abbrev S8x2816 : Shape := ⟨2, ![8, 2816]⟩
abbrev S1 : Shape := ⟨1, ![1]⟩
abbrev S1x1024 : Shape := ⟨2, ![1, 1024]⟩
abbrev S1x2816 : Shape := ⟨2, ![1, 2816]⟩
abbrev S512x1024 : Shape := ⟨2, ![512, 1024]⟩
abbrev S512x512 : Shape := ⟨2, ![512, 512]⟩
abbrev S1x1024x5632 : Shape := ⟨3, ![1, 1024, 5632]⟩
abbrev S1x2816x1024 : Shape := ⟨3, ![1, 2816, 1024]⟩
abbrev S512x2816 : Shape := ⟨2, ![512, 2816]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S504x256 : Shape := ⟨2, ![504, 256]⟩
abbrev S1x256 : Shape := ⟨2, ![1, 256]⟩
abbrev S256x2816 : Shape := ⟨2, ![256, 2816]⟩
abbrev S2816x1024 : Shape := ⟨2, ![2816, 1024]⟩

abbrev nBuf : Space → Nat
  | .hbm => 23
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1024, .f32⟩
  | .hbm, ⟨5, _⟩ => ⟨S1024, .f32⟩
  | .hbm, ⟨6, _⟩ => ⟨S2x1024x5632, .bf16⟩
  | .hbm, ⟨7, _⟩ => ⟨S3x2816, .f32⟩
  | .hbm, ⟨8, _⟩ => ⟨S2816, .f32⟩
  | .hbm, ⟨9, _⟩ => ⟨S2x2816x1024, .bf16⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S8x2816, .f32⟩
  | .hbm, ⟨14, _⟩ => ⟨S_, .i32⟩
  | .hbm, ⟨15, _⟩ => ⟨S1, .i32⟩
  | .hbm, ⟨16, _⟩ => ⟨S8x2816, .f32⟩
  | .hbm, ⟨17, _⟩ => ⟨S1x1024, .f32⟩
  | .hbm, ⟨18, _⟩ => ⟨S1x1024, .f32⟩
  | .hbm, ⟨19, _⟩ => ⟨S1x2816, .f32⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S8x2816, .f32⟩
  | .local _ .vmem, ⟨11, _⟩ => ⟨S1x2816, .f32⟩
  | .local _ .vmem, ⟨12, _⟩ => ⟨S1x2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x2816, .f32⟩
  | .local _ .vmem, ⟨18, _⟩ => ⟨S512x2816, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S2x1024x5632 : Shape := ⟨3, ![2, 1024, 5632]⟩
abbrev S3x2816 : Shape := ⟨2, ![3, 2816]⟩
abbrev S2816 : Shape := ⟨1, ![2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S1024x1024, .bf16⟩
  | 4 => ⟨S1024, .f32⟩
  | 5 => ⟨S1024, .f32⟩
  | 6 => ⟨S2x1024x5632, .bf16⟩
  | 7 => ⟨S3x2816, .f32⟩
  | 8 => ⟨S2816, .f32⟩
  | 9 => ⟨S2x2816x1024, .bf16⟩
  | 10 => ⟨S1024, .f32⟩
  | 11 => ⟨S1024, .f32⟩
  | 12 => ⟨S16384x1024, .bf16⟩
  | 13 => ⟨S16384x1024, .f32⟩
  | 14 => ⟨S1024x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x1024, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S_, .f32⟩
  | 38 => ⟨S16384x1, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S4x4096x1024, .f32⟩
  | 50 => ⟨S1x1024x5632, .bf16⟩
  | 51 => ⟨S1024x5632, .bf16⟩
  | 52 => ⟨S1024x5632, .f32⟩
  | 53 => ⟨S1x2816x1024, .bf16⟩
  | 54 => ⟨S2816x1024, .bf16⟩
  | 55 => ⟨S2816x1024, .f32⟩
  | 56 => ⟨S4x4096x5632, .f32⟩
  | 57 => ⟨S4x4096x2816, .f32⟩
  | 58 => ⟨S4x4096x2816, .f32⟩
  | 59 => ⟨S_, .i32⟩
  | 60 => ⟨S_, .f32⟩
  | 61 => ⟨S4x4098x2816, .f32⟩
  | 62 => ⟨S1x2816, .f32⟩
  | 63 => ⟨S2816, .f32⟩
  | 64 => ⟨S4x4096x2816, .f32⟩
  | 65 => ⟨S1x1x2816, .f32⟩
  | 66 => ⟨S4x4096x2816, .f32⟩
  | 67 => ⟨S4x4096x2816, .f32⟩
  | 68 => ⟨S1x2816, .f32⟩
  | 69 => ⟨S2816, .f32⟩
  | 70 => ⟨S4x4096x2816, .f32⟩
  | 71 => ⟨S1x1x2816, .f32⟩
  | 72 => ⟨S4x4096x2816, .f32⟩
  | 73 => ⟨S4x4096x2816, .f32⟩
  | 74 => ⟨S4x4096x2816, .f32⟩
  | 75 => ⟨S1x2816, .f32⟩
  | 76 => ⟨S2816, .f32⟩
  | 77 => ⟨S4x4096x2816, .f32⟩
  | 78 => ⟨S1x1x2816, .f32⟩
  | 79 => ⟨S4x4096x2816, .f32⟩
  | 80 => ⟨S4x4096x2816, .f32⟩
  | 81 => ⟨S4x4096x2816, .f32⟩
  | 82 => ⟨S1x1x2816, .f32⟩
  | 83 => ⟨S4x4096x2816, .f32⟩
  | 84 => ⟨S4x4096x2816, .f32⟩
  | 85 => ⟨S4x4096x2816, .f32⟩
  | 86 => ⟨S4x4096x2816, .f32⟩
  | 87 => ⟨S_, .f32⟩
  | 88 => ⟨S4x4096x2816, .f32⟩
  | 89 => ⟨S4x4096x2816, .f32⟩
  | 90 => ⟨S_, .f32⟩
  | 91 => ⟨S4x4096x2816, .f32⟩
  | 92 => ⟨S4x4096x2816, .f32⟩
  | 93 => ⟨S4x4096x2816, .f32⟩
  | 94 => ⟨S4x4096x2816, .f32⟩
  | 95 => ⟨S4x4096x1024, .f32⟩
  | 96 => ⟨S_, .f32⟩
  | 97 => ⟨S4x4096x1024, .f32⟩
  | 98 => ⟨S4x4096x1024, .f32⟩
  | 99 => ⟨S4x4096x1024, .f32⟩
  | 100 => ⟨S_, .f32⟩
  | 101 => ⟨S4x4096, .f32⟩
  | 102 => ⟨S4x4096x1, .f32⟩
  | 103 => ⟨S_, .f32⟩
  | 104 => ⟨S4x4096x1, .f32⟩
  | 105 => ⟨S4x4096x1, .f32⟩
  | 106 => ⟨S4x4096x1024, .f32⟩
  | 107 => ⟨S4x4096x1024, .f32⟩
  | 108 => ⟨S4x4096x1024, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x1024, .f32⟩
  | 116 => ⟨S4x4096x1024, .f32⟩
  | 117 => ⟨S_, .f32⟩
  | 118 => ⟨S4x4096x1, .f32⟩
  | 119 => ⟨S4x4096x1, .f32⟩
  | 120 => ⟨S4x4096x1, .f32⟩
  | 121 => ⟨S4x4096x1024, .f32⟩
  | 122 => ⟨S4x4096x1024, .f32⟩
  | 123 => ⟨S1x1x1024, .f32⟩
  | 124 => ⟨S4x4096x1024, .f32⟩
  | 125 => ⟨S4x4096x1024, .f32⟩
  | 126 => ⟨S1x1x1024, .f32⟩
  | 127 => ⟨S4x4096x1024, .f32⟩
  | _ => ⟨S16384x1024, .f32⟩

abbrev hbmTy0_1 (i : Nat) : BufTy := match i % 128 with
  | 0 => ⟨S4x4096x1024, .f32⟩
  | 1 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_6 : Ref sig .tc := ⟨.hbm, 100, rfl⟩
abbrev main_v71 : Ref sig .tc := ⟨.hbm, 101, rfl⟩
abbrev main_v72 : Ref sig .tc := ⟨.hbm, 102, rfl⟩
abbrev main_cst_7 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_v79 : Ref sig .tc := ⟨.hbm, 111, rfl⟩
abbrev main_cst_9 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_10 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Kernel4.lean ====
abbrev S16384x1024 : Shape := ⟨2, ![16384, 1024]⟩
abbrev S1024x4104 : Shape := ⟨2, ![1024, 4104]⟩
abbrev S8 : Shape := ⟨1, ![8]⟩
abbrev S4x2048 : Shape := ⟨2, ![4, 2048]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S2 : Shape := ⟨1, ![2]⟩
abbrev S8x2048 : Shape := ⟨2, ![8, 2048]⟩
abbrev S1024x16384 : Shape := ⟨2, ![1024, 16384]⟩
abbrev S8x16384 : Shape := ⟨2, ![8, 16384]⟩
abbrev S1024x1024 : Shape := ⟨2, ![1024, 1024]⟩
abbrev S8x1024 : Shape := ⟨2, ![8, 1024]⟩
abbrev S1024x512 : Shape := ⟨2, ![1024, 512]⟩
abbrev S8x512 : Shape := ⟨2, ![8, 512]⟩
abbrev S1016x512 : Shape := ⟨2, ![1016, 512]⟩
abbrev S1x512 : Shape := ⟨2, ![1, 512]⟩
abbrev S512x1024 : Shape := ⟨2, ![512, 1024]⟩
abbrev S128x1024 : Shape := ⟨2, ![128, 1024]⟩
abbrev S8x1 : Shape := ⟨2, ![8, 1]⟩

abbrev nBuf : Space → Nat
  | .hbm => 30
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x4104, .f32⟩
  | .hbm, ⟨2, _⟩ => ⟨S8, .f32⟩
  | .hbm, ⟨3, _⟩ => ⟨S4x2048, .f32⟩
  | .hbm, ⟨4, _⟩ => ⟨S_, .f32⟩
  | .hbm, ⟨5, _⟩ => ⟨S1024x128, .f32⟩
  | .hbm, ⟨6, _⟩ => ⟨S1024x8, .f32⟩
  | .hbm, ⟨7, _⟩ => ⟨S_, .i32⟩
  | .hbm, ⟨8, _⟩ => ⟨S1, .i32⟩
  | .hbm, ⟨9, _⟩ => ⟨S1024x128, .f32⟩
  | .hbm, ⟨10, _⟩ => ⟨S1024x128, .bf16⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S1024x4104, .bf16⟩
  | .hbm, ⟨20, _⟩ => ⟨S_, .f32⟩
  | .hbm, ⟨21, _⟩ => ⟨S8x2048, .f32⟩
  | .hbm, ⟨22, _⟩ => ⟨S_, .i32⟩
  | .hbm, ⟨23, _⟩ => ⟨S1, .i32⟩
  | .hbm, ⟨24, _⟩ => ⟨S8x2048, .f32⟩
  | .hbm, ⟨25, _⟩ => ⟨S16384x1024, .bf16⟩
  | .hbm, ⟨26, _⟩ => ⟨S1024x16384, .bf16⟩
  | .hbm, ⟨27, _⟩ => ⟨S16384x1024, .bf16⟩
  | .hbm, ⟨28, _⟩ => ⟨S16384x1024, .bf16⟩
  | .hbm, ⟨29, _⟩ => ⟨S8x16384, .f32⟩
  | .local _ .vmem, ⟨0, _⟩ => ⟨S1024x1024, .f32⟩
  | .local _ .vmem, ⟨1, _⟩ => ⟨S1024x1024, .f32⟩
  | .local _ .vmem, ⟨2, _⟩ => ⟨S1024x4104, .bf16⟩
  | .local _ .vmem, ⟨3, _⟩ => ⟨S1024x128, .bf16⟩
  | .local _ .vmem, ⟨4, _⟩ => ⟨S1x128, .f32⟩
  | .local _ .vmem, ⟨5, _⟩ => ⟨S8x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024, .f32⟩
  | .local _ .vmem, ⟨15, _⟩ => ⟨S8x1024, .f32⟩
  | .local _ .vmem, ⟨16, _⟩ => ⟨S8x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4104 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1024x4104 : Shape := ⟨2, ![1024, 4104]⟩
abbrev S8 : Shape := ⟨1, ![8]⟩
abbrev S4x2048 : Shape := ⟨2, ![4, 2048]⟩
abbrev S4x4096x1024 : Shape := ⟨3, ![4, 4096, 1024]⟩
abbrev S4x4096x4104 : Shape := ⟨3, ![4, 4096, 4104]⟩
abbrev S4x4096x2048 : Shape := ⟨3, ![4, 4096, 2048]⟩
abbrev S4x4096x8 : Shape := ⟨3, ![4, 4096, 8]⟩
abbrev S_ : Shape := ⟨0, ![]⟩
abbrev S4x4099x2048 : Shape := ⟨3, ![4, 4099, 2048]⟩
abbrev S1x2048 : Shape := ⟨2, ![1, 2048]⟩
abbrev S2048 : Shape := ⟨1, ![2048]⟩
abbrev S1x1x2048 : Shape := ⟨3, ![1, 1, 2048]⟩
abbrev S1x1x8 : Shape := ⟨3, ![1, 1, 8]⟩
abbrev S4x4096x4 : Shape := ⟨3, ![4, 4096, 4]⟩
abbrev S1024x16384 : Shape := ⟨2, ![1024, 16384]⟩
abbrev S16384x8 : Shape := ⟨2, ![16384, 8]⟩
abbrev S8x16384 : Shape := ⟨2, ![8, 16384]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4104, .f32⟩
  | .hbm, ⟨2, _⟩ => ⟨S8, .f32⟩
  | .hbm, ⟨3, _⟩ => ⟨S4x2048, .f32⟩
  | .hbm, ⟨4, _⟩ => ⟨S4x4096x1024, .f32⟩
  | .hbm, ⟨5, _⟩ => ⟨S4x4096x4104, .f32⟩
  | .hbm, ⟨6, _⟩ => ⟨S4x4096x2048, .f32⟩
  | .hbm, ⟨7, _⟩ => ⟨S4x4096x1024, .f32⟩
  | .hbm, ⟨8, _⟩ => ⟨S4x4096x1024, .f32⟩
  | .hbm, ⟨9, _⟩ => ⟨S4x4096x8, .f32⟩
  | .hbm, ⟨10, _⟩ => ⟨S_, .i32⟩
  | .hbm, ⟨11, _⟩ => ⟨S_, .f32⟩
  | .hbm, ⟨12, _⟩ => ⟨S4x4099x2048, .f32⟩
  | .hbm, ⟨13, _⟩ => ⟨S1x2048, .f32⟩
  | .hbm, ⟨14, _⟩ => ⟨S2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S1x2048, .f32⟩
  | .hbm, ⟨20, _⟩ => ⟨S2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S1x2048, .f32⟩
  | .hbm, ⟨27, _⟩ => ⟨S2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S1x2048, .f32⟩
  | .hbm, ⟨34, _⟩ => ⟨S2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x1024, .f32⟩
  | .hbm, ⟨50, _⟩ => ⟨S4x4096x1024, .f32⟩
  | .hbm, ⟨51, _⟩ => ⟨S1x1x8, .f32⟩
  | .hbm, ⟨52, _⟩ => ⟨S4x4096x8, .f32⟩
  | .hbm, ⟨53, _⟩ => ⟨S4x4096x8, .f32⟩
  | .hbm, ⟨54, _⟩ => ⟨S4x4096x4, .f32⟩
  | .hbm, ⟨55, _⟩ => ⟨S4x4096x4, .f32⟩
  | .hbm, ⟨56, _⟩ => ⟨S4x4096x4, .f32⟩
  | .hbm, ⟨57, _⟩ => ⟨S_, .f32⟩
  | .hbm, ⟨58, _⟩ => ⟨S4x4096x4, .f32⟩
  | .hbm, ⟨59, _⟩ => ⟨S4x4096x4, .f32⟩
  | .hbm, ⟨60, _⟩ => ⟨S4x4096x4, .f32⟩
  | .hbm, ⟨61, _⟩ => ⟨S4x4096x4, .f32⟩
  | .hbm, ⟨62, _⟩ => ⟨S4x4096x4, .i1⟩
  | .hbm, ⟨63, _⟩ => ⟨S4x4096x4, .f32⟩
  | .hbm, ⟨64, _⟩ => ⟨S4x4096x4, .f32⟩
  | .hbm, ⟨65, _⟩ => ⟨S4x4096x4, .f32⟩
  | .hbm, ⟨66, _⟩ => ⟨S4x4096x4, .f32⟩
  | .hbm, ⟨67, _⟩ => ⟨S4x4096x4, .f32⟩
  | .hbm, ⟨68, _⟩ => ⟨S4x4096x4, .f32⟩
  | .hbm, ⟨69, _⟩ => ⟨S4x4096x4, .f32⟩
  | .hbm, ⟨70, _⟩ => ⟨S4x4096x4, .f32⟩
  | .hbm, ⟨71, _⟩ => ⟨S4x4096x4, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S16384x1024, .f32⟩
  | .hbm, ⟨76, _⟩ => ⟨S1024x16384, .f32⟩
  | .hbm, ⟨77, _⟩ => ⟨S4x4096x8, .f32⟩
  | .hbm, ⟨78, _⟩ => ⟨S16384x8, .f32⟩
  | .hbm, ⟨79, _⟩ => ⟨S8x16384, .f32⟩
  | .hbm, ⟨80, _⟩ => ⟨S16384x1024, .f32⟩
  | .hbm, ⟨81, _⟩ => ⟨S16384x1024, .bf16⟩
  | .hbm, ⟨82, _⟩ => ⟨S1024x16384, .bf16⟩
  | .hbm, ⟨83, _⟩ => ⟨S16384x1024, .f32⟩
  | .hbm, ⟨84, _⟩ => ⟨S16384x1024, .bf16⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096x1024, .f32⟩
  | .hbm, ⟨89, _⟩ => ⟨S4x4096x1024, .f32⟩
  | .hbm, ⟨90, _⟩ => ⟨S_, .f32⟩
  | .hbm, ⟨91, _⟩ => ⟨S4x4096x1024, .f32⟩
  | .hbm, ⟨92, _⟩ => ⟨S4x4096x1024, .f32⟩
  | .hbm, ⟨93, _⟩ => ⟨S16384x1024, .f32⟩
  | .hbm, ⟨94, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_call0_cst : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7 : Ref sig .tc := ⟨.hbm, 65, rfl⟩
abbrev main_call2_call0_v8 : Ref sig .tc := ⟨.hbm, 66, rfl⟩
abbrev main_call2_call0_v9 : Ref sig .tc := ⟨.hbm, 67, rfl⟩
abbrev main_call2_call0_v10 : Ref sig .tc := ⟨.hbm, 68, rfl⟩
abbrev main_call2_call0_v11 : Ref sig .tc := ⟨.hbm, 69, rfl⟩
abbrev main_call2_v1 : Ref sig .tc := ⟨.hbm, 70, rfl⟩
abbrev main_v42 : Ref sig .tc := ⟨.hbm, 71, rfl⟩
abbrev main_cst : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_0 : Ref sig .tc := ⟨.hbm, 87, rfl⟩
abbrev main_v57 : Ref sig .tc := ⟨.hbm, 88, rfl⟩
abbrev main_v58 : Ref sig .tc := ⟨.hbm, 89, rfl⟩
abbrev main_cst_1 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Proof.RetSpec.lean ====
module
public import Idealize.ShloMosaic.Lib.Pipeline.ValueKit
public import Idealize.ShloMosaic.Lib.Pointwise
public import Idealize.ShloMosaic.Lib.IdealHost
@[expose] public section
noncomputable section
/-! Retention of one head over the extended reals, written on functions of position and feature. -/
namespace Cert.Ret
open Idealize.ShloMosaic
open scoped BigOperators

/-- A number as the reading of a 32-bit word. -/
def num (n : ℕ) : EReal := FloatOps.sitofp (F := Ideal) .f32 (BitVec.ofNat 32 n)

/-- The logarithm of head `h`'s decay rate. -/
def lg (h : ℕ) : EReal :=
  Ideal.log1p (-(Ideal.exp (Ideal.ofBits .f32 0x3F317218#32 * (Ideal.ofBits .f32 0xC0A00000#32 - num h))))

/-- The scale of the keys. -/
def sc : EReal := Ideal.ofBits .f32 0x3DB504F3#32

/-- The decay from position `j` to position `i` of a chunk. -/
def dcy (h i j : ℕ) : EReal := if j ≤ i then Ideal.exp (lg h * max (num i - num j) 0) else 0

/-- The decay of a key at position `j` to the end of its chunk. -/
def kwt (h j : ℕ) : EReal := Ideal.exp (lg h * (Ideal.ofBits .f32 0x42FE0000#32 - num j))

/-- The decay of the state before a chunk to position `i` of it. -/
def qwt (h i : ℕ) : EReal := Ideal.exp (lg h * (num i + 1))

/-- The decay over a whole chunk. -/
def cdt (h : ℕ) : EReal := Ideal.exp (lg h * Ideal.ofBits .f32 0x43000000#32)

/-- Position `j` of chunk `n`. -/
def pos (n : ℕ) (j : Fin 128) : Fin 4096 := ⟨128 * (n % 32) + j, by omega⟩

/-- The state before chunk `n`. -/
def St (h : ℕ) (k v : Fin 4096 → Fin 128 → EReal) : ℕ → Fin 128 → Fin 128 → EReal
  | 0 => fun _ _ => 0
  | n + 1 => fun d e => cdt h * St h k v n d e + ∑ j : Fin 128, k (pos n j) d * sc * kwt h j * v (pos n j) e

/-- Chunk `n`'s result before the norm: what its own positions and what the state before it give. -/
def Yc (h : ℕ) (q k v : Fin 4096 → Fin 128 → EReal) (n : ℕ) (i e : Fin 128) : EReal :=
  (∑ j : Fin 128, (∑ d : Fin 128, q (pos n i) d * (k (pos n j) d * sc)) * dcy h i j * v (pos n j) e)
    + ∑ d : Fin 128, q (pos n i) d * qwt h i * St h k v n d e

/-- The mean over a head's features. -/
def mean (y : Fin 128 → EReal) : EReal := Ideal.div (∑ e : Fin 128, y e) (Ideal.ofBits .f32 0x43000000#32)

/-- A head's features, centred and divided by their standard deviation. -/
def hnorm (y : Fin 128 → EReal) (e : Fin 128) : EReal :=
  (y e - mean y) * Ideal.rsqrt (mean (fun e => (y e - mean y) * (y e - mean y)) + Ideal.ofBits .f32 0x3727C5AC#32)

/-- Retention of one head with its norm and gate. -/
def ret (h : ℕ) (q k v g : Fin 4096 → Fin 128 → EReal) (n : ℕ) (i e : Fin 128) : EReal :=
  hnorm (Yc h q k v n i) e * g (pos n i) e

/-- The number of a position as a float is the position. -/
theorem num_eq (n : ℕ) (h : n < 128) : num n = ((n : ℝ) : EReal) := by
  have : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [this]; push_cast; rfl

/-- A difference of two positions is not negative exactly where the second is not later. -/
theorem num_le (i j : ℕ) (hi : i < 128) (hj : j < 128) : 0 ≤ num i - num j ↔ j ≤ i := by
  rw [num_eq i hi, num_eq j hj, ← EReal.coe_sub]
  have : ((0 : EReal) ≤ (((i : ℝ) - (j : ℝ) : ℝ) : EReal)) ↔ (0 : ℝ) ≤ (i : ℝ) - j := by exact_mod_cast Iff.rfl
  rw [this, sub_nonneg]; exact Nat.cast_le

/-- The scale is a real number that is not negative. -/
theorem sc_spec : 0 ≤ sc ∧ sc ≠ ⊤ := by
  have h : ∃ r : ℝ, 0 ≤ r ∧ sc = (r : EReal) := by
    refine ⟨(11863283 : ℝ) / 134217728, by norm_num, ?_⟩
    simp [sc, Ideal.ofBits, Ideal.ieee]
    rw [← EReal.coe_mul]; norm_num
  obtain ⟨r, h0, h⟩ := h
  rw [h]
  exact ⟨by exact_mod_cast h0, EReal.coe_ne_top r⟩

/-- A sum times a real number that is not negative. -/
theorem sum_mul_nonneg {ι : Type} (s : Finset ι) (f : ι → EReal) (a : EReal) (h : 0 ≤ a) (h' : a ≠ ⊤) :
    (∑ i ∈ s, f i) * a = ∑ i ∈ s, f i * a := by
  classical
  induction s using Finset.induction_on with
  | empty => simp
  | insert x s hx ih =>
    rw [Finset.sum_insert hx, Finset.sum_insert hx, EReal.right_distrib_of_nonneg_of_ne_top h h', ih]

/-- The scores with the scale folded into the decay. -/
theorem scores_scale (q k : Fin 128 → EReal) (D : EReal) :
    (∑ d : Fin 128, q d * k d) * (D * sc) = (∑ d : Fin 128, q d * (k d * sc)) * D := by
  rw [mul_comm D sc, ← mul_assoc, sum_mul_nonneg _ _ _ sc_spec.1 sc_spec.2]
  simp only [mul_assoc]
end Cert.Ret
-- ==== Proof.Pieces.lean ====
module
public import proofs.«01_k».proof.Proof.Gen.KernelIdeal.Frame.RunA
@[expose] public section
set_option maxRecDepth 65536
noncomputable section
namespace Cert.Ret
open Idealize.ShloMosaic Idealize.ShloMosaic.TcCoe Idealize.ShloMosaic.Tactic
open Cert.KernelIdeal Cert.KernelIdeal.Gen
variable {F : FTy → Type} [FloatOps F]

/-- The rows of a chunk lie in the block. -/
theorem inRows (n : ℕ) : ∀ a, ![0, 128 * (n % 32), 0] a + S1x128x128.size a ≤ S1x4096x128.size a := by
  intro a
  match a with
  | ⟨0, _⟩ => exact Nat.le_of_eq rfl
  | ⟨1, _⟩ => show 128 * (n % 32) + 128 ≤ 4096; omega
  | ⟨2, _⟩ => exact Nat.le_of_eq rfl

/-- The columns of a chunk lie in the block of keys. -/
theorem inCols (n : ℕ) : ∀ a, ![0, 128 * (n % 32)] a + S128x128.size a ≤ S128x4096.size a := by
  intro a
  match a with
  | ⟨0, _⟩ => exact Nat.le_of_eq rfl
  | ⟨1, _⟩ => show 128 * (n % 32) + 128 ≤ 4096; omega

/-- Chunk `n`'s rows of a block of 4096 positions. -/
def rows (n : ℕ) : Rect S1x4096x128 := Rect.unit ![0, 128 * (n % 32), 0] S1x128x128.size (inRows n)
/-- Chunk `n`'s columns of a block of 4096 positions. -/
def cols (n : ℕ) : Rect S128x4096 := Rect.unit ![0, 128 * (n % 32)] S128x128.size (inCols n)
/-- The whole state. -/
def full : Rect S128x128 := Rect.unit ![0, 0] S128x128.size inb_S128x128_S128x128_0_0

section
variable (q k v g : Vec F S1x128x128 .bf16)

/-- The decayed scores of a chunk. -/
def scoresV (q : Vec F S1x128x128 .bf16) (k : Vec F S128x128 .bf16) (dec : Vec F S1x128x128 .f32) : FVec F S128x128 .f32 :=
  mulf (matmul dot_S128x128_S128x128_S128x128_1_0_0_1_n_n none (shapeCast S128x128 q shapeCasts_S1x128x128_S128x128) k
    (constant S128x128 .f32 0x00000000#32)) (shapeCast S128x128 dec shapeCasts_S1x128x128_S128x128)

/-- What a chunk gives to its own rows. -/
def intraV (q : Vec F S1x128x128 .bf16) (k : Vec F S128x128 .bf16) (v : Vec F S1x128x128 .bf16) (dec : Vec F S1x128x128 .f32) :
    FVec F S128x128 .f32 :=
  matmul dot_S128x128_S128x128_S128x128_1_0_0_1_n_n none (truncf .bf16 (scoresV q k dec) bitsLt_bf16_f32)
    (shapeCast S128x128 v shapeCasts_S1x128x128_S128x128) (constant S128x128 .f32 0x00000000#32)

/-- What a chunk adds to the state. -/
def kvV (k : Vec F S128x128 .bf16) (v : Vec F S1x128x128 .bf16) (kw : Vec F S1x128x128 .f32) : FVec F S128x128 .f32 :=
  matmul dot_S128x128_S128x128_S128x128_1_0_0_1_n_n none k
    (truncf .bf16 (mulf (extf .f32 (shapeCast S128x128 v shapeCasts_S1x128x128_S128x128) bitsLt_bf16_f32)
      (shapeCast S128x128 kw shapeCasts_S1x128x128_S128x128)) bitsLt_bf16_f32) (constant S128x128 .f32 0x00000000#32)

/-- What the state before a chunk gives to its rows. -/
def interV (q : Vec F S1x128x128 .bf16) (qw : Vec F S1x128x128 .f32) (r : FVec F S128x128 .f32) : FVec F S128x128 .f32 :=
  matmul dot_S128x128_S128x128_S128x128_1_0_0_1_n_n none
    (truncf .bf16 (mulf (extf .f32 (shapeCast S128x128 q shapeCasts_S1x128x128_S128x128) bitsLt_bf16_f32)
      (shapeCast S128x128 qw shapeCasts_S1x128x128_S128x128)) bitsLt_bf16_f32)
    (truncf .bf16 r bitsLt_bf16_f32) (constant S128x128 .f32 0x00000000#32)

/-- The state after a chunk, of the state before it and the chunk's addend. -/
def nextV (cd : Vec F S1x1x128 .f32) (r kv : FVec F S128x128 .f32) : FVec F S128x128 .f32 :=
  shapeCast S128x128 (addf (mulf (broadcastTo S128x128 (shapeCast S1x128 cd shapeCasts_S1x1x128_S1x128) broadcasts_S1x128_S128x128) r) kv)
    shapeCasts_S128x128_S128x128

/-- The mean of each row. -/
def meanV (y : FVec F S128x128 .f32) : FVec F S128x1 .f32 :=
  divf (shapeCast S128x1 (multiReduction .add [1] S128 y 0x00000000#32 reduces_S128x128_S128 (.inl rfl) rfl) shapeCasts_S128_S128x1)
    (broadcast S128x1 (Scalar.ofBits .f32 0x43000000#32))

/-- Each row less its mean. -/
def centreV (y : FVec F S128x128 .f32) : FVec F S128x128 .f32 :=
  subf y (broadcastTo S128x128 (meanV y) broadcasts_S128x1_S128x128)

/-- Each row normed. -/
def normV (y : FVec F S128x128 .f32) : FVec F S128x128 .f32 :=
  mulf (centreV y) (broadcastTo S128x128 (rsqrt (addf (meanV (mulf (centreV y) (centreV y)))
    (broadcast S128x1 (Scalar.ofBits .f32 0x3727C5AC#32)))) broadcasts_S128x1_S128x128)

/-- The normed rows times the gate. -/
def gatedV (y : FVec F S128x128 .f32) (g : Vec F S1x128x128 .bf16) : FVec F S1x128x128 .bf16 :=
  shapeCast S1x128x128 (truncf .bf16 (mulf (normV y)
    (extf .f32 (shapeCast S128x128 g shapeCasts_S1x128x128_S128x128) bitsLt_bf16_f32)) bitsLt_bf16_f32) shapeCasts_S128x128_S1x128x128
end

section
variable (arg3 : Memref sig .tc .vmem S1x4096x128 .bf16) (harg3 : arg3.IsWhole) (arg4 : Memref sig .tc .vmem S128x4096 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x1x128 .f32) (harg10 : arg10.IsWhole) (arg12 : Memref sig .tc .vmem S128x128 .f32)
    (x0 : Vec F S1x4096x128 .bf16) (x1 : Vec F S128x4096 .bf16) (x2 : Vec F S1x4096x128 .bf16) (x3 : Vec F S1x4096x128 .bf16) (x4 : Vec F S1x128x128 .f32) (x5 : Vec F S1x128x128 .f32) (x6 : Vec F S1x128x128 .f32) (x7 : Vec F S1x1x128 .f32)

/-- The state's stores up to chunk `n`, the last first. -/
def stateL : ℕ → List (View.Piece (Elt F) S128x128 .f32)
  | 0 => [⟨full, shapeCast S128x128 (broadcast S128x128 (Scalar.ofBits .f32 0x00000000#32)) shapeCasts_S128x128_S128x128⟩]
  | n + 1 => ⟨full, nextV (View.readAt (Elt F) arg10.view (Rect.unit ![0, 0, 0] S1x1x128.size inb_S1x1x128_S1x1x128_0_0_0).toLoadRect (harg10.unread x7))
      (arg12.view.readCov (stateL n) full.toLoadRect)
      (kvV (View.readAt (Elt F) arg4.view (cols n).toLoadRect (harg4.unread x1))
        (View.readAt (Elt F) arg5.view (rows n).toLoadRect (harg5.unread x2))
        (View.readAt (Elt F) arg8.view (Rect.unit ![0, 0, 0] S1x128x128.size inb_S1x128x128_S1x128x128_0_0_0).toLoadRect (harg8.unread x5)))⟩ :: stateL n

/-- The result's stores up to chunk `n`, the last first. -/
def outL : ℕ → List (View.Piece (Elt F) S1x4096x128 .bf16)
  | 0 => []
  | n + 1 => ⟨rows n, gatedV (addf
        (intraV (View.readAt (Elt F) arg3.view (rows n).toLoadRect (harg3.unread x0))
          (View.readAt (Elt F) arg4.view (cols n).toLoadRect (harg4.unread x1))
          (View.readAt (Elt F) arg5.view (rows n).toLoadRect (harg5.unread x2))
          (View.readAt (Elt F) arg7.view (Rect.unit ![0, 0, 0] S1x128x128.size inb_S1x128x128_S1x128x128_0_0_0).toLoadRect (harg7.unread x4)))
        (interV (View.readAt (Elt F) arg3.view (rows n).toLoadRect (harg3.unread x0))
          (View.readAt (Elt F) arg9.view (Rect.unit ![0, 0, 0] S1x128x128.size inb_S1x128x128_S1x128x128_0_0_0).toLoadRect (harg9.unread x6))
          (arg12.view.readCov (stateL arg4 harg4 arg5 harg5 arg8 harg8 arg10 harg10 arg12 x1 x2 x5 x7 n) full.toLoadRect)))
        (View.readAt (Elt F) arg6.view (rows n).toLoadRect (harg6.unread x3))⟩ :: outL n
end

/-- The stores of one grid point are the chunks of the result. -/
theorem run_eq (c : Dev nD) (i : grid0.Coords) (arg3 : Memref sig .tc .vmem S1x4096x128 .bf16) (harg3 : arg3.IsWhole) (arg4 : Memref sig .tc .vmem S128x4096 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S1x4096x128 .bf16) (harg11 : arg11.IsWhole) (arg12 : Memref sig .tc .vmem S128x128 .f32) (harg12 : arg12.IsWhole) (hc0 : cond0_0 i)
    (x0 : Vec F S1x4096x128 .bf16) (x1 : Vec F S128x4096 .bf16) (x2 : Vec F S1x4096x128 .bf16) (x3 : Vec F S1x4096x128 .bf16) (x4 : Vec F S1x128x128 .f32) (x5 : Vec F S1x128x128 .f32) (x6 : Vec F S1x128x128 .f32) (x7 : Vec F S1x1x128 .f32) :
    (kernelRun0_A c i arg3 harg3 arg4 harg4 arg5 harg5 arg6 harg6 arg7 harg7 arg8 harg8 arg9 harg9 arg10 harg10 arg11 harg11 arg12 harg12 hc0 x0 x1 x2 x3 x4 x5 x6 x7).1
      = outL arg3 harg3 arg4 harg4 arg5 harg5 arg6 harg6 arg7 harg7 arg8 harg8 arg9 harg9 arg10 harg10 arg12 x0 x1 x2 x3 x4 x5 x6 x7 32 := by
  sl_kernel_rfl
end Cert.Ret
-- ==== Proof.RetBlock.lean ====
module
public import proofs.«01_k».proof.Proof.Pieces
public import proofs.«01_k».proof.Proof.Gen.KernelIdeal.Frame
public import Idealize.ShloMosaic.Lib.Pipeline.ValueKit
public import Idealize.ShloMosaic.Lib.Pointwise
@[expose] public section
set_option maxRecDepth 65536
noncomputable section
namespace Cert.Ret
open Idealize.ShloMosaic Idealize.ShloMosaic.TcCoe Idealize.ShloMosaic.Tactic
open Cert.KernelIdeal Cert.KernelIdeal.Gen
open scoped BigOperators
variable {F : FTy → Type} [FloatOps F]

/-- Chunk `n`'s rows of a block. -/
def ldR {e : EltTy} (x : Vec F S1x4096x128 e) (n : ℕ) : Vec F S1x128x128 e := View.ld x (rows n)
/-- Chunk `n`'s columns of a block. -/
def ldC {e : EltTy} (x : Vec F S128x4096 e) (n : ℕ) : Vec F S128x128 e := View.ld x (cols n)

/-- The state after `n` chunks, of a block's keys and values and the two tables it uses. -/
def stateV (x1 : Vec F S128x4096 .bf16) (x2 : Vec F S1x4096x128 .bf16) (x5 : Vec F S1x128x128 .f32) (x7 : Vec F S1x1x128 .f32) :
    ℕ → FVec F S128x128 .f32
  | 0 => shapeCast S128x128 (broadcast S128x128 (Scalar.ofBits .f32 0x00000000#32)) shapeCasts_S128x128_S128x128
  | n + 1 => nextV x7 (stateV x1 x2 x5 x7 n) (kvV (ldC x1 n) (ldR x2 n) x5)

/-- Chunk `n`'s result before the gate. -/
def chunkV (x0 : Vec F S1x4096x128 .bf16) (x1 : Vec F S128x4096 .bf16) (x2 : Vec F S1x4096x128 .bf16)
    (x4 x5 x6 : Vec F S1x128x128 .f32) (x7 : Vec F S1x1x128 .f32) (n : ℕ) : FVec F S128x128 .f32 :=
  addf (intraV (ldR x0 n) (ldC x1 n) (ldR x2 n) x4)
    (interV (ldR x0 n) x6 (stateV x1 x2 x5 x7 n))

section
variable (arg3 : Memref sig .tc .vmem S1x4096x128 .bf16) (harg3 : arg3.IsWhole) (arg4 : Memref sig .tc .vmem S128x4096 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x1x128 .f32) (harg10 : arg10.IsWhole) (arg12 : Memref sig .tc .vmem S128x128 .f32)
    (x0 : Vec F S1x4096x128 .bf16) (x1 : Vec F S128x4096 .bf16) (x2 : Vec F S1x4096x128 .bf16) (x3 : Vec F S1x4096x128 .bf16) (x4 : Vec F S1x128x128 .f32) (x5 : Vec F S1x128x128 .f32) (x6 : Vec F S1x128x128 .f32) (x7 : Vec F S1x1x128 .f32)

/-- Three zero offsets are the zero function. -/
theorem zero3 : (![0, 0, 0] : Fin 3 → ℕ) = fun _ => 0 := by funext a; match a with | ⟨0, _⟩ => rfl | ⟨1, _⟩ => rfl | ⟨2, _⟩ => rfl
/-- Two zero offsets are the zero function. -/
theorem zero2 : (![0, 0] : Fin 2 → ℕ) = fun _ => 0 := by funext a; match a with | ⟨0, _⟩ => rfl | ⟨1, _⟩ => rfl

/-- The state read back after `n` chunks is the state. -/
theorem readCov_state (n : ℕ) :
    arg12.view.readCov (stateL arg4 harg4 arg5 harg5 arg8 harg8 arg10 harg10 arg12 x1 x2 x5 x7 n) full.toLoadRect
      = stateV x1 x2 x5 x7 n := by
  induction n with
  | zero => exact View.readCov_unit_zero _ zero2 _ _
  | succ n ih =>
    rw [stateL, stateV, ih, View.readCov_eq_canon_ld _ _ _ (fun y => ⟨_, List.mem_cons_self, View.mem_set_unit_zero zero2 inb_S128x128_S128x128_0_0 y⟩)]
    unfold full
    rw [View.canon_cons_unit_zero zero2, View.ld_unit_zero zero2]
    simp only [View.readAt_eq_ld, Memref.IsWhole.read_unread]
    rw [View.ld_unit_zero zero3, View.ld_unit_zero zero3]
    rfl

/-- The result block as one function of the position. -/
def outG (i : S1x4096x128.Idx) : Elt F .bf16 :=
  gatedV (chunkV x0 x1 x2 x4 x5 x6 x7 ((i 1 : ℕ) / 128)) (ldR x3 ((i 1 : ℕ) / 128))
    (ix3 0 ⟨(i 1 : ℕ) % 128, Nat.mod_lt _ (by norm_num)⟩ (i 2))

/-- Each piece of the first `N` chunks is a chunk of the result. -/
theorem outL_pieces (N : ℕ) (hN : N ≤ 32) :
    ∀ p ∈ outL arg3 harg3 arg4 harg4 arg5 harg5 arg6 harg6 arg7 harg7 arg8 harg8 arg9 harg9 arg10 harg10 arg12 x0 x1 x2 x3 x4 x5 x6 x7 N,
      ∀ x : p.1.shape.Idx, p.2 x = outG x0 x1 x2 x3 x4 x5 x6 x7 (p.1.emb x) := by
  induction N with
  | zero => intro p hp; simp [outL] at hp
  | succ n ih =>
    intro p hp
    rw [outL] at hp
    rcases List.mem_cons.mp hp with rfl | hp
    · intro x
      have h1 : (((rows n).emb x) 1 : ℕ) = 128 * n + (x 1 : ℕ) := by
        have : n % 32 = n := Nat.mod_eq_of_lt (by omega)
        show 128 * (n % 32) + 1 * (x 1 : ℕ) = _
        omega
      have h2 : (((rows n).emb x) 2 : ℕ) = (x 2 : ℕ) := by
        show 0 + 1 * (x 2 : ℕ) = _
        omega
      have hx1 : (x 1 : ℕ) < 128 := (x 1).isLt
      have hd : (((rows n).emb x) 1 : ℕ) / 128 = n := by omega
      dsimp only
      unfold outG
      rw [hd, readCov_state]
      simp only [View.readAt_eq_ld, Memref.IsWhole.read_unread]
      rw [View.ld_unit_zero zero3, View.ld_unit_zero zero3]
      unfold chunkV ldR ldC
      congr 1
      funext a
      apply Fin.ext
      match a with
      | ⟨0, _⟩ => have : (x 0 : ℕ) < 1 := (x 0).isLt
                  show (x 0 : ℕ) = 0; omega
      | ⟨1, _⟩ => show (x 1 : ℕ) = (((rows n).emb x) 1 : ℕ) % 128; omega
      | ⟨2, _⟩ => exact h2.symm
    · exact ih (by omega) p hp

/-- The first `N` chunks cover the rows before `128 * N`. -/
theorem outL_cover (N : ℕ) (hN : N ≤ 32) (y : S1x4096x128.Idx) (hy : (y 1 : ℕ) < 128 * N) :
    ∃ p ∈ outL arg3 harg3 arg4 harg4 arg5 harg5 arg6 harg6 arg7 harg7 arg8 harg8 arg9 harg9 arg10 harg10 arg12 x0 x1 x2 x3 x4 x5 x6 x7 N,
      y ∈ p.1.set := by
  induction N with
  | zero => omega
  | succ n ih =>
    rw [outL]
    by_cases h : (y 1 : ℕ) < 128 * n
    · obtain ⟨p, hp, h⟩ := ih (by omega) h
      exact ⟨p, List.mem_cons_of_mem _ hp, h⟩
    · refine ⟨_, List.mem_cons_self, ?_⟩
      show y ∈ (rows n).set
      rw [rows, Rect.mem_set_unit]
      intro a
      have : n % 32 = n := Nat.mod_eq_of_lt (by omega)
      match a with
      | ⟨0, _⟩ => exact ⟨Nat.zero_le _, by have : (y 0 : ℕ) < 1 := (y 0).isLt
                                           show (y 0 : ℕ) < 0 + 1; omega⟩
      | ⟨1, _⟩ => exact ⟨by show 128 * (n % 32) ≤ (y 1 : ℕ); omega, by show (y 1 : ℕ) < 128 * (n % 32) + 128; omega⟩
      | ⟨2, _⟩ => exact ⟨Nat.zero_le _, by have : (y 2 : ℕ) < 128 := (y 2).isLt
                                           show (y 2 : ℕ) < 0 + 128; omega⟩
end

/-- What one grid point leaves in its result block. -/
theorem out_eq (c : Dev nD) (i : grid0.Coords) (arg3 : Memref sig .tc .vmem S1x4096x128 .bf16) (harg3 : arg3.IsWhole) (arg4 : Memref sig .tc .vmem S128x4096 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S1x4096x128 .bf16) (harg11 : arg11.IsWhole) (arg12 : Memref sig .tc .vmem S128x128 .f32) (harg12 : arg12.IsWhole) (hc0 : cond0_0 i)
    (x0 : Vec F S1x4096x128 .bf16) (x1 : Vec F S128x4096 .bf16) (x2 : Vec F S1x4096x128 .bf16) (x3 : Vec F S1x4096x128 .bf16) (x4 : Vec F S1x128x128 .f32) (x5 : Vec F S1x128x128 .f32) (x6 : Vec F S1x128x128 .f32) (x7 : Vec F S1x1x128 .f32) :
    out0_A_8 c i arg3 harg3 arg4 harg4 arg5 harg5 arg6 harg6 arg7 harg7 arg8 harg8 arg9 harg9 arg10 harg10 arg11 harg11 arg12 harg12 hc0 x0 x1 x2 x3 x4 x5 x6 x7
      = outG x0 x1 x2 x3 x4 x5 x6 x7 := by
  unfold out0_A_8
  rw [View.read_writes_junk_eq_canon, run_eq]
  funext y
  exact View.canon_apply_of_pieces _ _ (outL_pieces arg3 harg3 arg4 harg4 arg5 harg5 arg6 harg6 arg7 harg7 arg8 harg8 arg9 harg9 arg10 harg10 arg12 x0 x1 x2 x3 x4 x5 x6 x7 32 le_rfl) y
    (outL_cover arg3 harg3 arg4 harg4 arg5 harg5 arg6 harg6 arg7 harg7 arg8 harg8 arg9 harg9 arg10 harg10 arg12 x0 x1 x2 x3 x4 x5 x6 x7 32 le_rfl y (y 1).isLt)
end Cert.Ret
-- ==== Proof.RetTables.lean ====
module
public import proofs.«01_k».proof.Proof.RetSpec
public import proofs.«01_k».proof.Proof.RetBlock
public import Idealize.ShloMosaic.Lib.Claim
public import Idealize.ShloMosaic.Lib.StableHlo.ReadAt
@[expose] public section
set_option maxRecDepth 65536
noncomputable section
/-! The kernel's tables and its blocks, read at an index. -/
namespace Cert.Ret
open Idealize.ShloMosaic Idealize.ShloMosaic.TcCoe Idealize.ShloMosaic.Tactic
open Cert.KernelIdeal Cert.KernelIdeal.Gen
open scoped BigOperators
open Idealize.SL.Sem
variable (m : (ℓ : Loc nD τ sig) → Buf (Elt Ideal) ℓ) (c : Dev nD)

/-- The decay table holds the decay times the scale. -/
theorem dec_apply (h : Fin 4) (i j : Fin 128) : @Eq EReal (V m c main_v26 (ix3 h i j)) (dcy h i j * sc) := by
  unfold V
  after_reads_at
  have e := num_le i j i.isLt j.isLt
  simp only [num] at e
  simp only [e, dcy, sc, lg, num]
  congr 1
  split
  · rfl
  · exact Ideal.ofBits_zero_f32
/-- The keys' table holds the decay to the end of the chunk times the scale. -/
theorem kw_apply (h : Fin 4) (i j : Fin 128) : @Eq EReal (V m c main_v46 (ix3 h i j)) (kwt h i * sc) := by
  unfold V
  after_reads_at
  rfl
/-- The queries' table holds the decay from before the chunk. -/
theorem qw_apply (h : Fin 4) (i j : Fin 128) : @Eq EReal (V m c main_v48 (ix3 h i j)) (qwt h i) := by
  unfold V
  after_reads_at
  rfl
/-- The chunk's decay. -/
theorem cd_apply (h : Fin 4) (j : Fin 128) : @Eq EReal (V m c main_v53 (ix3 h 0 j)) (cdt h) := by
  unfold V
  after_reads_at
  rfl

/-- The batch entry of a grid point. -/
def bat (t : Fin grid0.N) : Fin 4 := ⟨(t : ℕ) / 4, by have : (t : ℕ) < 16 := t.isLt; omega⟩
/-- The head of a grid point. -/
def hd (t : Fin grid0.N) : Fin 4 := ⟨(t : ℕ) % 4, by omega⟩

/-- Which block a grid point has of window 0. -/
theorem idx_q : ∀ t : Fin grid0.N, win0_0.index t = ![(t : ℕ) / 4, 0, (t : ℕ) % 4] := by decide +kernel
/-- Which block a grid point has of window 1. -/
theorem idx_k : ∀ t : Fin grid0.N, win0_1.index t = ![(t : ℕ) % 4, (t : ℕ) / 4] := by decide +kernel
/-- Which block a grid point has of window 2. -/
theorem idx_v : ∀ t : Fin grid0.N, win0_2.index t = ![(t : ℕ) / 4, 0, (t : ℕ) % 4] := by decide +kernel
/-- Which block a grid point has of window 3. -/
theorem idx_g : ∀ t : Fin grid0.N, win0_3.index t = ![(t : ℕ) / 4, 0, (t : ℕ) % 4] := by decide +kernel
/-- Which block a grid point has of window 8. -/
theorem idx_o : ∀ t : Fin grid0.N, win0_8.index t = ![(t : ℕ) / 4, 0, (t : ℕ) % 4] := by decide +kernel
/-- Which block a grid point has of window 4. -/
theorem idx_4 : ∀ t : Fin grid0.N, win0_4.index t = ![(t : ℕ) % 4, 0, 0] := by decide +kernel
/-- Which block a grid point has of window 5. -/
theorem idx_5 : ∀ t : Fin grid0.N, win0_5.index t = ![(t : ℕ) % 4, 0, 0] := by decide +kernel
/-- Which block a grid point has of window 6. -/
theorem idx_6 : ∀ t : Fin grid0.N, win0_6.index t = ![(t : ℕ) % 4, 0, 0] := by decide +kernel
/-- Which block a grid point has of window 7. -/
theorem idx_7 : ∀ t : Fin grid0.N, win0_7.index t = ![(t : ℕ) % 4, 0, 0] := by decide +kernel

/-- A feature of a head. -/
def feat (h : Fin 4) (d : Fin 128) : Fin 512 := ⟨128 * h + d, by omega⟩
/-- A position of a batch entry in the keys' layout. -/
def kpos (b : Fin 4) (t : Fin 4096) : Fin 16384 := ⟨4096 * b + t, by omega⟩

/-- The block of an array laid out batch, position, feature. -/
def rowsOf (x : S4x4096x512.Idx → EReal) (b h : Fin 4) (p : Fin 4096) (d : Fin 128) : EReal := x (ix3 b p (feat h d))
/-- The block of the keys, laid out feature, position. -/
def keysOf (x : S512x16384.Idx → EReal) (b h : Fin 4) (p : Fin 4096) (d : Fin 128) : EReal := x (ix2 (feat h d) (kpos b p))

/-- The block of queries. -/
theorem blk_q (t : Fin cfg0.N) (p : Fin 4096) (d : Fin 128) :
    @Eq EReal (iblk m c 0 t (ix3 0 p d)) (rowsOf (m ((c : Thread nD τ).loc main_arg0)) (bat t) (hd t) p d) := by
  unfold rowsOf feat bat hd
  blk_ext [iblk, V, idx_q t]
/-- The block of keys. -/
theorem blk_k (t : Fin cfg0.N) (p : Fin 4096) (d : Fin 128) :
    @Eq EReal (iblk m c 1 t (ix2 d p)) (keysOf (m ((c : Thread nD τ).loc main_arg1)) (bat t) (hd t) p d) := by
  unfold keysOf feat kpos bat hd
  blk_ext [iblk, V, idx_k t]
/-- The block of values. -/
theorem blk_v (t : Fin cfg0.N) (p : Fin 4096) (d : Fin 128) :
    @Eq EReal (iblk m c 2 t (ix3 0 p d)) (rowsOf (m ((c : Thread nD τ).loc main_arg2)) (bat t) (hd t) p d) := by
  unfold rowsOf feat bat hd
  blk_ext [iblk, V, idx_v t]
/-- The block of gates. -/
theorem blk_g (t : Fin cfg0.N) (p : Fin 4096) (d : Fin 128) :
    @Eq EReal (iblk m c 3 t (ix3 0 p d)) (rowsOf (m ((c : Thread nD τ).loc main_arg3)) (bat t) (hd t) p d) := by
  unfold rowsOf feat bat hd
  blk_ext [iblk, V, idx_g t]
/-- The block of the decay table. -/
theorem blk_dec (t : Fin cfg0.N) (i j : Fin 128) : @Eq EReal (iblk m c 4 t (ix3 0 i j)) (dcy (hd t) i j * sc) := by
  rw [← dec_apply m c]
  unfold hd
  blk_ext [iblk, idx_4 t]
/-- The block of the keys' weights. -/
theorem blk_kw (t : Fin cfg0.N) (i j : Fin 128) : @Eq EReal (iblk m c 5 t (ix3 0 i j)) (kwt (hd t) i * sc) := by
  rw [← kw_apply m c (hd t) i j]
  unfold hd
  blk_ext [iblk, idx_5 t]
/-- The block of the queries' weights. -/
theorem blk_qw (t : Fin cfg0.N) (i j : Fin 128) : @Eq EReal (iblk m c 6 t (ix3 0 i j)) (qwt (hd t) i) := by
  rw [← qw_apply m c (hd t) i j]
  unfold hd
  blk_ext [iblk, idx_6 t]
/-- The block of the chunks' decay. -/
theorem blk_cd (t : Fin cfg0.N) (j : Fin 128) : @Eq EReal (iblk m c 7 t (ix3 0 0 j)) (cdt (hd t)) := by
  rw [← cd_apply m c (hd t) j]
  unfold hd
  blk_ext [iblk, idx_7 t]
end Cert.Ret
-- ==== Proof.RetKernel.lean ====
module
public import proofs.«01_k».proof.Proof.RetTables
public import proofs.«01_k».proof.Proof.Gen.KernelIdeal.Value
@[expose] public section
set_option maxRecDepth 65536
noncomputable section
/-! The kernel's result is the retention of each head. -/
namespace Cert.Ret
open Idealize.ShloMosaic Idealize.ShloMosaic.TcCoe Idealize.ShloMosaic.Tactic
open Cert.KernelIdeal Cert.KernelIdeal.Gen
open scoped BigOperators
open Idealize.SL.Sem

section
variable (x0 : Vec Ideal S1x4096x128 .bf16) (x1 : Vec Ideal S128x4096 .bf16) (x2 x3 : Vec Ideal S1x4096x128 .bf16)
  (x4 x5 x6 : Vec Ideal S1x128x128 .f32) (x7 : Vec Ideal S1x1x128 .f32)
  (h : ℕ) (q k v g : Fin 4096 → Fin 128 → EReal)

/-- A chunk of rows, read at an index. -/
theorem ld_rows (x : Vec Ideal S1x4096x128 .bf16) (n : ℕ) (j e : Fin 128) :
    @Eq EReal (ldR x n (ix3 0 j e)) (x (ix3 0 (pos n j) e)) := by
  refine congrArg x (funext fun a => Fin.ext ?_)
  match a with
  | ⟨0, _⟩ => rfl
  | ⟨1, _⟩ => show 128 * (n % 32) + 1 * (j : ℕ) = 128 * (n % 32) + j; omega
  | ⟨2, _⟩ => show 0 + 1 * (e : ℕ) = e; omega
/-- A chunk of the keys' columns, read at an index. -/
theorem ld_cols (x : Vec Ideal S128x4096 .bf16) (n : ℕ) (d j : Fin 128) :
    @Eq EReal (ldC x n (ix2 d j)) (x (ix2 d (pos n j))) := by
  refine congrArg x (funext fun a => Fin.ext ?_)
  match a with
  | ⟨0, _⟩ => show 0 + 1 * (d : ℕ) = d; omega
  | ⟨1, _⟩ => show 128 * (n % 32) + 1 * (j : ℕ) = 128 * (n % 32) + j; omega

/-- The next state at an index. -/
theorem nextV_apply (cd : Vec Ideal S1x1x128 .f32) (r kv : FVec Ideal S128x128 .f32) (d e : Fin 128) :
    @Eq EReal (nextV cd r kv (ix2 d e)) (cd (ix3 0 0 e) * r (ix2 d e) + kv (ix2 d e)) := by
  pointwise [nextV]
/-- A chunk's addend at an index. -/
theorem kvV_apply (a : Vec Ideal S128x128 .bf16) (b : Vec Ideal S1x128x128 .bf16) (w : Vec Ideal S1x128x128 .f32) (d e : Fin 128) :
    @Eq EReal (kvV a b w (ix2 d e)) (∑ j : Fin 128, a (ix2 d j) * (b (ix3 0 j e) * w (ix3 0 j e))) := by
  pointwise [kvV]
/-- A chunk's own part at an index. -/
theorem intraV_apply (a : Vec Ideal S1x128x128 .bf16) (b : Vec Ideal S128x128 .bf16) (c : Vec Ideal S1x128x128 .bf16)
    (w : Vec Ideal S1x128x128 .f32) (i e : Fin 128) :
    @Eq EReal (intraV a b c w (ix2 i e))
      (∑ j : Fin 128, (∑ d : Fin 128, a (ix3 0 i d) * b (ix2 d j)) * w (ix3 0 i j) * c (ix3 0 j e)) := by
  pointwise [intraV, scoresV]
/-- The state's part at an index. -/
theorem interV_apply (a : Vec Ideal S1x128x128 .bf16) (w : Vec Ideal S1x128x128 .f32) (r : FVec Ideal S128x128 .f32) (i e : Fin 128) :
    @Eq EReal (interV a w r (ix2 i e)) (∑ d : Fin 128, a (ix3 0 i d) * w (ix3 0 i d) * r (ix2 d e)) := by
  pointwise [interV]
/-- The normed and gated rows at an index. -/
theorem gatedV_apply (y : FVec Ideal S128x128 .f32) (b : Vec Ideal S1x128x128 .bf16) (i e : Fin 128) :
    @Eq EReal (gatedV y b (ix3 0 i e)) (hnorm (fun e => y (ix2 i e)) e * b (ix3 0 i e)) := by
  pointwise [gatedV, normV, centreV, meanV, hnorm, mean]

/-- The state before a chunk is the specification's. -/
theorem stateV_apply (h1 : ∀ p d, @Eq EReal (x1 (ix2 d p)) (k p d)) (h2 : ∀ p d, @Eq EReal (x2 (ix3 0 p d)) (v p d))
    (h5 : ∀ i j, @Eq EReal (x5 (ix3 0 i j)) (kwt h i * sc)) (h7 : ∀ j, @Eq EReal (x7 (ix3 0 0 j)) (cdt h)) (n : ℕ) :
    ∀ d e, @Eq EReal (stateV x1 x2 x5 x7 n (ix2 d e)) (St h k v n d e) := by
  induction n with
  | zero =>
    intro d e
    show stateV x1 x2 x5 x7 0 (ix2 d e) = (0 : EReal)
    pointwise [stateV]
  | succ n ih =>
    intro d e
    rw [stateV, St, nextV_apply, kvV_apply, ih, h7]
    refine congrArg _ (Finset.sum_congr rfl fun j _ => ?_)
    rw [ld_cols, ld_rows, h1, h2, h5]
    ac_rfl

/-- A chunk before its norm is the specification's. -/
theorem chunkV_apply (h0 : ∀ p d, @Eq EReal (x0 (ix3 0 p d)) (q p d)) (h1 : ∀ p d, @Eq EReal (x1 (ix2 d p)) (k p d))
    (h2 : ∀ p d, @Eq EReal (x2 (ix3 0 p d)) (v p d)) (h4 : ∀ i j : Fin 128, @Eq EReal (x4 (ix3 0 i j)) (dcy h i j * sc))
    (h5 : ∀ i j, @Eq EReal (x5 (ix3 0 i j)) (kwt h i * sc)) (h6 : ∀ i j : Fin 128, @Eq EReal (x6 (ix3 0 i j)) (qwt h i))
    (h7 : ∀ j, @Eq EReal (x7 (ix3 0 0 j)) (cdt h)) (n : ℕ) (i e : Fin 128) :
    @Eq EReal (chunkV x0 x1 x2 x4 x5 x6 x7 n (ix2 i e)) (Yc h q k v n i e) := by
  show @Eq EReal (intraV (ldR x0 n) (ldC x1 n) (ldR x2 n) x4 (ix2 i e)
    + interV (ldR x0 n) x6 (stateV x1 x2 x5 x7 n) (ix2 i e) : EReal) _
  rw [intraV_apply, interV_apply, Yc]
  congr 1
  · refine Finset.sum_congr rfl fun j _ => ?_
    rw [h4, ← scores_scale, ld_rows, h2]
    refine congrArg (· * _) (congrArg (· * _) (Finset.sum_congr rfl fun d _ => ?_))
    rw [ld_rows, ld_cols, h0, h1]
  · refine Finset.sum_congr rfl fun d _ => ?_
    rw [ld_rows, h0, h6, stateV_apply x1 x2 x5 x7 h k v h1 h2 h5 h7]

/-- A chunk of the result is the specification's. -/
theorem outG_apply (h0 : ∀ p d, @Eq EReal (x0 (ix3 0 p d)) (q p d)) (h1 : ∀ p d, @Eq EReal (x1 (ix2 d p)) (k p d))
    (h2 : ∀ p d, @Eq EReal (x2 (ix3 0 p d)) (v p d)) (h3 : ∀ p d, @Eq EReal (x3 (ix3 0 p d)) (g p d))
    (h4 : ∀ i j : Fin 128, @Eq EReal (x4 (ix3 0 i j)) (dcy h i j * sc))
    (h5 : ∀ i j, @Eq EReal (x5 (ix3 0 i j)) (kwt h i * sc)) (h6 : ∀ i j : Fin 128, @Eq EReal (x6 (ix3 0 i j)) (qwt h i))
    (h7 : ∀ j, @Eq EReal (x7 (ix3 0 0 j)) (cdt h)) (p : Fin 4096) (e : Fin 128) :
    @Eq EReal (outG x0 x1 x2 x3 x4 x5 x6 x7 (ix3 0 p e)) (ret h q k v g (p / 128) ⟨p % 128, Nat.mod_lt _ (by norm_num)⟩ e) := by
  show @Eq EReal (gatedV (chunkV x0 x1 x2 x4 x5 x6 x7 (p / 128)) (ldR x3 (p / 128))
    (ix3 0 ⟨(p : ℕ) % 128, Nat.mod_lt _ (by norm_num)⟩ e)) _
  rw [gatedV_apply, ret, ld_rows, h3]
  congr 2
  funext e
  exact chunkV_apply x0 x1 x2 x4 x5 x6 x7 h q k v h0 h1 h2 h4 h5 h6 h7 _ _ _
end

variable (m : (ℓ : Loc nD τ sig) → Buf (Elt Ideal) ℓ) (c : Dev nD)

/-- The retention of every head of every batch entry, as one array. -/
def retArr (xq : S4x4096x512.Idx → EReal) (xk : S512x16384.Idx → EReal) (xv xg : S4x4096x512.Idx → EReal)
    (b : Fin 4) (p : Fin 4096) (f : Fin 512) : EReal :=
  let h : Fin 4 := ⟨(f : ℕ) / 128, by omega⟩
  ret h (rowsOf xq b h) (keysOf xk b h) (rowsOf xv b h) (rowsOf xg b h) (p / 128) ⟨p % 128, Nat.mod_lt _ (by norm_num)⟩
    ⟨(f : ℕ) % 128, Nat.mod_lt _ (by norm_num)⟩

/-- Feature `128·h + e` is feature `e` of head `h`. -/
theorem retArr_at (xq : S4x4096x512.Idx → EReal) (xk : S512x16384.Idx → EReal) (xv xg : S4x4096x512.Idx → EReal)
    (b b' h : Fin 4) (p p' : Fin 4096) (e : Fin 128) (f : Fin 512) (hb : (b' : ℕ) = b) (hp : (p' : ℕ) = p)
    (hf : (f : ℕ) = 128 * h + e) :
    retArr xq xk xv xg b' p' f = ret h (rowsOf xq b h) (keysOf xk b h) (rowsOf xv b h) (rowsOf xg b h) (p / 128)
      ⟨p % 128, Nat.mod_lt _ (by norm_num)⟩ e := by
  obtain rfl := Fin.ext hb
  obtain rfl := Fin.ext hp
  have h1 : (⟨(f : ℕ) / 128, by omega⟩ : Fin 4) = h := Fin.ext (by show (f : ℕ) / 128 = h; omega)
  have h2 : (⟨(f : ℕ) % 128, Nat.mod_lt _ (by norm_num)⟩ : Fin 128) = e := Fin.ext (by show (f : ℕ) % 128 = e; omega)
  have h3 : (f : ℕ) / 128 = h := by omega
  simp only [retArr, h1, h2, h3]

/-- The result array after the kernel's run. -/
theorem result_eq : (dats m 0 c).arrAt 8 cfg0.N = fun i : S4x4096x512.Idx =>
    retArr (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 8 _ (by decide +kernel) fun t hf y => ?_
  blk_simp
  rw [after0_8, outsAt0, out_eq]
  idx_vars y
  obtain rfl : y0 = 0 := Subsingleton.elim _ _
  refine (outG_apply _ _ _ _ _ _ _ _ (hd t) _ _ _ _ (blk_q m c t) (blk_k m c t) (blk_v m c t) (blk_g m c t)
    (blk_dec m c t) (blk_kw m c t) (blk_qw m c t) (blk_cd m c t) y1 y2).trans (retArr_at _ _ _ _ _ _ _ _ _ _ _ ?_ ?_ ?_).symm
  · blk_simp
    rw [idx_o t]
    unfold bat
    show (t : ℕ) / 4 + 0 = (t : ℕ) / 4
    omega
  · blk_simp
    rw [idx_o t]
    show 0 * 4096 + (y1 : ℕ) = y1
    omega
  · blk_simp
    rw [idx_o t]
    unfold hd
    show (t : ℕ) % 4 * 128 + (y2 : ℕ) = 128 * ((t : ℕ) % 4) + y2
    omega
end Cert.Ret
-- ==== Proof.RetRef.lean ====
module
public import proofs.«01_k».proof.Proof.RetKernel
public import proofs.«01_k».proof.Proof.Gen.ReferenceIdeal.Run
public import Idealize.ShloMosaic.Lib.StableHlo.ReadAt
@[expose] public section
set_option maxRecDepth 65536
noncomputable section
/-! The reference's result is the retention of each head. -/
namespace Cert.RetRef
open Idealize.ShloMosaic Idealize.ShloMosaic.TcCoe Idealize.ShloMosaic.Tactic Idealize.ShloMosaic.StableHlo
open Cert.ReferenceIdeal Cert.ReferenceIdeal.Gen Cert.ReferenceIdeal.Value
open Cert.Ret (num lg sc dcy kwt qwt cdt pos St Yc mean hnorm ret retArr rowsOf keysOf feat kpos num_le)
open scoped BigOperators
open Idealize.SL.Sem
variable (m : (ℓ : Loc nD τ sig) → Buf (Elt Ideal) ℓ) (c : Dev nD)

/-- The causal mask compares two positions of a chunk. -/
theorem sel_eq (i j : ℕ) (x : EReal) (hi : i < 128) (hj : j < 128) :
    @Eq EReal (Scalar.select (IntOp.cmpi CmpIPredicate.sge (BitVec.ofNat 32 i) (BitVec.ofNat 32 j)) x
      (id (constant (F := Ideal) S_ FTy.f32 0#32) ix0)) (if j ≤ i then x else 0) := by
  have h1 : (BitVec.ofNat 32 i).toInt = (i : ℤ) := by
    rw [BitVec.toInt_eq_toNat_of_lt (by rw [BitVec.toNat_ofNat]; omega), BitVec.toNat_ofNat]; omega
  have h2 : (BitVec.ofNat 32 j).toInt = (j : ℤ) := by
    rw [BitVec.toInt_eq_toNat_of_lt (by rw [BitVec.toNat_ofNat]; omega), BitVec.toNat_ofNat]; omega
  have h0 : (id (constant (F := Ideal) S_ FTy.f32 0#32) ix0 : EReal) = 0 := Ideal.ofBits_zero_f32
  rw [h0]
  by_cases hji : j ≤ i
  · have : IntOp.cmpi CmpIPredicate.sge (BitVec.ofNat 32 i) (BitVec.ofNat 32 j) = 1#1 := by
      simp [IntOp.cmpi, BitVec.sle, h1, h2, hji]
    rw [this, if_pos hji]
    rfl
  · have : IntOp.cmpi CmpIPredicate.sge (BitVec.ofNat 32 i) (BitVec.ofNat 32 j) = 0#1 := by
      simp [IntOp.cmpi, BitVec.sle, h1, h2, hji]
    rw [this, if_neg hji]
    rfl

/-- A chunk's decay, as the loop finds it. -/
theorem entry_cd (h : Fin 4) :
    @Eq EReal (entryContents preI m c (Proc.devRef .tc main_v40_1) (ix4 0 h 0 0)) (cdt h) := by
  show after hostOps0 _ _ _ = _
  after_reads_at
  simp only [id_eq]
  pointwise [cdt, lg, num]
/-- What each chunk adds to the state, as the loop finds it. -/
theorem entry_kv (n : Fin 32) (b h : Fin 4) (d e : Fin 128) :
    @Eq EReal (entryContents preI m c (Proc.devRef .tc main_v40_0) (ix5 n b h d e))
      (∑ j : Fin 128, keysOf (m ((c.tc : Thread nD τ).loc main_arg1)) b h (pos n j) d * sc * kwt h j
        * rowsOf (m ((c.tc : Thread nD τ).loc main_arg2)) b h (pos n j) e) := by
  show after hostOps0 _ _ _ = _
  after_reads_at
  simp only [id_eq]
  pointwise [kwt, lg, num, sc]
  refine Finset.sum_congr rfl fun j _ => ?_
  have hn := n.isLt
  have e1 : pos n j = ⟨(n : ℕ) * 128 + j, by omega⟩ :=
    Fin.ext (by show 128 * ((n : ℕ) % 32) + (j : ℕ) = n * 128 + j; omega)
  have e2 : kpos b ⟨(n : ℕ) * 128 + j, by omega⟩ = ⟨(b : ℕ) * 4096 + (n * 128 + j), by omega⟩ :=
    Fin.ext (by show 4096 * (b : ℕ) + ((n : ℕ) * 128 + (j : ℕ)) = b * 4096 + (n * 128 + j); omega)
  have e3 : ∀ d : Fin 128, feat h d = ⟨(h : ℕ) * 128 + d, by omega⟩ := fun d =>
    Fin.ext (by show 128 * (h : ℕ) + d = h * 128 + d; omega)
  simp only [keysOf, rowsOf, e1, e2, e3]
/-- The loop starts from the zero state. -/
theorem entry_st (b h : Fin 4) (d e : Fin 128) :
    @Eq EReal (entryContents preI m c (Proc.devRef .tc main_v40_3) (ix4 b h d e)) 0 := by
  show after hostOps0 _ _ _ = _
  after_reads_at
  simp only [id_eq]
  pointwise

section
variable (start : Fin 5 → ℤ) (k : ℕ) (hk : k < 32) (h0 : start 0 = k) (h1 : start 1 = 0) (h2 : start 2 = 0)
  (h3 : start 3 = 0) (h4 : start 4 = 0)
include hk h0 h1 h2 h3 h4
/-- The start of one trip's slice lies in the stack, so it is not clamped. -/
theorem clamp (ht : S1x4x4x128x128.rank = S32x4x4x128x128.rank) (a : Fin 5) :
    Host.clampedStart S32x4x4x128x128 S1x4x4x128x128 ht start a = (![k, 0, 0, 0, 0] : Fin 5 → ℕ) a := by
  match a with
  | 0 => exact Host.clampedStart_of_le ht start 0 k h0 (show k + 1 ≤ 32 by omega)
  | 1 => exact Host.clampedStart_of_le ht start 1 0 h1 (show 0 + 4 ≤ 4 by omega)
  | 2 => exact Host.clampedStart_of_le ht start 2 0 h2 (show 0 + 4 ≤ 4 by omega)
  | 3 => exact Host.clampedStart_of_le ht start 3 0 h3 (show 0 + 128 ≤ 128 by omega)
  | 4 => exact Host.clampedStart_of_le ht start 4 0 h4 (show 0 + 128 ≤ 128 by omega)
/-- The slice taken in trip `k` is entry `k`. -/
theorem slice_apply (x : Vec Ideal S32x4x4x128x128 .f32) (b h : Fin 4) (d e : Fin 128) :
    @Eq EReal (shapeCast S4x4x128x128 (Host.dynamicSlice S1x4x4x128x128 x start sliceFits_S32x4x4x128x128_S1x4x4x128x128)
      shapeCasts_S1x4x4x128x128_S4x4x128x128 (ix4 b h d e)) (x (ix5 ⟨k, hk⟩ b h d e)) := by
  pointwise
  refine congrArg x (funext fun a => Fin.ext ?_)
  have hc := clamp start k hk h0 h1 h2 h3 h4 sliceFits_S32x4x4x128x128_S1x4x4x128x128.1
  match a with
  | 0 => exact hc 0
  | 1 => exact (congrArg (· + (b : ℕ)) (hc 1)).trans (Nat.zero_add _)
  | 2 => exact (congrArg (· + (h : ℕ)) (hc 2)).trans (Nat.zero_add _)
  | 3 => exact (congrArg (· + (d : ℕ)) (hc 3)).trans (Nat.zero_add _)
  | 4 => exact (congrArg (· + (e : ℕ)) (hc 4)).trans (Nat.zero_add _)
/-- The update made in trip `k` replaces entry `k` and keeps the others. -/
theorem update_apply (x : Vec Ideal S32x4x4x128x128 .f32) (u : Vec Ideal S4x4x128x128 .f32) (n : Fin 32) (b h : Fin 4)
    (d e : Fin 128) :
    @Eq EReal (Host.dynamicUpdateSlice x
      (broadcastInDim S1x4x4x128x128 ![1, 2, 3, 4] bcast_S4x4x128x128_S1x4x4x128x128_1_2_3_4 u) start
      updateFits_S32x4x4x128x128_S1x4x4x128x128 (ix5 n b h d e))
      (if (n : ℕ) = k then u (ix4 b h d e) else x (ix5 n b h d e)) := by
  have hc := clamp start k hk h0 h1 h2 h3 h4 updateFits_S32x4x4x128x128_S1x4x4x128x128.1
  have c0 : _ = k := hc 0
  have c1 : _ = 0 := hc 1
  have c2 : _ = 0 := hc 2
  have c3 : _ = 0 := hc 3
  have c4 : _ = 0 := hc 4
  pointwise
  by_cases hn : (n : ℕ) = k
  · rw [if_pos hn, dif_pos]
    · refine congrArg u (funext fun a => Fin.ext ?_)
      match a with
      | 0 => exact congrArg ((b : ℕ) - ·) c1
      | 1 => exact congrArg ((h : ℕ) - ·) c2
      | 2 => exact congrArg ((d : ℕ) - ·) c3
      | 3 => exact congrArg ((e : ℕ) - ·) c4
    · omega
  · rw [if_neg hn, dif_neg]
    omega
end

/-- The word of trip `k`'s number, read signed. -/
theorem iv_toInt (k : ℕ) (hk : k < 32) : (Scf.iv 0#32 1#32 k).toInt = k := by
  rw [Scf.toInt_iv (ub := 32#32) (by decide) (by have : Scf.trips 0#32 32#32 1#32 = 32 := by decide
                                                 omega)]
  simp

/-- The valuation before trip `k`. -/
abbrev W (k : ℕ) : Valuation τ sig (Elt Ideal) := STEP^[k] (entryContents preI m c)
/-- The loop's counter counts its turns. -/
theorem W_ctr (k : ℕ) : W m c k (Proc.devRef .tc main_v40_2) = fun _ => Scf.iv 0#32 1#32 k :=
  (atK_agree m c k main_v40_2 (by decide)).symm.trans (atK_ctr m c k)
/-- The loop leaves the addends alone. -/
theorem W_kv (k : ℕ) : W m c k (Proc.devRef .tc main_v40_0) = W m c 0 (Proc.devRef .tc main_v40_0) := by
  induction k with
  | zero => rfl
  | succ k ih => rw [W, Function.iterate_succ_apply', STEP_main_v40_0]; exact ih
/-- The loop leaves the decay alone. -/
theorem W_cd (k : ℕ) : W m c k (Proc.devRef .tc main_v40_1) = W m c 0 (Proc.devRef .tc main_v40_1) := by
  induction k with
  | zero => rfl
  | succ k ih => rw [W, Function.iterate_succ_apply', STEP_main_v40_1]; exact ih
/-- The state before trip `k` is the state before chunk `k`. -/
theorem W_st (k : ℕ) (hk : k < 32) (b h : Fin 4) (d e : Fin 128) :
    @Eq EReal (W m c k (Proc.devRef .tc main_v40_3) (ix4 b h d e))
      (St h (keysOf (m ((c.tc : Thread nD τ).loc main_arg1)) b h) (rowsOf (m ((c.tc : Thread nD τ).loc main_arg2)) b h) k d e) := by
  induction k with
  | zero => exact entry_st m c b h d e
  | succ k ih =>
    rw [W, Function.iterate_succ_apply', STEP_main_v40_3]
    show step_main_v40_3 (W m c k) _ = _
    unfold step_main_v40_3
    rw [W_ctr m c k, W_kv, W_cd]
    simp only [id_eq]
    refine congrArg₂ (fun x y : EReal => x + y) (congrArg₂ (fun x y : EReal => x * y) ?_ ?_) ?_
    · pointwise
      exact entry_cd m c h
    · exact ih (by omega)
    · exact (slice_apply _ k (by omega) (iv_toInt k (by omega)) rfl rfl rfl rfl _ b h d e).trans (entry_kv m c ⟨k, by omega⟩ b h d e)
/-- Entry `n` of the stack before trip `k` is the state before chunk `n`, for the trips already made. -/
theorem W_stack (k : ℕ) (hk : k ≤ 32) (n : Fin 32) (hn : (n : ℕ) < k) (b h : Fin 4) (d e : Fin 128) :
    @Eq EReal (W m c k (Proc.devRef .tc main_v40_4) (ix5 n b h d e))
      (St h (keysOf (m ((c.tc : Thread nD τ).loc main_arg1)) b h) (rowsOf (m ((c.tc : Thread nD τ).loc main_arg2)) b h) n d e) := by
  induction k with
  | zero => omega
  | succ k ih =>
    rw [W, Function.iterate_succ_apply', STEP_main_v40_4]
    show step_main_v40_4 (W m c k) _ = _
    unfold step_main_v40_4
    rw [W_ctr m c k]
    simp only [id_eq]
    refine (update_apply _ k (by omega) (iv_toInt k (by omega)) rfl rfl rfl rfl _ _ n b h d e).trans ?_
    by_cases hnk : (n : ℕ) = k
    · rw [if_pos hnk, hnk]
      exact W_st m c k (by omega) b h d e
    · rw [if_neg hnk]
      exact ih (by omega) (by omega)

/-- The reference's result, the stack given. -/
theorem out_apply (V0 : Valuation τ sig (Elt Ideal)) (a0 : Vec Ideal S4x4096x512 .bf16) (a1 : Vec Ideal S512x16384 .bf16)
    (a2 a3 : Vec Ideal S4x4096x512 .bf16) (st : Vec Ideal S32x4x4x128x128 .f32)
    (h0 : V0 (Proc.devRef .tc main_arg0) = a0) (h1 : V0 (Proc.devRef .tc main_arg1) = a1)
    (h2 : V0 (Proc.devRef .tc main_arg2) = a2) (h3 : V0 (Proc.devRef .tc main_arg3) = a3)
    (h4 : V0 (Proc.devRef .tc main_v40_4) = st) (b : Fin 4) (p : Fin 4096) (f : Fin 512)
    (hst : ∀ (n : Fin 32) (h : Fin 4) (d e : Fin 128), @Eq EReal (st (ix5 n b h d e)) (St h (keysOf a1 b h) (rowsOf a2 b h) n d e)) :
    @Eq EReal (out_main_v129 V0 (ix3 b p f)) (retArr a0 a1 a2 a3 b p f) := by
  have hn : (p : ℕ) / 128 < 32 := by omega
  have e0 : pos ((p : ℕ) / 128) ⟨(p : ℕ) % 128, Nat.mod_lt _ (by norm_num)⟩ = p :=
    Fin.ext (by show 128 * ((p : ℕ) / 128 % 32) + (p : ℕ) % 128 = p; omega)
  have e1 : ∀ (j : Fin 128) (hj), (⟨(p : ℕ) / 128 * 128 + j, hj⟩ : Fin 4096) = pos ((p : ℕ) / 128) j := fun j hj =>
    Fin.ext (by show (p : ℕ) / 128 * 128 + j = 128 * ((p : ℕ) / 128 % 32) + j; omega)
  have e2 : ∀ (j : Fin 128) (hj), (⟨(b : ℕ) * 4096 + ((p : ℕ) / 128 * 128 + j), hj⟩ : Fin 16384) = kpos b (pos ((p : ℕ) / 128) j) :=
    fun j hj => Fin.ext (by show (b : ℕ) * 4096 + ((p : ℕ) / 128 * 128 + j) = 4096 * b + (128 * ((p : ℕ) / 128 % 32) + j); omega)
  have e3 : ∀ (h : Fin 4) (d : Fin 128) (hd : (h : ℕ) * 128 + d < 512), feat h d = (⟨(h : ℕ) * 128 + d, hd⟩ : Fin 512) := fun h d hd =>
    Fin.ext (by show 128 * (h : ℕ) + d = h * 128 + d; omega)
  have e4 : feat ⟨(f : ℕ) / 128, by omega⟩ ⟨(f : ℕ) % 128, Nat.mod_lt _ (by norm_num)⟩ = f :=
    Fin.ext (by show 128 * ((f : ℕ) / 128) + (f : ℕ) % 128 = f; omega)
  unfold out_main_v129
  rw [h0, h1, h2, h3, h4]
  pointwise
  simp only [hst, e1, e2, sel_eq _ _ _ (Nat.mod_lt (p : ℕ) (by norm_num : 128 > 0)) (Fin.isLt _)]
  simp only [retArr, ret, hnorm, mean, Yc, kwt, qwt, dcy, lg, sc, num, rowsOf, keysOf, e0, e4]
  simp only [fun h d => e3 h d (by omega)]
/-- The reference's result array. -/
theorem result_eq : out_main_v129 (W m c 32) = fun i : S4x4096x512.Idx =>
    retArr (m ((c.tc : Thread nD τ).loc main_arg0)) (m ((c.tc : Thread nD τ).loc main_arg1)) (m ((c.tc : Thread nD τ).loc main_arg2))
      (m ((c.tc : Thread nD τ).loc main_arg3)) (i 0) (i 1) (i 2) := by
  funext i
  idx_vars i
  exact out_apply (W m c 32) _ _ _ _ _ (iter_main_arg0 m c 32) (iter_main_arg1 m c 32) (iter_main_arg2 m c 32)
    (iter_main_arg3 m c 32) rfl _ _ _ fun n h d e => W_stack m c 32 le_rfl n n.isLt _ h d e
end Cert.RetRef
-- ==== Proof.RetClaims.lean ====
module
public import proofs.«01_k».proof.Defs
public import proofs.«01_k».proof.Proof.RetKernel
public import proofs.«01_k».proof.Proof.RetRef
public import proofs.«01_k».proof.Proof.Gen.Kernel.Frame
public import proofs.«01_k».proof.Proof.Gen.KernelIdeal.Frame
public import Idealize.ShloMosaic.Lib.Quiescent
@[expose] public section
noncomputable section
/-! The claims about retention. -/
namespace Cert.Ret
open Idealize.ShloMosaic Idealize.SL.Sem

/-- The kernel terminates and leaves its arguments and the counters as they were. -/
theorem frame_kernel : Cert.quiescent_Kernel (hKernel := Cert.Kernel.Gen.facts) :=
  fun m ρ _ => Cert.Kernel.Gen.frame m ρ
/-- So does its idealization. -/
theorem frame_kernelIdeal : Cert.quiescent_KernelIdeal (hKernelIdeal := Cert.KernelIdeal.Gen.facts) :=
  fun m ρ _ => Cert.KernelIdeal.Gen.frame m ρ
/-- So does the reference, which has no semaphores. -/
theorem frame_referenceIdeal : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)
/-- Over the extended reals the kernel's result is the reference's. -/
theorem algebraic : Cert.algebraic_KernelIdeal_ReferenceIdeal (hKernelIdeal := Cert.KernelIdeal.Gen.facts)
    (hReferenceIdeal := Cert.ReferenceIdeal.Gen.facts) :=
  fun m ρ m' ρ' _ hag => ⟨fun c => (Cert.KernelIdeal.Gen.dats m 0 c).arrAt 8 Cert.KernelIdeal.cfg0.N,
    Cert.KernelIdeal.Value.run_blocks m ρ,
    (θ_run _ _ _).mono (fun r h c => ⟨(h c).1.trans (by
      obtain ⟨h0, h1, h2, h3⟩ := hag c
      refine (Cert.RetRef.result_eq m' c).trans (Eq.trans ?_ (result_eq m c).symm)
      rw [h0, h1, h2, h3]), (h c).2⟩) (Cert.ReferenceIdeal.Value.run m' ρ')⟩
end Cert.Ret
-- ==== Proof.TailSpec.lean ====
module
public import Idealize.ShloMosaic.Lib.Pipeline.ValueKit
public import Idealize.ShloMosaic.Lib.Pointwise
public import Idealize.ShloMosaic.Lib.IdealHost
@[expose] public section
noncomputable section
/-! The end of a layer over the extended reals, written on functions of row and feature: the norm of the residual plus the
mixer, the gated feed-forward with its causal convolution, and the norm of the residual plus that. Row `R` is position
`R % 4096` of batch entry `R / 4096`. -/
namespace Cert.Tail
open Idealize.ShloMosaic
open scoped BigOperators

/-- The residual's scale. -/
def alpha : EReal := Ideal.ofBits .f32 0x3FB504F3#32

/-- The mean over the features. -/
def mean (t : Fin 1024 → EReal) : EReal := Ideal.div (∑ d : Fin 1024, t d) (Ideal.ofBits .f32 0x44800000#32)

/-- The layer norm of one row. -/
def LN (t g b : Fin 1024 → EReal) (d : Fin 1024) : EReal :=
  (t d - mean t) * Ideal.rsqrt (mean (fun e => (t e - mean t) * (t e - mean t)) + Ideal.ofBits .f32 0x3727C5AC#32) * g d + b d

/-- Feature `f` of chunk `n` of the activation's features. -/
abbrev col (n : Fin 11) (f : Fin 256) : Fin 2816 := ⟨256 * n + f, by omega⟩
/-- The up projection's column of the gate's feature `f`. -/
abbrev lo (f : Fin 2816) : Fin 5632 := ⟨f, by omega⟩
/-- The up projection's column of the other half's feature `f`. -/
abbrev hi (f : Fin 2816) : Fin 5632 := ⟨2816 + f, by omega⟩

/-- The weights of a layer's end, after the output projection. -/
structure Wts where
  g1 : Fin 1024 → EReal
  b1 : Fin 1024 → EReal
  up : Fin 1024 → Fin 5632 → EReal
  cw : Fin 3 → Fin 2816 → EReal
  cb : Fin 2816 → EReal
  dn : Fin 2816 → Fin 1024 → EReal
  g2 : Fin 1024 → EReal
  b2 : Fin 1024 → EReal

variable (w : Wts) (pre : Fin 16384 → Fin 1024 → EReal)

/-- The residual after the mixer's norm. -/
def X1 (R : Fin 16384) (d : Fin 1024) : EReal := LN (pre R) w.g1 w.b1 d

/-- The up projection's column `f`. -/
def upc (R : Fin 16384) (f : Fin 5632) : EReal := ∑ d : Fin 1024, X1 w pre R d * w.up d f

/-- The gate's half of the up projection. -/
def gate (R : Fin 16384) (f : Fin 2816) : EReal := upc w pre R (lo f)

/-- The gate `s` positions earlier, zero before the first position. -/
def back (s : ℕ) (R : Fin 16384) (f : Fin 2816) : EReal :=
  if (R : ℕ) % 4096 < s then 0 else gate w pre ⟨R - s, by omega⟩ f

/-- The causal convolution of the gate, three taps and a bias. -/
def conv (R : Fin 16384) (f : Fin 2816) : EReal :=
  back w pre 2 R f * w.cw 0 f + back w pre 1 R f * w.cw 1 f + gate w pre R f * w.cw 2 f + w.cb f

/-- The activation: the convolution through SiLU, times the other half of the up projection. -/
def act (R : Fin 16384) (f : Fin 2816) : EReal :=
  conv w pre R f * Ideal.logistic (conv w pre R f) * upc w pre R (hi f)

/-- The layer's result. -/
def out (R : Fin 16384) (d : Fin 1024) : EReal :=
  LN (fun d => alpha * X1 w pre R d + ∑ f : Fin 2816, act w pre R f * w.dn f d) w.g2 w.b2 d
end Cert.Tail
-- ==== Proof.TailVec.lean ====
module
public import proofs.«01_k».proof.Proof.Gen.Kernel2Ideal.Frame
public import Idealize.ShloMosaic.Lib.Pipeline.ValueKit
public import Idealize.ShloMosaic.Lib.Pointwise
public import proofs.«01_k».proof.Proof.TailSpec
@[expose] public section
set_option maxRecDepth 65536
noncomputable section
namespace Cert.Tail
open Idealize.ShloMosaic Idealize.ShloMosaic.TcCoe Idealize.ShloMosaic.Tactic
open Cert.Kernel2Ideal Cert.Kernel2Ideal.Gen
open scoped BigOperators
variable {F : FTy → Type} [FloatOps F]

/-- The mean of each row. -/
def meanV (t : FVec F S256x1024 .f32) : FVec F S256x1 .f32 :=
  divf (shapeCast S256x1 (multiReduction .add [1] S256 t 0x00000000#32 reduces_S256x1024_S256 (.inl rfl) rfl) shapeCasts_S256_S256x1)
    (broadcast S256x1 (Scalar.ofBits .f32 0x44800000#32))

/-- Each row less its mean. -/
def cenV (t : FVec F S256x1024 .f32) : FVec F S256x1024 .f32 :=
  subf t (broadcastTo S256x1024 (meanV t) broadcasts_S256x1_S256x1024)

/-- The layer norm of each row, with weights and bias. -/
def lnV (t : FVec F S256x1024 .f32) (g b : Vec F S1x1024 .f32) : FVec F S256x1024 .f32 :=
  addf (mulf (mulf (cenV t) (broadcastTo S256x1024 (rsqrt (addf (meanV (mulf (cenV t) (cenV t)))
      (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- The scaled residual plus the output projection of one mixer, half a tile. -/
def preV (x : Vec F S256x1024 .f32) (y : Vec F S256x1024 .bf16) (w : Vec F S1024x1024 .bf16) : FVec F S256x1024 .f32 :=
  addf (mulf (broadcast S256x1024 (Scalar.ofBits .f32 0x3FB504F3#32)) x)
    (matmul dot_S256x1024_S1024x1024_S256x1024_1_0_0_1_n_n none y w (constant S256x1024 .f32 0x00000000#32))

/-- The scaled residual plus the down projection, half a tile. -/
def pre2V (x : Vec F S256x1024 .f32) (a : Vec F S256x2816 .bf16) (w : Vec F S1x2816x1024 .bf16) : FVec F S256x1024 .f32 :=
  addf (mulf (broadcast S256x1024 (Scalar.ofBits .f32 0x3FB504F3#32)) x)
    (matmul dot_S256x2816_S2816x1024_S256x1024_1_0_0_1_n_n none a (shapeCast S2816x1024 w shapeCasts_S1x2816x1024_S2816x1024)
      (constant S256x1024 .f32 0x00000000#32))

/-- One chunk of columns of the up projection. -/
def upV (x1 : Vec F S512x1024 .f32) (w : Vec F S1x1024x256 .bf16) : FVec F S512x256 .f32 :=
  matmul dot_S512x1024_S1024x256_S512x256_1_0_0_1_n_n none (truncf .bf16 x1 bitsLt_bf16_f32)
    (shapeCast S1024x256 w shapeCasts_S1x1024x256_S1024x256) (constant S512x256 .f32 0x00000000#32)

/-- The rows moved down by `s`, the first ones taken from the last rows of the tile before. -/
def shiftV (s : BitVec 32) (g : FVec F S512x256 .f32) (p : Vec F S8x256 .f32) : FVec F S512x256 .f32 :=
  concatenate S512x256 0
    [⟨S8x256, select (cmpi .slt (iota .tc S8x256 32 [0] iota_S8x256_d0_w32) (broadcast S8x256 s))
        (dynamicRotate 0 s none p rotates_S8x256_d0)
        (extractStridedSlice S8x256 ![0, 0] (dynamicRotate 0 s none g rotates_S512x256_d0) slices_S512x256_o0_0_S8x256)⟩,
     ⟨S504x256, extractStridedSlice S504x256 ![8, 0] (dynamicRotate 0 s none g rotates_S512x256_d0) slices_S512x256_o8_0_S504x256⟩]
    concatenates_S8x256_S504x256_S512x256_d0

/-- A row of weights beside every row of a tile. -/
def rowV (c : Vec F S1x256 .f32) : FVec F S512x256 .f32 :=
  broadcastTo S512x256 (shapeCast S1x256 c shapeCasts_S1x256_S1x256) broadcasts_S1x256_S512x256

/-- The convolution of three taps. -/
def convV (g : FVec F S512x256 .f32) (p : Vec F S8x256 .f32) (c0 c1 c2 b : Vec F S1x256 .f32) : FVec F S512x256 .f32 :=
  addf (addf (addf (mulf (shiftV 2#32 g p) (rowV c0)) (mulf (shiftV 1#32 g p) (rowV c1))) (mulf g (rowV c2))) (rowV b)

/-- The activation of the convolution, times the other half of the up projection. -/
def actV (k u : FVec F S512x256 .f32) : FVec F S512x256 .bf16 :=
  truncf .bf16 (mulf (mulf k (logistic k)) u) bitsLt_bf16_f32

/-- The last eight rows of a chunk. -/
def lastV (g : FVec F S512x256 .f32) : FVec F S8x256 .f32 :=
  extractStridedSlice S8x256 ![504, 0] g slices_S512x256_o504_0_S8x256

/-- Which of eight rows are before the third. -/
theorem lt_two : ∀ r : Fin 8, IntOp.cmpi .slt (BitVec.ofNat 32 (r : ℕ)) 2#32 = if (r : ℕ) < 2 then 1#1 else 0#1 := by decide
/-- Which of eight rows are before the second. -/
theorem lt_one : ∀ r : Fin 8, IntOp.cmpi .slt (BitVec.ofNat 32 (r : ℕ)) 1#32 = if (r : ℕ) < 1 then 1#1 else 0#1 := by decide

/-- The rows moved down by two, at an index. -/
theorem shift2_apply (g : FVec Ideal S512x256 .f32) (p : Vec Ideal S8x256 .f32) (r : Fin 512) (f : Fin 256) :
    shiftV 2#32 g p (ix2 r f) = if h : (r : ℕ) < 2 then p (ix2 ⟨6 + r, by omega⟩ f) else g (ix2 ⟨r - 2, by omega⟩ f) := by
  pointwise [shiftV]
  by_cases h8 : (r : ℕ) < 8
  · rw [dif_pos h8, lt_two ⟨r, h8⟩]
    by_cases h2 : (r : ℕ) < 2
    · simp only [h2, if_true, dif_pos]
      show p _ = p _
      congr 2; ext; show ((r : ℕ) + 8 - 2) % 8 = 6 + r; omega
    · simp only [h2, if_false, dif_neg, not_false_eq_true]
      show g _ = g _
      congr 2; ext; show ((r : ℕ) + 512 - 2) % 512 = r - 2; omega
  · rw [dif_neg h8, dif_neg (by omega)]
    congr 2; ext; show (8 + ((r : ℕ) - 8) + 512 - 2) % 512 = r - 2; omega

/-- The rows moved down by one, at an index. -/
theorem shift1_apply (g : FVec Ideal S512x256 .f32) (p : Vec Ideal S8x256 .f32) (r : Fin 512) (f : Fin 256) :
    shiftV 1#32 g p (ix2 r f) = if h : (r : ℕ) < 1 then p (ix2 ⟨7 + r, by omega⟩ f) else g (ix2 ⟨r - 1, by omega⟩ f) := by
  pointwise [shiftV]
  by_cases h8 : (r : ℕ) < 8
  · rw [dif_pos h8, lt_one ⟨r, h8⟩]
    by_cases h2 : (r : ℕ) < 1
    · simp only [h2, if_true, dif_pos]
      show p _ = p _
      congr 2; ext; show ((r : ℕ) + 8 - 1) % 8 = 7 + r; omega
    · simp only [h2, if_false, dif_neg, not_false_eq_true]
      show g _ = g _
      congr 2; ext; show ((r : ℕ) + 512 - 1) % 512 = r - 1; omega
  · rw [dif_neg h8, dif_neg (by omega)]
    congr 2; ext; show (8 + ((r : ℕ) - 8) + 512 - 1) % 512 = r - 1; omega

/-- The convolution at an index. -/
theorem conv_apply (g : FVec Ideal S512x256 .f32) (p : Vec Ideal S8x256 .f32) (c0 c1 c2 b : Vec Ideal S1x256 .f32)
    (r : Fin 512) (f : Fin 256) :
    @Eq EReal (convV g p c0 c1 c2 b (ix2 r f))
      (shiftV 2#32 g p (ix2 r f) * c0 (ix2 0 f) + shiftV 1#32 g p (ix2 r f) * c1 (ix2 0 f) + g (ix2 r f) * c2 (ix2 0 f)
        + b (ix2 0 f)) := by
  pointwise [convV, rowV]

/-- The rows before the first norm at an index. -/
theorem pre_apply (x : Vec Ideal S256x1024 .f32) (y : Vec Ideal S256x1024 .bf16) (w : Vec Ideal S1024x1024 .bf16)
    (r : Fin 256) (d : Fin 1024) :
    @Eq EReal (preV x y w (ix2 r d)) (alpha * x (ix2 r d) + ∑ e, y (ix2 r e) * w (ix2 e d)) := by
  pointwise [preV, alpha]

/-- The rows before the second norm at an index. -/
theorem pre2_apply (x : Vec Ideal S256x1024 .f32) (a : Vec Ideal S256x2816 .bf16) (w : Vec Ideal S1x2816x1024 .bf16)
    (r : Fin 256) (d : Fin 1024) :
    @Eq EReal (pre2V x a w (ix2 r d)) (alpha * x (ix2 r d) + ∑ f, a (ix2 r f) * w (ix3 0 f d)) := by
  pointwise [pre2V, alpha]

/-- A chunk of the up projection at an index. -/
theorem up_apply (x : Vec Ideal S512x1024 .f32) (w : Vec Ideal S1x1024x256 .bf16) (r : Fin 512) (f : Fin 256) :
    @Eq EReal (upV x w (ix2 r f)) (∑ d, x (ix2 r d) * w (ix3 0 d f)) := by
  pointwise [upV]

/-- The activation at an index. -/
theorem act_apply (k u : FVec Ideal S512x256 .f32) (r : Fin 512) (f : Fin 256) :
    @Eq EReal (actV k u (ix2 r f)) (k (ix2 r f) * Ideal.logistic (k (ix2 r f)) * u (ix2 r f)) := by
  pointwise [actV]

/-- The last eight rows at an index. -/
theorem last_apply (g : FVec Ideal S512x256 .f32) (r : Fin 8) (f : Fin 256) :
    @Eq EReal (lastV g (ix2 r f)) (g (ix2 ⟨504 + r, by omega⟩ f)) := by
  pointwise [lastV]

/-- The layer norm at an index. -/
theorem ln_apply (t : FVec Ideal S256x1024 .f32) (g b : Vec Ideal S1x1024 .f32) (r : Fin 256) (d : Fin 1024) :
    @Eq EReal (lnV t g b (ix2 r d)) (LN (fun d => t (ix2 r d)) (fun d => g (ix2 0 d)) (fun d => b (ix2 0 d)) d) := by
  pointwise [lnV, cenV, meanV, LN, mean]
end Cert.Tail
-- ==== Proof.TailPieces.lean ====
module
public import proofs.«01_k».proof.Proof.TailVec
@[expose] public section
set_option maxRecDepth 65536
noncomputable section
/-! The stores of one grid point of the layer's end, as lists (the last store first). -/
namespace Cert.Tail
open Idealize.ShloMosaic Idealize.ShloMosaic.TcCoe Idealize.ShloMosaic.Tactic
open Cert.Kernel2Ideal Cert.Kernel2Ideal.Gen
variable {F : FTy → Type} [FloatOps F]

/-- A half of the rows lies in the tile. -/
theorem inHalf (h : ℕ) : ∀ a, ![256 * (h % 2), 0] a + S256x1024.size a ≤ S512x1024.size a := by
  intro a
  match a with
  | ⟨0, _⟩ => show 256 * (h % 2) + 256 ≤ 512; omega
  | ⟨1, _⟩ => exact Nat.le_of_eq rfl
/-- A half of the activation's rows lies in the tile. -/
theorem inHalfA (h : ℕ) : ∀ a, ![256 * (h % 2), 0] a + S256x2816.size a ≤ S512x2816.size a := by
  intro a
  match a with
  | ⟨0, _⟩ => show 256 * (h % 2) + 256 ≤ 512; omega
  | ⟨1, _⟩ => exact Nat.le_of_eq rfl
/-- A chunk lies among the carried rows. -/
theorem inCarry (n : ℕ) : ∀ a, ![0, 256 * (n % 11)] a + S8x256.size a ≤ S8x2816.size a := by
  intro a
  match a with
  | ⟨0, _⟩ => exact Nat.le_of_eq rfl
  | ⟨1, _⟩ => show 256 * (n % 11) + 256 ≤ 2816; omega
/-- A chunk lies in the activation. -/
theorem inAct (n : ℕ) : ∀ a, ![0, 256 * (n % 11)] a + S512x256.size a ≤ S512x2816.size a := by
  intro a
  match a with
  | ⟨0, _⟩ => exact Nat.le_of_eq rfl
  | ⟨1, _⟩ => show 256 * (n % 11) + 256 ≤ 2816; omega
/-- A chunk lies in the bias. -/
theorem inBias (n : ℕ) : ∀ a, ![0, 256 * (n % 11)] a + S1x256.size a ≤ S1x2816.size a := by
  intro a
  match a with
  | ⟨0, _⟩ => exact Nat.le_of_eq rfl
  | ⟨1, _⟩ => show 256 * (n % 11) + 256 ≤ 2816; omega
/-- A chunk lies in the up projection's weights. -/
theorem inUp (s n : ℕ) : ∀ a, ![0, 0, 2816 * (s % 2) + 256 * (n % 11)] a + S1x1024x256.size a ≤ S1x1024x5632.size a := by
  intro a
  match a with
  | ⟨0, _⟩ => exact Nat.le_of_eq rfl
  | ⟨1, _⟩ => exact Nat.le_of_eq rfl
  | ⟨2, _⟩ => show 2816 * (s % 2) + 256 * (n % 11) + 256 ≤ 5632; omega
/-- A tap lies in a chunk of the taps. -/
theorem inTap (k : ℕ) : ∀ a, ![k % 3, 0] a + S1x256.size a ≤ S8x256.size a := by
  intro a
  match a with
  | ⟨0, _⟩ => show k % 3 + 1 ≤ 8; omega
  | ⟨1, _⟩ => exact Nat.le_of_eq rfl

/-- Half `h` of a tile's rows. -/
def half (h : ℕ) : Rect S512x1024 := Rect.unit ![256 * (h % 2), 0] S256x1024.size (inHalf h)
/-- Half `h` of the activation's rows. -/
def halfA (h : ℕ) : Rect S512x2816 := Rect.unit ![256 * (h % 2), 0] S256x2816.size (inHalfA h)
/-- Chunk `n` of the carried rows. -/
def carryR (n : ℕ) : Rect S8x2816 := Rect.unit ![0, 256 * (n % 11)] S8x256.size (inCarry n)
/-- Chunk `n` of the activation. -/
def actR (n : ℕ) : Rect S512x2816 := Rect.unit ![0, 256 * (n % 11)] S512x256.size (inAct n)
/-- Chunk `n` of the convolution's bias. -/
def biasR (n : ℕ) : Rect S1x2816 := Rect.unit ![0, 256 * (n % 11)] S1x256.size (inBias n)
/-- Chunk `n` of half `s` of the up projection's weights. -/
def upR (s n : ℕ) : Rect S1x1024x5632 := Rect.unit ![0, 0, 2816 * (s % 2) + 256 * (n % 11)] S1x1024x256.size (inUp s n)
/-- Tap `k` of chunk `n` of the convolution's weights. -/
def tapR (k n : ℕ) : LoadRect S8x2816 :=
  (carryR n).withinL (Rect.unit (s := S8x256) ![k % 3, 0] S1x256.size (inTap k)).toLoadRect (fun _ => rfl)
/-- A whole tile. -/
def tileR : Rect S512x1024 := Rect.unit ![0, 0] S512x1024.size inb_S512x1024_S512x1024_0_0

/-- The two halves of a normed tile. -/
def normL (t0 t1 : FVec F S256x1024 .f32) (g b : Vec F S1x1024 .f32) : List (View.Piece (Elt F) S512x1024 .f32) :=
  [⟨half 1, shapeCast S256x1024 (lnV t1 g b) shapeCasts_S256x1024_S256x1024⟩,
   ⟨half 0, shapeCast S256x1024 (lnV t0 g b) shapeCasts_S256x1024_S256x1024⟩]

/-- The two halves of a normed tile, as the result stores them. -/
def finL (t0 t1 : FVec F S256x1024 .f32) (g b : Vec F S1x1024 .f32) : List (View.Piece (Elt F) S512x1024 .f32) :=
  [⟨half 1, lnV t1 g b⟩, ⟨half 0, lnV t0 g b⟩]

section
variable (base : List (View.Piece (Elt F) S8x2816 .f32)) (x1 : Vec F S512x1024 .f32)
  (wg wu : ℕ → Vec F S1x1024x256 .bf16) (c0 c1 c2 cb : ℕ → Vec F S1x256 .f32) (prev : ℕ → Vec F S8x256 .f32)

/-- The stores into the carried rows before chunk `n`, over the ones in `base`. -/
def carryL : ℕ → List (View.Piece (Elt F) S8x2816 .f32)
  | 0 => base
  | n + 1 => ⟨carryR n, shapeCast S8x256 (lastV (upV x1 (wg n))) shapeCasts_S8x256_S8x256⟩ :: carryL n

/-- Chunk `n` of the activation. -/
def actC (n : ℕ) : FVec F S512x256 .bf16 :=
  actV (convV (upV x1 (wg n)) (prev n) (c0 n) (c1 n) (c2 n) (cb n)) (upV x1 (wu n))

/-- The stores into the activation before chunk `n`. -/
def actL : ℕ → List (View.Piece (Elt F) S512x2816 .bf16)
  | 0 => []
  | n + 1 => ⟨actR n, shapeCast S512x256 (actC x1 wg wu c0 c1 c2 cb prev n) shapeCasts_S512x256_S512x256⟩ :: actL n
end

/-- The zeros stored before the first position of a batch entry. -/
def zeroL : List (View.Piece (Elt F) S8x2816 .f32) :=
  [⟨Rect.unit ![0, 0] S8x2816.size inb_S8x2816_S8x2816_0_0,
    shapeCast S8x2816 (broadcast S8x2816 (Scalar.ofBits .f32 0x00000000#32)) shapeCasts_S8x2816_S8x2816⟩]
end Cert.Tail
-- ==== Proof.TailBlock.lean ====
module
public import proofs.«01_k».proof.Proof.TailPieces
@[expose] public section
set_option maxRecDepth 65536
noncomputable section
/-! What the stores of one grid point leave, at each index, over the extended reals: tile `T` holds rows `512·T` to
`512·T + 511`. -/
namespace Cert.Tail
open Idealize.ShloMosaic Idealize.ShloMosaic.TcCoe Idealize.ShloMosaic.Tactic
open Cert.Kernel2Ideal Cert.Kernel2Ideal.Gen
open scoped BigOperators

/-- Row `r` of tile `T`. -/
def row (T : ℕ) (r : ℕ) : Fin 16384 := ⟨(512 * T + r) % 16384, Nat.mod_lt _ (by norm_num)⟩

section
variable {e : EltTy}

/-- Two stores of half a tile each leave the one's rows and then the other's. -/
theorem canon_half (a b : Vec Ideal S256x1024 e) (r : Fin 512) (d : Fin 1024) :
    View.canon [(⟨half 1, a⟩ : View.Piece (Elt Ideal) S512x1024 e), ⟨half 0, b⟩] (ix2 r d)
      = if h : (r : ℕ) < 256 then b (ix2 ⟨r, h⟩ d) else a (ix2 ⟨r - 256, by omega⟩ d) := by
  split
  · rename_i h
    rw [View.canon_cons_of_not_mem]
    · have : (ix2 r d : S512x1024.Idx) = (half 0).emb (ix2 ⟨r, h⟩ d : S256x1024.Idx) := by
        funext k; apply Fin.ext
        match k with
        | ⟨0, _⟩ => show (r : ℕ) = 256 * (0 % 2) + 1 * (r : ℕ); omega
        | ⟨1, _⟩ => show (d : ℕ) = 0 + 1 * (d : ℕ); omega
      rw [this]
      exact View.canon_cons_emb _ _ _ _
    · show _ ∉ (half 1).set
      rw [half, Rect.mem_set_unit]
      intro hm
      have : 256 * (1 % 2) ≤ (r : ℕ) := (hm (0 : Fin 2)).1
      omega
  · rename_i h
    have : (ix2 r d : S512x1024.Idx) = (half 1).emb (ix2 ⟨r - 256, by omega⟩ d : S256x1024.Idx) := by
      funext k; apply Fin.ext
      match k with
      | ⟨0, _⟩ => show (r : ℕ) = 256 * (1 % 2) + 1 * ((r : ℕ) - 256); omega
      | ⟨1, _⟩ => show (d : ℕ) = 0 + 1 * (d : ℕ); omega
    rw [this]
    exact View.canon_cons_emb _ _ _ _
end

section
variable (base : List (View.Piece (Elt Ideal) S8x2816 .f32)) (x1 : Vec Ideal S512x1024 .f32)
  (wg wu : ℕ → Vec Ideal S1x1024x256 .bf16) (c0 c1 c2 cb : ℕ → Vec Ideal S1x256 .f32) (prev : ℕ → Vec Ideal S8x256 .f32)

/-- The carried rows after `n` chunks: the last rows of the gate in the columns stored, what was there before in the others. -/
theorem canon_carry (n : ℕ) (hn : n ≤ 11) (j : Fin 8) (f : Fin 2816) :
    @Eq EReal (View.canon (carryL base x1 wg n) (ix2 j f))
      (if (f : ℕ) < 256 * n then upV x1 (wg (f / 256)) (ix2 ⟨504 + j, by omega⟩ ⟨f % 256, Nat.mod_lt _ (by norm_num)⟩)
        else View.canon base (ix2 j f)) := by
  induction n with
  | zero => rw [if_neg (by omega)]; rfl
  | succ n ih =>
    rw [carryL]
    by_cases h : 256 * n ≤ (f : ℕ) ∧ (f : ℕ) < 256 * n + 256
    · rw [if_pos (by omega)]
      have hm : n % 11 = n := Nat.mod_eq_of_lt (by omega)
      have : (ix2 j f : S8x2816.Idx) = (carryR n).emb (ix2 j ⟨f % 256, Nat.mod_lt _ (by norm_num)⟩ : S8x256.Idx) := by
        funext k; apply Fin.ext
        match k with
        | ⟨0, _⟩ => show (j : ℕ) = 0 + 1 * (j : ℕ); omega
        | ⟨1, _⟩ => show (f : ℕ) = 256 * (n % 11) + 1 * ((f : ℕ) % 256); omega
      rw [this]
      refine (View.canon_cons_emb _ _ _ _).trans ?_
      have hd : (f : ℕ) / 256 = n := by omega
      rw [hd]
      refine Eq.trans ?_ (last_apply _ _ _)
      pointwise
    · rw [View.canon_cons_of_not_mem, ih (by omega)]
      · by_cases h2 : (f : ℕ) < 256 * n
        · rw [if_pos h2, if_pos (by omega)]
        · rw [if_neg h2, if_neg (by omega)]
      · show _ ∉ (carryR n).set
        rw [carryR, Rect.mem_set_unit]
        intro hm
        have h1 : 256 * (n % 11) ≤ (f : ℕ) ∧ (f : ℕ) < 256 * (n % 11) + 256 := hm (1 : Fin 2)
        omega

/-- The activation after `n` chunks, in the columns stored. -/
theorem canon_act (n : ℕ) (hn : n ≤ 11) (r : Fin 512) (f : Fin 2816) (hf : (f : ℕ) < 256 * n) :
    @Eq EReal (View.canon (actL x1 wg wu c0 c1 c2 cb prev n) (ix2 r f))
      (actC x1 wg wu c0 c1 c2 cb prev (f / 256) (ix2 r ⟨f % 256, Nat.mod_lt _ (by norm_num)⟩)) := by
  induction n with
  | zero => omega
  | succ n ih =>
    rw [actL]
    by_cases h : 256 * n ≤ (f : ℕ)
    · have hm : n % 11 = n := Nat.mod_eq_of_lt (by omega)
      have : (ix2 r f : S512x2816.Idx) = (actR n).emb (ix2 r ⟨f % 256, Nat.mod_lt _ (by norm_num)⟩ : S512x256.Idx) := by
        funext k; apply Fin.ext
        match k with
        | ⟨0, _⟩ => show (r : ℕ) = 0 + 1 * (r : ℕ); omega
        | ⟨1, _⟩ => show (f : ℕ) = 256 * (n % 11) + 1 * ((f : ℕ) % 256); omega
      rw [this]
      refine (View.canon_cons_emb _ _ _ _).trans ?_
      have hd : (f : ℕ) / 256 = n := by omega
      rw [hd]
      pointwise
    · rw [View.canon_cons_of_not_mem, ih (by omega) (by omega)]
      show _ ∉ (actR n).set
      rw [actR, Rect.mem_set_unit]
      intro hm
      have h1 : 256 * (n % 11) ≤ (f : ℕ) ∧ (f : ℕ) < 256 * (n % 11) + 256 := hm (1 : Fin 2)
      omega

/-- Nothing is carried into the first tile of a batch entry. -/
theorem canon_zero (j : Fin 8) (f : Fin 2816) : @Eq EReal (View.canon (zeroL (F := Ideal)) (ix2 j f)) 0 := by
  rw [zeroL, View.canon_cons_unit_zero (by funext a; match a with | ⟨0, _⟩ => rfl | ⟨1, _⟩ => rfl)]
  pointwise
end

section
variable (w : Wts) (pre : Fin 16384 → Fin 1024 → EReal) (T : ℕ)

/-- The two stores of the normed residual, read at an index. -/
theorem canon_norm (t0 t1 : FVec Ideal S256x1024 .f32) (g b : Vec Ideal S1x1024 .f32)
    (h0 : ∀ (r : Fin 256) d, @Eq EReal (t0 (ix2 r d)) (pre (row T r) d))
    (h1 : ∀ (r : Fin 256) d, @Eq EReal (t1 (ix2 r d)) (pre (row T (256 + r)) d))
    (hg : ∀ d, @Eq EReal (g (ix2 0 d)) (w.g1 d)) (hb : ∀ d, @Eq EReal (b (ix2 0 d)) (w.b1 d)) (r : Fin 512) (d : Fin 1024) :
    @Eq EReal (View.canon (normL t0 t1 g b) (ix2 r d)) (X1 w pre (row T r) d) := by
  rw [normL, canon_half]
  split
  · rename_i h
    refine Eq.trans (b := lnV t0 g b (ix2 ⟨r, h⟩ d)) (by pointwise) ?_
    rw [ln_apply, X1]
    simp only [h0, hg, hb]
  · rename_i h
    refine Eq.trans (b := lnV t1 g b (ix2 ⟨r - 256, by omega⟩ d)) (by pointwise) ?_
    rw [ln_apply, X1]
    simp only [h1, hg, hb]
    have : 256 + ((r : ℕ) - 256) = r := by omega
    rw [this]

/-- The two stores of the result, read at an index. -/
theorem canon_fin (h : ℕ → Vec Ideal S256x1024 .f32) (a : ℕ → Vec Ideal S256x2816 .bf16) (wd : Vec Ideal S1x2816x1024 .bf16)
    (g b : Vec Ideal S1x1024 .f32)
    (hh : ∀ k, k < 2 → ∀ (r : Fin 256) d, @Eq EReal (h k (ix2 r d)) (X1 w pre (row T (256 * k + r)) d))
    (ha : ∀ k, k < 2 → ∀ (r : Fin 256) f, @Eq EReal (a k (ix2 r f)) (act w pre (row T (256 * k + r)) f))
    (hw : ∀ f d, @Eq EReal (wd (ix3 0 f d)) (w.dn f d))
    (hg : ∀ d, @Eq EReal (g (ix2 0 d)) (w.g2 d)) (hb : ∀ d, @Eq EReal (b (ix2 0 d)) (w.b2 d)) (r : Fin 512) (d : Fin 1024) :
    @Eq EReal (View.canon (finL (pre2V (h 0) (a 0) wd) (pre2V (h 1) (a 1) wd) g b) (ix2 r d)) (out w pre (row T r) d) := by
  rw [finL, canon_half]
  split
  · rename_i hr
    rw [ln_apply, out]
    simp only [pre2_apply, hh 0 (by norm_num), ha 0 (by norm_num), hw, hg, hb, Nat.mul_zero, Nat.zero_add]
  · rename_i hr
    rw [ln_apply, out]
    simp only [pre2_apply, hh 1 (by norm_num), ha 1 (by norm_num), hw, hg, hb]
    have : 256 * 1 + ((r : ℕ) - 256) = r := by omega
    rw [this]

variable (x1 : Vec Ideal S512x1024 .f32)
  (wg wu : ℕ → Vec Ideal S1x1024x256 .bf16) (c : ℕ → ℕ → Vec Ideal S1x256 .f32) (cb : ℕ → Vec Ideal S1x256 .f32)
  (prev : ℕ → Vec Ideal S8x256 .f32)
  (hx : ∀ (r : Fin 512) d, @Eq EReal (x1 (ix2 r d)) (X1 w pre (row T r) d))
  (hwg : ∀ (n : Fin 11) d (f : Fin 256), @Eq EReal (wg n (ix3 0 d f)) (w.up d (lo (col n f))))
  (hwu : ∀ (n : Fin 11) d (f : Fin 256), @Eq EReal (wu n (ix3 0 d f)) (w.up d (hi (col n f))))
  (hc : ∀ (k : Fin 3) (n : Fin 11) (f : Fin 256), @Eq EReal (c k n (ix2 0 f)) (w.cw k (col n f)))
  (hcb : ∀ (n : Fin 11) (f : Fin 256), @Eq EReal (cb n (ix2 0 f)) (w.cb (col n f)))
  (hp : ∀ (n : Fin 11) (j : Fin 8) (f : Fin 256), @Eq EReal (prev n (ix2 j f))
    (if T % 8 = 0 then 0 else gate w pre (row (T - 1) (504 + j)) (col n f)))

include hx hwg in
/-- A chunk of the gate is the specification's. -/
theorem gate_apply (n : Fin 11) (r : Fin 512) (f : Fin 256) :
    @Eq EReal (upV x1 (wg n) (ix2 r f)) (gate w pre (row T r) (col n f)) := by
  rw [up_apply, gate, upc]
  exact Finset.sum_congr rfl fun d _ => by rw [hx, hwg]

include hx hwu in
/-- A chunk of the other half is the specification's. -/
theorem upper_apply (n : Fin 11) (r : Fin 512) (f : Fin 256) :
    @Eq EReal (upV x1 (wu n) (ix2 r f)) (upc w pre (row T r) (hi (col n f))) := by
  rw [up_apply, upc]
  exact Finset.sum_congr rfl fun d _ => by rw [hx, hwu]

include hx hwg hp in
/-- The gate moved down by one or two rows, with the carried rows before it. -/
theorem shifted (hT : T < 32) (n : Fin 11) (r : Fin 512) (f : Fin 256) :
    @Eq EReal (shiftV 2#32 (upV x1 (wg n)) (prev n) (ix2 r f)) (back w pre 2 (row T r) (col n f))
    ∧ @Eq EReal (shiftV 1#32 (upV x1 (wg n)) (prev n) (ix2 r f)) (back w pre 1 (row T r) (col n f)) := by
  have hr : ((row T r : Fin 16384) : ℕ) = 512 * T + r := Nat.mod_eq_of_lt (by omega)
  constructor
  · rw [shift2_apply, back]
    split
    · rename_i h
      rw [hp]
      by_cases h0 : T % 8 = 0
      · rw [if_pos h0, if_pos (by omega)]
      · rw [if_neg h0, if_neg (by omega)]
        congr 1
        apply Fin.ext
        show (512 * (T - 1) + (504 + (6 + (r : ℕ)))) % 16384 = ((row T r : Fin 16384) : ℕ) - 2
        omega
    · rename_i h
      rw [if_neg (by omega), gate_apply w pre T x1 wg hx hwg]
      congr 1
      apply Fin.ext
      show (512 * T + ((r : ℕ) - 2)) % 16384 = ((row T r : Fin 16384) : ℕ) - 2
      omega
  · rw [shift1_apply, back]
    split
    · rename_i h
      rw [hp]
      by_cases h0 : T % 8 = 0
      · rw [if_pos h0, if_pos (by omega)]
      · rw [if_neg h0, if_neg (by omega)]
        congr 1
        apply Fin.ext
        show (512 * (T - 1) + (504 + (7 + (r : ℕ)))) % 16384 = ((row T r : Fin 16384) : ℕ) - 1
        omega
    · rename_i h
      rw [if_neg (by omega), gate_apply w pre T x1 wg hx hwg]
      congr 1
      apply Fin.ext
      show (512 * T + ((r : ℕ) - 1)) % 16384 = ((row T r : Fin 16384) : ℕ) - 1
      omega

include hx hwg hwu hc hcb hp in
/-- The activation of a tile. -/
theorem canon_act_eq (hT : T < 32) (r : Fin 512) (f : Fin 2816) :
    @Eq EReal (View.canon (actL x1 wg wu (c 0) (c 1) (c 2) cb prev 11) (ix2 r f)) (act w pre (row T r) f) := by
  obtain ⟨n, hn⟩ : ∃ n : Fin 11, (n : ℕ) = f / 256 := ⟨⟨f / 256, by omega⟩, rfl⟩
  obtain ⟨g, hg⟩ : ∃ g : Fin 256, (g : ℕ) = f % 256 := ⟨⟨f % 256, by omega⟩, rfl⟩
  have hf : f = col n g := Fin.ext (by show (f : ℕ) = 256 * n + g; omega)
  have hg' : (⟨f % 256, Nat.mod_lt _ (by norm_num)⟩ : Fin 256) = g := Fin.ext hg.symm
  rw [canon_act _ _ _ _ _ _ _ _ 11 le_rfl r f (by omega), hg', ← hn, actC, act_apply, conv_apply,
    (shifted w pre T x1 wg prev hx hwg hp hT n r g).1, (shifted w pre T x1 wg prev hx hwg hp hT n r g).2,
    gate_apply w pre T x1 wg hx hwg, upper_apply w pre T x1 wu hx hwu,
    show c 0 n (ix2 0 g) = _ from hc 0 n g, show c 1 n (ix2 0 g) = _ from hc 1 n g, show c 2 n (ix2 0 g) = _ from hc 2 n g, hcb, ← hf]
  rw [act, conv]

include hx hwg in
/-- The rows carried to the next tile. -/
theorem canon_carry_eq (base : List (View.Piece (Elt Ideal) S8x2816 .f32)) (j : Fin 8) (f : Fin 2816) :
    @Eq EReal (View.canon (carryL base x1 wg 11) (ix2 j f)) (gate w pre (row T (504 + j)) f) := by
  obtain ⟨n, hn⟩ : ∃ n : Fin 11, (n : ℕ) = f / 256 := ⟨⟨f / 256, by omega⟩, rfl⟩
  obtain ⟨g, hg⟩ : ∃ g : Fin 256, (g : ℕ) = f % 256 := ⟨⟨f % 256, by omega⟩, rfl⟩
  have hf : f = col n g := Fin.ext (by show (f : ℕ) = 256 * n + g; omega)
  have hg' : (⟨f % 256, Nat.mod_lt _ (by norm_num)⟩ : Fin 256) = g := Fin.ext hg.symm
  rw [canon_carry _ _ _ 11 le_rfl, if_pos (by omega), hg', ← hn, gate_apply w pre T x1 wg hx hwg, ← hf]
end
end Cert.Tail
-- ==== Proof.TailTile.lean ====
module
public import proofs.«01_k».proof.Proof.TailBlock
@[expose] public section
set_option maxRecDepth 65536
noncomputable section
/-! One grid point of a layer's end, of the two halves of its rows before the first norm and of the blocks of its weights. -/
namespace Cert.Tail
open Idealize.ShloMosaic Idealize.ShloMosaic.TcCoe Idealize.ShloMosaic.Tactic
open Cert.Kernel2Ideal Cert.Kernel2Ideal.Gen
open scoped BigOperators

section
variable {F : FTy → Type} [FloatOps F] {sig : RefSig}
  (mg1 : Memref sig .tc .vmem S1x1024 .f32) (hg1 : mg1.IsWhole) (mb1 : Memref sig .tc .vmem S1x1024 .f32) (hb1 : mb1.IsWhole)
  (mup : Memref sig .tc .vmem S1x1024x5632 .bf16) (hup : mup.IsWhole) (mcw : Memref sig .tc .vmem S8x2816 .f32) (hcw : mcw.IsWhole)
  (mcb : Memref sig .tc .vmem S1x2816 .f32) (hcb : mcb.IsWhole) (mdn : Memref sig .tc .vmem S1x2816x1024 .bf16) (hdn : mdn.IsWhole)
  (mg2 : Memref sig .tc .vmem S1x1024 .f32) (hg2 : mg2.IsWhole) (mb2 : Memref sig .tc .vmem S1x1024 .f32) (hb2 : mb2.IsWhole)
  (mca : Memref sig .tc .vmem S8x2816 .f32) (hca : mca.IsWhole) (mact : Memref sig .tc .vmem S512x2816 .bf16) (mres : Memref sig .tc .vmem S512x1024 .f32)
  (p0 p1 : FVec F S256x1024 .f32) (g1 b1 : Vec F S1x1024 .f32) (up : Vec F S1x1024x5632 .bf16) (cw : Vec F S8x2816 .f32)
  (cb : Vec F S1x2816 .f32) (dn : Vec F S1x2816x1024 .bf16) (g2 b2 : Vec F S1x1024 .f32)

/-- Chunk `n` of half `s` of the up projection's weights. -/
def upC (s n : ℕ) : Vec F S1x1024x256 .bf16 := View.readAt (Elt F) mup.view (upR s n).toLoadRect (hup.unread up)
/-- Tap `k` of the convolution's weights, chunk `n`. -/
def tapC (k n : ℕ) : Vec F S1x256 .f32 := View.readAt (Elt F) mcw.view (tapR k n) (hcw.unread cw)
/-- The convolution's bias, chunk `n`. -/
def biasC (n : ℕ) : Vec F S1x256 .f32 := View.readAt (Elt F) mcb.view (biasR n).toLoadRect (hcb.unread cb)
/-- A norm's weights or bias. -/
def vecC (a : Memref sig .tc .vmem S1x1024 .f32) (ha : a.IsWhole) (x : Vec F S1x1024 .f32) : Vec F S1x1024 .f32 :=
  View.readAt (Elt F) a.view (Rect.unit ![0, 0] S1x1024.size inb_S1x1024_S1x1024_0_0).toLoadRect (ha.unread x)
/-- The down projection's weights. -/
def downC : Vec F S1x2816x1024 .bf16 :=
  View.readAt (Elt F) mdn.view (Rect.unit ![0, 0, 0] S1x2816x1024.size inb_S1x2816x1024_S1x2816x1024_0_0_0).toLoadRect (hdn.unread dn)
/-- The stores of the residual after the first norm. -/
def resL : List (View.Piece (Elt F) S512x1024 .f32) := normL p0 p1 (vecC mg1 hg1 g1) (vecC mb1 hb1 b1)
/-- The residual read back. -/
def res : Vec F S512x1024 .f32 := mres.view.readCov (resL mg1 hg1 mb1 hb1 p0 p1 g1 b1) tileR.toLoadRect
/-- The stores into the carried rows. -/
def carL (base : List (View.Piece (Elt F) S8x2816 .f32)) (n : ℕ) : List (View.Piece (Elt F) S8x2816 .f32) :=
  carryL base (res mg1 hg1 mb1 hb1 mres p0 p1 g1 b1) (upC mup hup up 0) n
/-- The carried rows read at chunk `n`, in the first tile of a batch entry. -/
def prevA (n : ℕ) : Vec F S8x256 .f32 :=
  mca.view.readCov (carL mg1 hg1 mb1 hb1 mup hup mres p0 p1 g1 b1 up zeroL n) (carryR n).toLoadRect
/-- The carried rows read at chunk `n`, in a later tile. -/
def prevB (xs : Vec F S8x2816 .f32) (n : ℕ) : Vec F S8x256 .f32 :=
  View.readAt (Elt F) mca.view (carryR n).toLoadRect (hca.unread xs)
/-- Half `h` of the residual read back. -/
def resH (h : ℕ) : Vec F S256x1024 .f32 := mres.view.readCov (resL mg1 hg1 mb1 hb1 p0 p1 g1 b1) (half h).toLoadRect
/-- Half `h` of the activation read back. -/
def actH (prev : ℕ → Vec F S8x256 .f32) (h : ℕ) : Vec F S256x2816 .bf16 :=
  mact.view.readCov (actL (res mg1 hg1 mb1 hb1 mres p0 p1 g1 b1) (upC mup hup up 0) (upC mup hup up 1)
    (tapC mcw hcw cw 0) (tapC mcw hcw cw 1) (tapC mcw hcw cw 2) (biasC mcb hcb cb) prev 11) (halfA h).toLoadRect
/-- The result's stores. -/
def outL (prev : ℕ → Vec F S8x256 .f32) : List (View.Piece (Elt F) S512x1024 .f32) :=
  finL (pre2V (resH mg1 hg1 mb1 hb1 mres p0 p1 g1 b1 0) (actH mg1 hg1 mb1 hb1 mup hup mcw hcw mcb hcb mact mres p0 p1 g1 b1 up cw cb prev 0) (downC mdn hdn dn))
    (pre2V (resH mg1 hg1 mb1 hb1 mres p0 p1 g1 b1 1) (actH mg1 hg1 mb1 hb1 mup hup mcw hcw mcb hcb mact mres p0 p1 g1 b1 up cw cb prev 1) (downC mdn hdn dn))
    (vecC mg2 hg2 g2) (vecC mb2 hb2 b2)
end

/-! The positions the loads read. -/

/-- Where a half of the rows is read. -/
theorem idx_half (h : ℕ) (hh : h < 2) (r : Fin 256) (d : Fin 1024) :
    (half h).toLoadRect.idx (ix2 r d : S256x1024.Idx) = (ix2 ⟨256 * h + r, by omega⟩ d : S512x1024.Idx) := by
  funext k; apply Fin.ext
  match k with
  | ⟨0, _⟩ => show 256 * (h % 2) + 1 * (r : ℕ) = 256 * h + r; omega
  | ⟨1, _⟩ => show 0 + 1 * (d : ℕ) = d; omega
/-- Where a half of the activation is read. -/
theorem idx_halfA (h : ℕ) (hh : h < 2) (r : Fin 256) (f : Fin 2816) :
    (halfA h).toLoadRect.idx (ix2 r f : S256x2816.Idx) = (ix2 ⟨256 * h + r, by omega⟩ f : S512x2816.Idx) := by
  funext k; apply Fin.ext
  match k with
  | ⟨0, _⟩ => show 256 * (h % 2) + 1 * (r : ℕ) = 256 * h + r; omega
  | ⟨1, _⟩ => show 0 + 1 * (f : ℕ) = f; omega
/-- Where the whole tile is read. -/
theorem idx_tile (r : Fin 512) (d : Fin 1024) :
    tileR.toLoadRect.idx (ix2 r d : S512x1024.Idx) = (ix2 r d : S512x1024.Idx) := by
  funext k; apply Fin.ext
  match k with
  | ⟨0, _⟩ => show 0 + 1 * (r : ℕ) = r; omega
  | ⟨1, _⟩ => show 0 + 1 * (d : ℕ) = d; omega
/-- Where a chunk of the carried rows is read. -/
theorem idx_carry (n : Fin 11) (j : Fin 8) (f : Fin 256) :
    (carryR n).toLoadRect.idx (ix2 j f : S8x256.Idx) = (ix2 j (col n f) : S8x2816.Idx) := by
  funext k; apply Fin.ext
  match k with
  | ⟨0, _⟩ => show 0 + 1 * (j : ℕ) = j; omega
  | ⟨1, _⟩ => show 256 * ((n : ℕ) % 11) + 1 * (f : ℕ) = 256 * n + f; omega
/-- Where a chunk of the bias is read. -/
theorem idx_bias (n : Fin 11) (f : Fin 256) :
    (biasR n).toLoadRect.idx (ix2 0 f : S1x256.Idx) = (ix2 0 (col n f) : S1x2816.Idx) := by
  funext k; apply Fin.ext
  match k with
  | ⟨0, _⟩ => rfl
  | ⟨1, _⟩ => show 256 * ((n : ℕ) % 11) + 1 * (f : ℕ) = 256 * n + f; omega
/-- Where a chunk of a tap is read. -/
theorem idx_tap (t : Fin 3) (n : Fin 11) (f : Fin 256) :
    (tapR t n).idx (ix2 0 f : S1x256.Idx) = (ix2 ⟨t, by omega⟩ (col n f) : S8x2816.Idx) := by
  funext k; apply Fin.ext
  match k with
  | ⟨0, _⟩ => show 0 + (t : ℕ) % 3 + 1 * 0 = t; omega
  | ⟨1, _⟩ => show 256 * ((n : ℕ) % 11) + 0 + 1 * (f : ℕ) = 256 * n + f; omega
/-- Where a chunk of the up projection's weights is read. -/
theorem idx_up (s : ℕ) (hs : s < 2) (n : Fin 11) (d : Fin 1024) (f : Fin 256) :
    (upR s n).toLoadRect.idx (ix3 0 d f : S1x1024x256.Idx) = (ix3 0 d (⟨2816 * s + col n f, by omega⟩ : Fin 5632) : S1x1024x5632.Idx) := by
  funext k; apply Fin.ext
  match k with
  | ⟨0, _⟩ => rfl
  | ⟨1, _⟩ => show 0 + 1 * (d : ℕ) = d; omega
  | ⟨2, _⟩ => show 2816 * (s % 2) + 256 * ((n : ℕ) % 11) + 1 * (f : ℕ) = 2816 * s + (256 * n + f); omega
/-- Where the down projection's weights are read. -/
theorem idx_down (f : Fin 2816) (d : Fin 1024) :
    (Rect.unit ![0, 0, 0] S1x2816x1024.size inb_S1x2816x1024_S1x2816x1024_0_0_0).toLoadRect.idx (ix3 0 f d : S1x2816x1024.Idx)
      = (ix3 0 f d : S1x2816x1024.Idx) := by
  funext k; apply Fin.ext
  match k with
  | ⟨0, _⟩ => rfl
  | ⟨1, _⟩ => show 0 + 1 * (f : ℕ) = f; omega
  | ⟨2, _⟩ => show 0 + 1 * (d : ℕ) = d; omega
/-- Where a row of weights is read. -/
theorem idx_vec (d : Fin 1024) :
    (Rect.unit ![0, 0] S1x1024.size inb_S1x1024_S1x1024_0_0).toLoadRect.idx (ix2 0 d : S1x1024.Idx) = (ix2 0 d : S1x1024.Idx) := by
  funext k; apply Fin.ext
  match k with
  | ⟨0, _⟩ => rfl
  | ⟨1, _⟩ => show 0 + 1 * (d : ℕ) = d; omega

/-- Where the output projection's weights are read. -/
theorem idx_wo (e d : Fin 1024) :
    (Rect.unit ![0, 0] S1024x1024.size inb_S1024x1024_S1024x1024_0_0).toLoadRect.idx (ix2 e d : S1024x1024.Idx) = (ix2 e d : S1024x1024.Idx) := by
  funext k; apply Fin.ext
  match k with
  | ⟨0, _⟩ => show 0 + 1 * (e : ℕ) = e; omega
  | ⟨1, _⟩ => show 0 + 1 * (d : ℕ) = d; omega

/-- A load of a whole buffer's contents reads them at the load's position. -/
theorem readAt_unread {F : FTy → Type} {sig : RefSig} {s : Shape} {e : EltTy} (a : Memref sig .tc .vmem s e) (ha : a.IsWhole)
    (x : Vec F s e) (R : LoadRect s) (y : R.shape.Idx) : View.readAt (Elt F) a.view R (ha.unread x) y = x (R.idx y) := by
  rw [View.readAt_apply, Memref.IsWhole.read_unread]

section
variable {sig : RefSig}
  (mg1 : Memref sig .tc .vmem S1x1024 .f32) (hg1 : mg1.IsWhole) (mb1 : Memref sig .tc .vmem S1x1024 .f32) (hb1 : mb1.IsWhole)
  (mup : Memref sig .tc .vmem S1x1024x5632 .bf16) (hup : mup.IsWhole) (mcw : Memref sig .tc .vmem S8x2816 .f32) (hcw : mcw.IsWhole)
  (mcb : Memref sig .tc .vmem S1x2816 .f32) (hcb : mcb.IsWhole) (mdn : Memref sig .tc .vmem S1x2816x1024 .bf16) (hdn : mdn.IsWhole)
  (mg2 : Memref sig .tc .vmem S1x1024 .f32) (hg2 : mg2.IsWhole) (mb2 : Memref sig .tc .vmem S1x1024 .f32) (hb2 : mb2.IsWhole)
  (mca : Memref sig .tc .vmem S8x2816 .f32) (hca : mca.IsWhole) (mact : Memref sig .tc .vmem S512x2816 .bf16) (mres : Memref sig .tc .vmem S512x1024 .f32)
  (p0 p1 : FVec Ideal S256x1024 .f32) (g1 b1 : Vec Ideal S1x1024 .f32) (up : Vec Ideal S1x1024x5632 .bf16) (cw : Vec Ideal S8x2816 .f32)
  (cb : Vec Ideal S1x2816 .f32) (dn : Vec Ideal S1x2816x1024 .bf16) (g2 b2 : Vec Ideal S1x1024 .f32)
  (w : Wts) (pre : Fin 16384 → Fin 1024 → EReal) (T : ℕ)
  (e0 : ∀ (r : Fin 256) d, @Eq EReal (p0 (ix2 r d)) (pre (row T r) d))
  (e1 : ∀ (r : Fin 256) d, @Eq EReal (p1 (ix2 r d)) (pre (row T (256 + r)) d))
  (eg1 : ∀ d, @Eq EReal (g1 (ix2 0 d)) (w.g1 d)) (eb1 : ∀ d, @Eq EReal (b1 (ix2 0 d)) (w.b1 d))
  (eup : ∀ d f, @Eq EReal (up (ix3 0 d f)) (w.up d f)) (ecw : ∀ (k : Fin 3) f, @Eq EReal (cw (ix2 ⟨k, by omega⟩ f)) (w.cw k f))
  (ecb : ∀ f, @Eq EReal (cb (ix2 0 f)) (w.cb f)) (edn : ∀ f d, @Eq EReal (dn (ix3 0 f d)) (w.dn f d))
  (eg2 : ∀ d, @Eq EReal (g2 (ix2 0 d)) (w.g2 d)) (eb2 : ∀ d, @Eq EReal (b2 (ix2 0 d)) (w.b2 d))

/-- A norm's weights at an index. -/
theorem vecC_apply (a : Memref sig .tc .vmem S1x1024 .f32) (ha : a.IsWhole) (x : Vec Ideal S1x1024 .f32) (d : Fin 1024) :
    @Eq EReal (vecC a ha x (ix2 0 d)) (x (ix2 0 d)) := by
  exact (readAt_unread a ha x _ _).trans (congrArg x (idx_vec d))

include e0 e1 eg1 eb1 in
/-- The stores of the residual, read at an index. -/
theorem resL_apply (r : Fin 512) (d : Fin 1024) :
    @Eq EReal (View.canon (resL mg1 hg1 mb1 hb1 p0 p1 g1 b1) (ix2 r d)) (X1 w pre (row T r) d) :=
  canon_norm w pre T p0 p1 _ _ e0 e1 (fun d => (vecC_apply _ _ _ d).trans (eg1 d)) (fun d => (vecC_apply _ _ _ d).trans (eb1 d)) r d

include e0 e1 eg1 eb1 in
/-- The residual read back, at an index. -/
theorem res_apply (r : Fin 512) (d : Fin 1024) :
    @Eq EReal (res mg1 hg1 mb1 hb1 mres p0 p1 g1 b1 (ix2 r d)) (X1 w pre (row T r) d) := by
  rw [res, View.readCov_eq_canon']
  exact (congrArg _ (idx_tile r d)).trans (resL_apply mg1 hg1 mb1 hb1 p0 p1 g1 b1 w pre T e0 e1 eg1 eb1 r d)

include eup in
/-- A chunk of the gate's weights at an index. -/
theorem upC0_apply (n : Fin 11) (d : Fin 1024) (f : Fin 256) :
    @Eq EReal (upC mup hup up 0 n (ix3 0 d f)) (w.up d (lo (col n f))) := by
  refine (readAt_unread mup hup up _ _).trans ((congrArg up (idx_up 0 (by norm_num) n d f)).trans ((eup _ _).trans ?_))
  refine congrArg (w.up d) (Fin.ext ?_); show 2816 * 0 + (256 * (n : ℕ) + f) = 256 * n + f; omega
include eup in
/-- A chunk of the other half's weights at an index. -/
theorem upC1_apply (n : Fin 11) (d : Fin 1024) (f : Fin 256) :
    @Eq EReal (upC mup hup up 1 n (ix3 0 d f)) (w.up d (hi (col n f))) :=
  (readAt_unread mup hup up _ _).trans ((congrArg up (idx_up 1 (by norm_num) n d f)).trans (eup _ _))
include ecw in
/-- A tap at an index. -/
theorem tapC_apply (k : Fin 3) (n : Fin 11) (f : Fin 256) :
    @Eq EReal (tapC mcw hcw cw k n (ix2 0 f)) (w.cw k (col n f)) :=
  (readAt_unread mcw hcw cw _ _).trans ((congrArg cw (idx_tap k n f)).trans (ecw _ _))
include ecb in
/-- The bias at an index. -/
theorem biasC_apply (n : Fin 11) (f : Fin 256) :
    @Eq EReal (biasC mcb hcb cb n (ix2 0 f)) (w.cb (col n f)) :=
  (readAt_unread mcb hcb cb _ _).trans ((congrArg cb (idx_bias n f)).trans (ecb _))

include e0 e1 eg1 eb1 eup in
/-- What a tile leaves in the carried rows. -/
theorem carL_apply (base : List (View.Piece (Elt Ideal) S8x2816 .f32)) (j : Fin 8) (f : Fin 2816) :
    @Eq EReal (View.canon (carL mg1 hg1 mb1 hb1 mup hup mres p0 p1 g1 b1 up base 11) (ix2 j f)) (gate w pre (row T (504 + j)) f) :=
  canon_carry_eq w pre T _ _ (res_apply mg1 hg1 mb1 hb1 mres p0 p1 g1 b1 w pre T e0 e1 eg1 eb1) (upC0_apply mup hup up w eup) base j f

/-- In the first tile of a batch entry the carried rows are zero. -/
theorem prevA_apply (n : Fin 11) (j : Fin 8) (f : Fin 256) :
    @Eq EReal (prevA mg1 hg1 mb1 hb1 mup hup mca mres p0 p1 g1 b1 up n (ix2 j f)) 0 := by
  rw [prevA, View.readCov_eq_canon']
  refine (congrArg _ (idx_carry n j f)).trans ?_
  rw [carL, canon_carry _ _ _ n (by omega), if_neg (by show ¬ 256 * (n : ℕ) + f < 256 * n; omega), canon_zero]

/-- In a later tile the carried rows are those of the tile before. -/
theorem prevB_apply (xs : Vec Ideal S8x2816 .f32) (n : Fin 11) (j : Fin 8) (f : Fin 256) :
    @Eq EReal (prevB mca hca xs n (ix2 j f)) (xs (ix2 j (col n f))) :=
  (readAt_unread mca hca xs _ _).trans (congrArg xs (idx_carry n j f))

include e0 e1 eg1 eb1 eup ecw ecb edn eg2 eb2 in
/-- What a tile leaves in the result. -/
theorem outL_apply (hT : T < 32) (prev : ℕ → Vec Ideal S8x256 .f32)
    (hp : ∀ (n : Fin 11) (j : Fin 8) (f : Fin 256), @Eq EReal (prev n (ix2 j f))
      (if T % 8 = 0 then 0 else gate w pre (row (T - 1) (504 + j)) (col n f))) (r : Fin 512) (d : Fin 1024) :
    @Eq EReal (View.canon (outL mg1 hg1 mb1 hb1 mup hup mcw hcw mcb hcb mdn hdn mg2 hg2 mb2 hb2 mact mres p0 p1 g1 b1 up cw cb dn g2 b2 prev) (ix2 r d))
      (out w pre (row T r) d) := by
  refine canon_fin w pre T (resH mg1 hg1 mb1 hb1 mres p0 p1 g1 b1)
    (actH mg1 hg1 mb1 hb1 mup hup mcw hcw mcb hcb mact mres p0 p1 g1 b1 up cw cb prev) _ _ _ (fun k hk r d => ?_) (fun k hk r f => ?_)
    (fun f d => (readAt_unread mdn hdn dn _ _).trans ((congrArg dn (idx_down f d)).trans (edn f d)))
    (fun d => (vecC_apply _ _ _ d).trans (eg2 d)) (fun d => (vecC_apply _ _ _ d).trans (eb2 d)) r d
  · rw [resH, View.readCov_eq_canon']
    exact (congrArg _ (idx_half k hk r d)).trans (resL_apply mg1 hg1 mb1 hb1 p0 p1 g1 b1 w pre T e0 e1 eg1 eb1 _ d)
  · rw [actH, View.readCov_eq_canon']
    exact (congrArg _ (idx_halfA k hk r f)).trans (canon_act_eq w pre T _ _ _ (tapC mcw hcw cw) _ prev
      (res_apply mg1 hg1 mb1 hb1 mres p0 p1 g1 b1 w pre T e0 e1 eg1 eb1) (upC0_apply mup hup up w eup) (upC1_apply mup hup up w eup)
      (tapC_apply mcw hcw cw w ecw) (biasC_apply mcb hcb cb w ecb) hp hT _ f)
end
end Cert.Tail
-- ==== Proof.Tail2Run.lean ====
module
public import proofs.«01_k».proof.Proof.TailTile
public import proofs.«01_k».proof.Proof.Gen.Kernel2Ideal.Value
@[expose] public section
set_option maxRecDepth 65536
noncomputable section
/-! The stores of one grid point of the odd layer's end are the lists. -/
namespace Cert.Tail2
open Idealize.ShloMosaic Idealize.ShloMosaic.TcCoe Idealize.ShloMosaic.Tactic
open Cert.Kernel2Ideal Cert.Kernel2Ideal.Gen Cert.Tail
variable {F : FTy → Type} [FloatOps F]

/-- Half `h` of the rows before the first norm. -/
def preH (arg1 : Memref sig .tc .vmem S512x1024 .f32) (harg1 : arg1.IsWhole) (arg2 : Memref sig .tc .vmem S512x1024 .bf16) (harg2 : arg2.IsWhole)
    (arg3 : Memref sig .tc .vmem S1024x1024 .bf16) (harg3 : arg3.IsWhole)
    (x0 : Vec F S512x1024 .f32) (x1 : Vec F S512x1024 .bf16) (x2 : Vec F S1024x1024 .bf16) (h : ℕ) : FVec F S256x1024 .f32 :=
  preV (View.readAt (Elt F) arg1.view (half h).toLoadRect (harg1.unread x0)) (View.readAt (Elt F) arg2.view (half h).toLoadRect (harg2.unread x1))
    (View.readAt (Elt F) arg3.view (Rect.unit ![0, 0] S1024x1024.size inb_S1024x1024_S1024x1024_0_0).toLoadRect (harg3.unread x2))

/-- The result's stores, in the first tile of a batch entry. -/
theorem out_runA  (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S8x2816 .f32) (harg13 : arg13.IsWhole) (arg14 : Memref sig .tc .vmem S512x2816 .bf16) (harg14 : arg14.IsWhole) (arg15 : Memref sig .tc .vmem S512x1024 .f32) (harg15 : arg15.IsWhole) (hc0 : cond0_0 i)
    (x0 : Vec F S512x1024 .f32) (x1 : Vec F S512x1024 .bf16) (x2 : Vec F S1024x1024 .bf16) (x3 : Vec F S1x1024 .f32) (x4 : Vec F S1x1024 .f32) (x5 : Vec F S1x1024x5632 .bf16) (x6 : Vec F S8x2816 .f32) (x7 : Vec F S1x2816 .f32) (x8 : Vec F S1x2816x1024 .bf16) (x9 : Vec F S1x1024 .f32) (x10 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 = outL arg4 harg4 arg5 harg5 arg6 harg6 arg7 harg7 arg8 harg8 arg9 harg9 arg10 harg10 arg11 harg11 arg14 arg15
      (preH arg1 harg1 arg2 harg2 arg3 harg3 x0 x1 x2 0) (preH arg1 harg1 arg2 harg2 arg3 harg3 x0 x1 x2 1) x3 x4 x5 x6 x7 x8 x9 x10
      (prevA arg4 harg4 arg5 harg5 arg6 harg6 arg13 arg15 (preH arg1 harg1 arg2 harg2 arg3 harg3 x0 x1 x2 0) (preH arg1 harg1 arg2 harg2 arg3 harg3 x0 x1 x2 1) x3 x4 x5) := by
  sl_kernel_rfl

/-- The stores into the carried rows, in the first tile of a batch entry. -/
theorem carry_runA  (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S8x2816 .f32) (harg13 : arg13.IsWhole) (arg14 : Memref sig .tc .vmem S512x2816 .bf16) (harg14 : arg14.IsWhole) (arg15 : Memref sig .tc .vmem S512x1024 .f32) (harg15 : arg15.IsWhole) (hc0 : cond0_0 i)
    (x0 : Vec F S512x1024 .f32) (x1 : Vec F S512x1024 .bf16) (x2 : Vec F S1024x1024 .bf16) (x3 : Vec F S1x1024 .f32) (x4 : Vec F S1x1024 .f32) (x5 : Vec F S1x1024x5632 .bf16) (x6 : Vec F S8x2816 .f32) (x7 : Vec F S1x2816 .f32) (x8 : Vec F S1x2816x1024 .bf16) (x9 : Vec F S1x1024 .f32) (x10 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 = carL arg4 harg4 arg5 harg5 arg6 harg6 arg15 (preH arg1 harg1 arg2 harg2 arg3 harg3 x0 x1 x2 0) (preH arg1 harg1 arg2 harg2 arg3 harg3 x0 x1 x2 1) x3 x4 x5 zeroL 11 := by
  sl_kernel_rfl

/-- The result's stores, in a later tile. -/
theorem out_runB  (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S8x2816 .f32) (harg13 : arg13.IsWhole) (arg14 : Memref sig .tc .vmem S512x2816 .bf16) (harg14 : arg14.IsWhole) (arg15 : Memref sig .tc .vmem S512x1024 .f32) (harg15 : arg15.IsWhole) (hc0 : ¬cond0_0 i)
    (x0 : Vec F S512x1024 .f32) (x1 : Vec F S512x1024 .bf16) (x2 : Vec F S1024x1024 .bf16) (x3 : Vec F S1x1024 .f32) (x4 : Vec F S1x1024 .f32) (x5 : Vec F S1x1024x5632 .bf16) (x6 : Vec F S8x2816 .f32) (x7 : Vec F S1x2816 .f32) (x8 : Vec F S1x2816x1024 .bf16) (x9 : Vec F S1x1024 .f32) (x10 : Vec F S1x1024 .f32) (xs0 : Vec F S8x2816 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1 = outL arg4 harg4 arg5 harg5 arg6 harg6 arg7 harg7 arg8 harg8 arg9 harg9 arg10 harg10 arg11 harg11 arg14 arg15
      (preH arg1 harg1 arg2 harg2 arg3 harg3 x0 x1 x2 0) (preH arg1 harg1 arg2 harg2 arg3 harg3 x0 x1 x2 1) x3 x4 x5 x6 x7 x8 x9 x10
      (prevB arg13 harg13 xs0) := by
  sl_kernel_rfl

/-- The stores into the carried rows, in a later tile. -/
theorem carry_runB  (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S8x2816 .f32) (harg13 : arg13.IsWhole) (arg14 : Memref sig .tc .vmem S512x2816 .bf16) (harg14 : arg14.IsWhole) (arg15 : Memref sig .tc .vmem S512x1024 .f32) (harg15 : arg15.IsWhole) (hc0 : ¬cond0_0 i)
    (x0 : Vec F S512x1024 .f32) (x1 : Vec F S512x1024 .bf16) (x2 : Vec F S1024x1024 .bf16) (x3 : Vec F S1x1024 .f32) (x4 : Vec F S1x1024 .f32) (x5 : Vec F S1x1024x5632 .bf16) (x6 : Vec F S8x2816 .f32) (x7 : Vec F S1x2816 .f32) (x8 : Vec F S1x2816x1024 .bf16) (x9 : Vec F S1x1024 .f32) (x10 : Vec F S1x1024 .f32) (xs0 : Vec F S8x2816 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1 = carL arg4 harg4 arg5 harg5 arg6 harg6 arg15 (preH arg1 harg1 arg2 harg2 arg3 harg3 x0 x1 x2 0) (preH arg1 harg1 arg2 harg2 arg3 harg3 x0 x1 x2 1) x3 x4 x5 [] 11 := by
  sl_kernel_rfl

end Cert.Tail2
-- ==== Proof.TailScatter.lean ====
module
public import proofs.«01_k».proof.Proof.TailBlock
public import Idealize.ShloMosaic.Lib.Routing.OpsOne
@[expose] public section
set_option maxRecDepth 65536
noncomputable section
/-! The convolution's taps, written over the first rows of an array of zeros. -/
namespace Cert.Tail
open Idealize.ShloMosaic Idealize.ShloMosaic.TcCoe Idealize.ShloMosaic.Routing

/-- Writing three rows at row 0 of an array leaves them in its first three rows. -/
theorem scatter_rows (d : ScatterDims (shape2 8 2816) (shape1 1) (shape2 3 2816)) (huw : d.updateWindowDims = [0, 1]) (hiw : d.insertedWindowDims = [])
    (hsd : d.scatterDimsToOperandDims = [0]) (x0 : (shape2 8 2816).Idx → EReal) (idx : IVec (shape1 1) 32) (hidx : (idx (ValueIdx.ix1 0)).toInt = 0)
    (u : (shape2 3 2816).Idx → EReal) (k : Fin 3) (f : Fin 2816) :
    Host.scatter d (fun _ b => b) x0 idx u (ValueIdx.ix2 ⟨k, by omega⟩ f) = u (ValueIdx.ix2 k f) := by
  obtain ⟨uw, iw, sd, iv, wf⟩ := d
  dsimp only at huw hiw hsd
  subst huw hiw hsd
  have land : ∀ (k' : Fin 3) (f' : Fin 2816) (e : Fin 8) (g : Fin 2816),
      (ScatterDims.mk (s := shape2 8 2816) (si := shape1 1) (u := shape2 3 2816) [0, 1] [] [0] iv wf).resultIdx? (ValueIdx.ix2 k' f') idx = some (ValueIdx.ix2 e g)
        ↔ (k' : ℕ) = e ∧ (f' : ℕ) = g := by
    intro k' f' e g
    rw [Routing.resultIdx?_ix2]
    have s0 : (ScatterDims.mk (s := shape2 8 2816) (si := shape1 1) (u := shape2 3 2816) [0, 1] [] [0] iv wf).start (ValueIdx.ix2 k' f') idx 0 = 0 := by
      unfold ScatterDims.start
      rw [dif_pos (List.mem_singleton.2 rfl)]
      refine Eq.trans (congrArg (fun i => (idx i).toInt) ?_) hidx
      funext b
      match b with
      | ⟨0, _⟩ => exact Subsingleton.elim (α := Fin 1) _ _
    have s1 : (ScatterDims.mk (s := shape2 8 2816) (si := shape1 1) (u := shape2 3 2816) [0, 1] [] [0] iv wf).start (ValueIdx.ix2 k' f') idx 1 = 0 := by
      unfold ScatterDims.start
      rw [dif_neg fun h => absurd (List.mem_singleton.1 h) (by decide : (1 : Fin 2) ≠ 0)]
    have w0 : (ScatterDims.mk (s := shape2 8 2816) (si := shape1 1) (u := shape2 3 2816) [0, 1] [] [0] iv wf).window (ValueIdx.ix2 k' f') 0 = k' := rfl
    have w1 : (ScatterDims.mk (s := shape2 8 2816) (si := shape1 1) (u := shape2 3 2816) [0, 1] [] [0] iv wf).window (ValueIdx.ix2 k' f') 1 = f' := rfl
    rw [s0, s1, w0, w1]
    omega
  refine scatter_set_hit _ x0 idx u _ _ (fun j hj => ?_) (ValueIdx.ix2 k f) ((land k f ⟨k, by omega⟩ f).2 ⟨rfl, rfl⟩)
  have e := (congrArg (fun t => ScatterDims.resultIdx? _ t idx) (ValueIdx.eq_ix2 j).symm).trans hj
  have e' := (land _ _ _ _).1 e
  rw [ValueIdx.eq_ix2 j]
  exact congrArg₂ (fun a b => u (ValueIdx.ix2 a b)) (Fin.ext e'.1) (Fin.ext e'.2)
end Cert.Tail
-- ==== Proof.Tail2Tables.lean ====
module
public import proofs.«01_k».proof.Proof.Tail2Run
public import proofs.«01_k».proof.Proof.TailScatter
public import Idealize.ShloMosaic.Lib.Claim
public import Idealize.ShloMosaic.Lib.StableHlo.ReadAt
@[expose] public section
set_option maxRecDepth 65536
noncomputable section
/-! The blocks of the odd layer's end, read at an index. -/
namespace Cert.Tail2
open Idealize.ShloMosaic Idealize.ShloMosaic.TcCoe Idealize.ShloMosaic.Tactic
open Cert.Kernel2Ideal Cert.Kernel2Ideal.Gen Cert.Tail
open scoped BigOperators
open Idealize.SL.Sem
variable (m : (ℓ : Loc nD τ sig) → Buf (Elt Ideal) ℓ) (c : Dev nD)

/-- The weights of a layer's end, of the argument arrays; the two projections are those of layer `l`. -/
def wts (l : Fin 2) (g1 b1 : S1024.Idx → EReal) (up : S2x1024x5632.Idx → EReal) (cw : S3x2816.Idx → EReal) (cb : S2816.Idx → EReal)
    (dn : S2x2816x1024.Idx → EReal) (g2 b2 : S1024.Idx → EReal) : Wts where
  g1 d := g1 (ix1 d)
  b1 d := b1 (ix1 d)
  up d f := up (ix3 l d f)
  cw k f := cw (ix2 k f)
  cb f := cb (ix1 f)
  dn f d := dn (ix3 l f d)
  g2 d := g2 (ix1 d)
  b2 d := b2 (ix1 d)

/-- The rows before the first norm. -/
def preOf (x y : S16384x1024.Idx → EReal) (wo : S1024x1024.Idx → EReal) (R : Fin 16384) (d : Fin 1024) : EReal :=
  alpha * x (ix2 R d) + ∑ e : Fin 1024, y (ix2 R e) * wo (ix2 e d)

/-- Which block a grid point has of window 0. -/
theorem idx_0 : ∀ t : Fin grid0.N, win0_0.index t = ![(t : ℕ), 0] := by decide +kernel
/-- Which block a grid point has of window 1. -/
theorem idx_1 : ∀ t : Fin grid0.N, win0_1.index t = ![(t : ℕ), 0] := by decide +kernel
/-- Which block a grid point has of window 2. -/
theorem idx_2 : ∀ t : Fin grid0.N, win0_2.index t = ![0, 0] := by decide +kernel
/-- Which block a grid point has of window 3. -/
theorem idx_3 : ∀ t : Fin grid0.N, win0_3.index t = ![0, 0] := by decide +kernel
/-- Which block a grid point has of window 4. -/
theorem idx_4 : ∀ t : Fin grid0.N, win0_4.index t = ![0, 0] := by decide +kernel
/-- Which block a grid point has of window 5. -/
theorem idx_5 : ∀ t : Fin grid0.N, win0_5.index t = ![1, 0, 0] := by decide +kernel
/-- Which block a grid point has of window 6. -/
theorem idx_6 : ∀ t : Fin grid0.N, win0_6.index t = ![0, 0] := by decide +kernel
/-- Which block a grid point has of window 7. -/
theorem idx_7 : ∀ t : Fin grid0.N, win0_7.index t = ![0, 0] := by decide +kernel
/-- Which block a grid point has of window 8. -/
theorem idx_8 : ∀ t : Fin grid0.N, win0_8.index t = ![1, 0, 0] := by decide +kernel
/-- Which block a grid point has of window 9. -/
theorem idx_9 : ∀ t : Fin grid0.N, win0_9.index t = ![0, 0] := by decide +kernel
/-- Which block a grid point has of window 10. -/
theorem idx_10 : ∀ t : Fin grid0.N, win0_10.index t = ![0, 0] := by decide +kernel
/-- Which block a grid point has of window 11. -/
theorem idx_11 : ∀ t : Fin grid0.N, win0_11.index t = ![(t : ℕ), 0] := by decide +kernel

/-- The tile's row of the residual. -/
theorem blk_x (t : Fin cfg0.N) (r : Fin 512) (d : Fin 1024) :
    @Eq EReal (iblk m c 0 t (ix2 r d)) (m ((c : Thread nD τ).loc main_arg0) (ix2 (row t r) d)) := by
  have ht : (t : ℕ) < 32 := t.isLt
  have e : row t r = ⟨512 * t + r, by omega⟩ := Fin.ext (Nat.mod_eq_of_lt (by omega))
  rw [e]
  blk_ext [iblk, V, idx_0 t]
/-- The tile's row of the mixer's output. -/
theorem blk_y (t : Fin cfg0.N) (r : Fin 512) (d : Fin 1024) :
    @Eq EReal (iblk m c 1 t (ix2 r d)) (m ((c : Thread nD τ).loc main_arg1) (ix2 (row t r) d)) := by
  have ht : (t : ℕ) < 32 := t.isLt
  have e : row t r = ⟨512 * t + r, by omega⟩ := Fin.ext (Nat.mod_eq_of_lt (by omega))
  rw [e]
  blk_ext [iblk, V, idx_1 t]
/-- The output projection's weights. -/
theorem blk_wo (t : Fin cfg0.N) (e d : Fin 1024) :
    @Eq EReal (iblk m c 2 t (ix2 e d)) (m ((c : Thread nD τ).loc main_arg2) (ix2 e d)) := by
  blk_ext [iblk, V, idx_2 t]
/-- The first norm's weights. -/
theorem blk_g1 (t : Fin cfg0.N) (d : Fin 1024) :
    @Eq EReal (iblk m c 3 t (ix2 0 d)) (m ((c : Thread nD τ).loc main_arg3) (ix1 d)) := by
  refine Eq.trans (b := (V m c main_v3 (ix2 0 d) : EReal)) (by blk_ext [iblk, idx_3 t]) ?_
  unfold V
  after_reads_at
/-- The first norm's bias. -/
theorem blk_b1 (t : Fin cfg0.N) (d : Fin 1024) :
    @Eq EReal (iblk m c 4 t (ix2 0 d)) (m ((c : Thread nD τ).loc main_arg4) (ix1 d)) := by
  refine Eq.trans (b := (V m c main_v4 (ix2 0 d) : EReal)) (by blk_ext [iblk, idx_4 t]) ?_
  unfold V
  after_reads_at
/-- The convolution's bias. -/
theorem blk_cb (t : Fin cfg0.N) (d : Fin 2816) :
    @Eq EReal (iblk m c 7 t (ix2 0 d)) (m ((c : Thread nD τ).loc main_arg7) (ix1 d)) := by
  refine Eq.trans (b := (V m c main_v5 (ix2 0 d) : EReal)) (by blk_ext [iblk, idx_7 t]) ?_
  unfold V
  after_reads_at
/-- The second norm's weights. -/
theorem blk_g2 (t : Fin cfg0.N) (d : Fin 1024) :
    @Eq EReal (iblk m c 9 t (ix2 0 d)) (m ((c : Thread nD τ).loc main_arg9) (ix1 d)) := by
  refine Eq.trans (b := (V m c main_v6 (ix2 0 d) : EReal)) (by blk_ext [iblk, idx_9 t]) ?_
  unfold V
  after_reads_at
/-- The second norm's bias. -/
theorem blk_b2 (t : Fin cfg0.N) (d : Fin 1024) :
    @Eq EReal (iblk m c 10 t (ix2 0 d)) (m ((c : Thread nD τ).loc main_arg10) (ix1 d)) := by
  refine Eq.trans (b := (V m c main_v7 (ix2 0 d) : EReal)) (by blk_ext [iblk, idx_10 t]) ?_
  unfold V
  after_reads_at
/-- The up projection's weights. -/
theorem blk_up (t : Fin cfg0.N) (d : Fin 1024) (f : Fin 5632) :
    @Eq EReal (iblk m c 5 t (ix3 0 d f)) (m ((c : Thread nD τ).loc main_arg5) (ix3 1 d f)) := by
  blk_ext [iblk, V, idx_5 t]
/-- The down projection's weights. -/
theorem blk_dn (t : Fin cfg0.N) (f : Fin 2816) (d : Fin 1024) :
    @Eq EReal (iblk m c 8 t (ix3 0 f d)) (m ((c : Thread nD τ).loc main_arg8) (ix3 1 f d)) := by
  blk_ext [iblk, V, idx_8 t]
/-- The convolution's taps. -/
theorem blk_cw (t : Fin cfg0.N) (k : Fin 3) (f : Fin 2816) :
    @Eq EReal (iblk m c 6 t (ix2 ⟨k, by omega⟩ f)) (m ((c : Thread nD τ).loc main_arg6) (ix2 k f)) := by
  refine Eq.trans (b := (V m c main_v2 (ix2 ⟨k, by omega⟩ f) : EReal)) (by blk_ext [iblk, idx_6 t]) ?_
  unfold V
  after_reads_at
  exact scatter_rows _ rfl rfl rfl _ _ rfl _ k f
end Cert.Tail2
-- ==== Proof.Tail2Kernel.lean ====
module
public import proofs.«01_k».proof.Proof.Tail2Tables
@[expose] public section
set_option maxRecDepth 65536
set_option maxHeartbeats 1000000
noncomputable section
/-! The odd layer's end: what each tile leaves, and the result array. -/
namespace Cert.Tail2
open Idealize.ShloMosaic Idealize.ShloMosaic.TcCoe Idealize.ShloMosaic.Tactic
open Cert.Kernel2Ideal Cert.Kernel2Ideal.Gen Cert.Tail
open scoped BigOperators
open Idealize.SL.Sem

/-- A half of the rows before the first norm, of the tile's blocks. -/
theorem preH_apply (arg1 : Memref sig .tc .vmem S512x1024 .f32) (harg1 : arg1.IsWhole) (arg2 : Memref sig .tc .vmem S512x1024 .bf16) (harg2 : arg2.IsWhole)
    (arg3 : Memref sig .tc .vmem S1024x1024 .bf16) (harg3 : arg3.IsWhole)
    (x0 : Vec Ideal S512x1024 .f32) (x1 : Vec Ideal S512x1024 .bf16) (x2 : Vec Ideal S1024x1024 .bf16) (h : ℕ) (hh : h < 2) (r : Fin 256) (d : Fin 1024) :
    @Eq EReal (preH arg1 harg1 arg2 harg2 arg3 harg3 x0 x1 x2 h (ix2 r d))
      (alpha * x0 (ix2 ⟨256 * h + r, by omega⟩ d) + ∑ e : Fin 1024, x1 (ix2 ⟨256 * h + r, by omega⟩ e) * x2 (ix2 e d)) := by
  refine (pre_apply _ _ _ r d).trans ?_
  have q0 := fun d : Fin 1024 => (readAt_unread arg1 harg1 x0 (half h).toLoadRect (ix2 r d)).trans (congrArg x0 (idx_half h hh r d))
  have q1 := fun d : Fin 1024 => (readAt_unread arg2 harg2 x1 (half h).toLoadRect (ix2 r d)).trans (congrArg x1 (idx_half h hh r d))
  have q2 := fun e d : Fin 1024 => (readAt_unread arg3 harg3 x2 (Rect.unit ![0, 0] S1024x1024.size inb_S1024x1024_S1024x1024_0_0).toLoadRect
    (ix2 e d)).trans (congrArg x2 (idx_wo e d))
  exact congrArg₂ (fun a b : EReal => alpha * a + b) (q0 d) (Finset.sum_congr rfl fun e _ => congrArg₂ (fun a b : EReal => a * b) (q1 e) (q2 e d))

variable (m : (ℓ : Loc nD τ sig) → Buf (Elt Ideal) ℓ) (c : Dev nD)

/-- The weights among the arguments. -/
abbrev WM : Wts := wts 1 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The rows before the first norm, of the arguments. -/
abbrev PM : Fin 16384 → Fin 1024 → EReal := preOf (m ((c : Thread nD τ).loc main_arg0)) (m ((c : Thread nD τ).loc main_arg1)) (m ((c : Thread nD τ).loc main_arg2))

/-- A half of the rows before the first norm, of the arguments. -/
theorem pre_tile (t : Fin cfg0.N) (h : ℕ) (hh : h < 2) (r : Fin 256) (d : Fin 1024) :
    @Eq EReal (preH (ms0_0 t) (hs0_0 t) (ms0_1 t) (hs0_1 t) (ms0_2 t) (hs0_2 t) (iblk m c 0 t) (iblk m c 1 t) (iblk m c 2 t) h (ix2 r d))
      (PM m c (row t (256 * h + r)) d) := by
  refine (preH_apply _ _ _ _ _ _ _ _ _ h hh r d).trans ?_
  simp only [blk_x, blk_y, blk_wo, preOf]

/-- The carried rows after the first tile of a batch entry. -/
theorem carryA (t : Fin cfg0.N) (h0 : (t : ℕ) % 8 = 0) (j : Fin 8) (f : Fin 2816) :
    @Eq EReal ((outsAt0 m c t.val t.isLt).2 (ix2 j f)) (gate (WM m c) (PM m c) (row t (504 + j)) f) := by
  rw [outsAt0_A m c t h0]
  unfold sout0_A_0
  rw [View.read_writes_junk_eq_canon, carry_runA]
  exact carL_apply _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t) _ j f

/-- The carried rows after a later tile. -/
theorem carryB (t : Fin cfg0.N) (h0 : ¬ (t : ℕ) % 8 = 0) (j : Fin 8) (f : Fin 2816) :
    @Eq EReal ((outsAt0 m c t.val t.isLt).2 (ix2 j f)) (gate (WM m c) (PM m c) (row t (504 + j)) f) := by
  rw [outsAt0_B m c t h0]
  unfold sout0_B_0
  rw [View.read_writes_junk_eq_canon, carry_runB]
  exact carL_apply _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t) _ j f

/-- The carried rows after any tile. -/
theorem carry_eq (t : Fin cfg0.N) (j : Fin 8) (f : Fin 2816) :
    @Eq EReal ((outsAt0 m c t.val t.isLt).2 (ix2 j f)) (gate (WM m c) (PM m c) (row t (504 + j)) f) := by
  by_cases h0 : (t : ℕ) % 8 = 0
  · exact carryA m c t h0 j f
  · exact carryB m c t h0 j f

/-- The rows that the first tile of a batch entry finds carried. -/
theorem prevA_eq (t : Fin cfg0.N) (h0 : (t : ℕ) % 8 = 0) (n : Fin 11) (j : Fin 8) (f : Fin 256) :
    @Eq EReal (prevA (ms0_3 t) (hs0_3 t) (ms0_4 t) (hs0_4 t) (ms0_5 t) (hs0_5 t) scM0_0 scM0_2 (preH (ms0_0 t) (hs0_0 t) (ms0_1 t) (hs0_1 t) (ms0_2 t) (hs0_2 t) (iblk m c 0 t) (iblk m c 1 t) (iblk m c 2 t) 0) (preH (ms0_0 t) (hs0_0 t) (ms0_1 t) (hs0_1 t) (ms0_2 t) (hs0_2 t) (iblk m c 0 t) (iblk m c 1 t) (iblk m c 2 t) 1) (iblk m c 3 t) (iblk m c 4 t) (iblk m c 5 t) n (ix2 j f))
      (if (t : ℕ) % 8 = 0 then 0 else gate (WM m c) (PM m c) (row (t - 1) (504 + j)) (col n f)) := by
  rw [if_pos h0]
  exact (prevA_apply _ _ _ _ _ _ _ _ _ _ _ _ _ n j f)

/-- The result's rows of the first tile of a batch entry. -/
theorem outA (t : Fin cfg0.N) (h0 : (t : ℕ) % 8 = 0) (r : Fin 512) (d : Fin 1024) :
    @Eq EReal ((outsAt0 m c t.val t.isLt).1 (ix2 r d)) (out (WM m c) (PM m c) (row t r) d) := by
  rw [outsAt0_A m c t h0]
  unfold out0_A_11
  have ht : (t : ℕ) < 32 := t.isLt
  rw [View.read_writes_junk_eq_canon, out_runA]
  exact outL_apply _ _ _ _ _ _ _ _ _ _ _ _ _ _ _ _ _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t)
    (blk_cw m c t) (blk_cb m c t) (blk_dn m c t) (blk_g2 m c t) (blk_b2 m c t) ht _
    (prevA_eq m c t h0) r d

/-- The rows that a later tile finds carried. -/
theorem prevB_eq (t : Fin cfg0.N) (h0 : ¬ (t : ℕ) % 8 = 0) (n : Fin 11) (j : Fin 8) (f : Fin 256) :
    @Eq EReal (prevB scM0_0 (Memref.isWhole_whole _) (outsAt0 m c (t.val - 1) (Nat.lt_of_le_of_lt (Nat.sub_le _ _) t.isLt)).2 n (ix2 j f))
      (if (t : ℕ) % 8 = 0 then 0 else gate (WM m c) (PM m c) (row (t - 1) (504 + j)) (col n f)) := by
  rw [if_neg h0]
  exact ((prevB_apply _ _ _ n j f).trans (carry_eq m c ⟨(t : ℕ) - 1, by omega⟩ j (col n f)))

/-- The result's rows of a later tile. -/
theorem outB (t : Fin cfg0.N) (h0 : ¬ (t : ℕ) % 8 = 0) (r : Fin 512) (d : Fin 1024) :
    @Eq EReal ((outsAt0 m c t.val t.isLt).1 (ix2 r d)) (out (WM m c) (PM m c) (row t r) d) := by
  rw [outsAt0_B m c t h0]
  unfold out0_B_11
  have ht : (t : ℕ) < 32 := t.isLt
  rw [View.read_writes_junk_eq_canon, out_runB]
  exact outL_apply _ _ _ _ _ _ _ _ _ _ _ _ _ _ _ _ _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t)
    (blk_cw m c t) (blk_cb m c t) (blk_dn m c t) (blk_g2 m c t) (blk_b2 m c t) ht _
    (prevB_eq m c t h0) r d

/-- The result array after the kernel's run. -/
theorem result_eq : (dats m 0 c).arrAt 11 cfg0.N = fun i : S16384x1024.Idx => out (WM m c) (PM m c) (i 0) (i 1) := by
  refine (dats m 0 c).arrAt_eq_of_covers 11 _ (by decide +kernel) fun t hf y => ?_
  blk_simp
  rw [after0_11]
  idx_vars y
  have ht : (t : ℕ) < 32 := t.isLt
  have key : @Eq EReal ((outsAt0 m c t.val t.isLt).1 (ix2 y0 y1)) (out (WM m c) (PM m c) (row t y0) y1) := by
    by_cases h0 : (t : ℕ) % 8 = 0
    · exact outA m c t h0 y0 y1
    · exact outB m c t h0 y0 y1
  refine key.trans (congrArg₂ (out (WM m c) (PM m c)) (Fin.ext ?_) (Fin.ext ?_)).symm
  · blk_simp
    rw [idx_11 t]
    show (t : ℕ) * 512 + (y0 : ℕ) = (512 * t + y0) % 16384
    omega
  · blk_simp
    rw [idx_11 t]
    show 0 * 1024 + (y1 : ℕ) = y1
    omega
end Cert.Tail2
-- ==== Proof.TailRef.lean ====
module
public import proofs.«01_k».proof.Proof.TailSpec
public import proofs.«01_k».proof.Proof.Gen.Reference2Ideal.Read
@[expose] public section
set_option maxRecDepth 65536
noncomputable section
/-! The reference's end of a layer, after the rows before the first norm, read at an index. -/
namespace Cert.TailRef
open Idealize.ShloMosaic Idealize.ShloMosaic.TcCoe
open Cert.Reference2Ideal Cert.Reference2Ideal.Gen Cert.Tail
open scoped BigOperators

/-- The mean of each row. -/
def avg2 (t : FVec Ideal S16384x1024 .f32) : FVec Ideal S16384x1 .f32 :=
  Host.divf (broadcastInDim S16384x1 ![0] bcast_S16384_S16384x1_0 (Host.reduceAdd t (constant S_ .f32 0x00000000#32) reducesTo_S16384x1024_S16384_d1 h_S_))
    (broadcastInDim S16384x1 ![] bcast_S_S16384x1 (constant S_ .f32 0x44800000#32))
/-- Each row less its mean. -/
def dev2 (t : FVec Ideal S16384x1024 .f32) : FVec Ideal S16384x1024 .f32 :=
  subf t (broadcastInDim S16384x1024 ![0, 1] bcast_S16384x1_S16384x1024_0_1 (avg2 t))
/-- The norm of each row. -/
def ln2 (t : FVec Ideal S16384x1024 .f32) (g b : FVec Ideal S1024 .f32) : FVec Ideal S16384x1024 .f32 :=
  addf (mulf (mulf (dev2 t) (broadcastInDim S16384x1024 ![0, 1] bcast_S16384x1_S16384x1024_0_1
      (Host.rsqrt (addf (avg2 (mulf (dev2 t) (dev2 t))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))
/-- The up projection of the normed rows, a batch entry at a time. -/
def upG (h : FVec Ideal S16384x1024 .f32) (U : FVec Ideal S1024x5632 .f32) : FVec Ideal S4x4096x5632 .f32 :=
  Host.dotGeneral dot_S4x4096x1024_S1024x5632_S4x4096x5632_2_0_01_1_n_n none (shapeCast _ h shapeCasts_S16384x1024_S4x4096x1024) U
/-- The gate's half, two rows of zeros before it. -/
def padG (u : FVec Ideal S4x4096x5632 .f32) : FVec Ideal S4x4098x2816 .f32 :=
  pad S4x4098x2816 ![0, 2, 0] ![0, 0, 0] ![0, 0, 0] (extractStridedSlice S4x4096x2816 ![0, 0, 0] u slices_S4x4096x5632_S4x4096x2816_0_0_0)
    (sitofp .f32 (constantI S_ 32 0#32)) pads_S4x4096x2816_S4x4098x2816_000_200_000 h_S_
/-- A row of the convolution's weights, at every position. -/
def rowG (x : FVec Ideal S1x2816 .f32) : FVec Ideal S4x4096x2816 .f32 :=
  broadcastInDim S4x4096x2816 ![0, 1, 2] bcast_S1x1x2816_S4x4096x2816_0_1_2
    (broadcastInDim S1x1x2816 ![2] bcast_S2816_S1x1x2816_2 (shapeCast S2816 x shapeCasts_S1x2816_S2816))
/-- The convolution. -/
def convG (p : FVec Ideal S4x4098x2816 .f32) (w : FVec Ideal S3x2816 .f32) (b : FVec Ideal S2816 .f32) : FVec Ideal S4x4096x2816 .f32 :=
  addf (addf (addf
    (mulf (rowG (extractStridedSlice S1x2816 ![0, 0] w slices_S3x2816_S1x2816_0_0)) (extractStridedSlice S4x4096x2816 ![0, 0, 0] p slices_S4x4098x2816_S4x4096x2816_0_0_0))
    (mulf (rowG (extractStridedSlice S1x2816 ![1, 0] w slices_S3x2816_S1x2816_1_0)) (extractStridedSlice S4x4096x2816 ![0, 1, 0] p slices_S4x4098x2816_S4x4096x2816_0_1_0)))
    (mulf (rowG (extractStridedSlice S1x2816 ![2, 0] w slices_S3x2816_S1x2816_2_0)) (extractStridedSlice S4x4096x2816 ![0, 2, 0] p slices_S4x4098x2816_S4x4096x2816_0_2_0)))
    (broadcastInDim S4x4096x2816 ![0, 1, 2] bcast_S1x1x2816_S4x4096x2816_0_1_2 (broadcastInDim S1x1x2816 ![2] bcast_S2816_S1x1x2816_2 b))
/-- The activation. -/
def actG (v : FVec Ideal S4x4096x2816 .f32) (u : FVec Ideal S4x4096x5632 .f32) : FVec Ideal S4x4096x2816 .f32 :=
  mulf (mulf v (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf v)))))
    (extractStridedSlice S4x4096x2816 ![0, 0, 2816] u slices_S4x4096x5632_S4x4096x2816_0_0_2816)
/-- The rows before the second norm. -/
def pre2G (h : FVec Ideal S16384x1024 .f32) (a : FVec Ideal S4x4096x2816 .f32) (D : FVec Ideal S2816x1024 .f32) : FVec Ideal S4x4096x1024 .f32 :=
  addf (mulf (broadcastInDim S4x4096x1024 ![] bcast_S_S4x4096x1024 (constant S_ .f32 0x3FB504F3#32)) (shapeCast _ h shapeCasts_S16384x1024_S4x4096x1024))
    (Host.dotGeneral dot_S4x4096x2816_S2816x1024_S4x4096x1024_2_0_01_1_n_n none a D)
/-- The mean of each row of a batch entry. -/
def avg3 (t : FVec Ideal S4x4096x1024 .f32) : FVec Ideal S4x4096x1 .f32 :=
  Host.divf (broadcastInDim S4x4096x1 ![0, 1] bcast_S4x4096_S4x4096x1_0_1 (Host.reduceAdd t (constant S_ .f32 0x00000000#32) reducesTo_S4x4096x1024_S4x4096_d2 h_S_))
    (broadcastInDim S4x4096x1 ![] bcast_S_S4x4096x1 (constant S_ .f32 0x44800000#32))
/-- Each row of a batch entry less its mean. -/
def dev3 (t : FVec Ideal S4x4096x1024 .f32) : FVec Ideal S4x4096x1024 .f32 :=
  subf t (broadcastInDim S4x4096x1024 ![0, 1, 2] bcast_S4x4096x1_S4x4096x1024_0_1_2 (avg3 t))
/-- The norm of each row of a batch entry. -/
def ln3 (t : FVec Ideal S4x4096x1024 .f32) (g b : FVec Ideal S1024 .f32) : FVec Ideal S4x4096x1024 .f32 :=
  addf (mulf (mulf (dev3 t) (broadcastInDim S4x4096x1024 ![0, 1, 2] bcast_S4x4096x1_S4x4096x1024_0_1_2
      (Host.rsqrt (addf (avg3 (mulf (dev3 t) (dev3 t))) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S1x1x1024_S4x4096x1024_0_1_2 (broadcastInDim S1x1x1024 ![2] bcast_S1024_S1x1x1024_2 b))
/-- The end of a layer, of the rows before the first norm and the weights. -/
def endG (P : FVec Ideal S16384x1024 .f32) (g1 b1 : FVec Ideal S1024 .f32) (U : FVec Ideal S1024x5632 .f32) (cw : FVec Ideal S3x2816 .f32)
    (cb : FVec Ideal S2816 .f32) (D : FVec Ideal S2816x1024 .f32) (g2 b2 : FVec Ideal S1024 .f32) : FVec Ideal S16384x1024 .f32 :=
  shapeCast _ (ln3 (pre2G (ln2 P g1 b1) (actG (convG (padG (upG (ln2 P g1 b1) U)) cw cb) (upG (ln2 P g1 b1) U)) D) g2 b2) shapeCasts_S4x4096x1024_S16384x1024

/-- The mean of a row, over all rows. -/
theorem avg2_apply (t : FVec Ideal S16384x1024 .f32) (R : Fin 16384) : @Eq EReal (avg2 t (ix2 R 0)) (mean fun d => t (ix2 R d)) := by
  pointwise [avg2, mean]
/-- A row less its mean, over all rows. -/
theorem dev2_apply (t : FVec Ideal S16384x1024 .f32) (R : Fin 16384) (d : Fin 1024) :
    @Eq EReal (dev2 t (ix2 R d)) (t (ix2 R d) - mean fun d => t (ix2 R d)) := by
  rw [← avg2_apply]
  pointwise [dev2]
/-- The first norm at an index. -/
theorem ln2_apply (t : FVec Ideal S16384x1024 .f32) (g b : FVec Ideal S1024 .f32) (R : Fin 16384) (d : Fin 1024) :
    @Eq EReal (ln2 t g b (ix2 R d)) (LN (fun d => t (ix2 R d)) (fun d => g (ix1 d)) (fun d => b (ix1 d)) d) := by
  pointwise [ln2]
  simp only [avg2_apply, LN, ← dev2_apply]
  rfl
/-- The mean of a row, by sequence and position. -/
theorem avg3_apply (t : FVec Ideal S4x4096x1024 .f32) (e : Fin 4) (p : Fin 4096) : @Eq EReal (avg3 t (ix3 e p 0)) (mean fun d => t (ix3 e p d)) := by
  pointwise [avg3, mean]
/-- A row less its mean, by sequence and position. -/
theorem dev3_apply (t : FVec Ideal S4x4096x1024 .f32) (e : Fin 4) (p : Fin 4096) (d : Fin 1024) :
    @Eq EReal (dev3 t (ix3 e p d)) (t (ix3 e p d) - mean fun d => t (ix3 e p d)) := by
  rw [← avg3_apply]
  pointwise [dev3]
/-- The second norm at an index. -/
theorem ln3_apply (t : FVec Ideal S4x4096x1024 .f32) (g b : FVec Ideal S1024 .f32) (e : Fin 4) (p : Fin 4096) (d : Fin 1024) :
    @Eq EReal (ln3 t g b (ix3 e p d)) (LN (fun d => t (ix3 e p d)) (fun d => g (ix1 d)) (fun d => b (ix1 d)) d) := by
  pointwise [ln3]
  simp only [avg3_apply, LN, ← dev3_apply]
  rfl

/-- Position `p` of batch entry `e`. -/
abbrev rw3 (e : Fin 4) (p : Fin 4096) : Fin 16384 := ⟨e * 4096 + p, by omega⟩

/-- The up projection at an index. -/
theorem upG_apply (h : FVec Ideal S16384x1024 .f32) (U : FVec Ideal S1024x5632 .f32) (e : Fin 4) (p : Fin 4096) (f : Fin 5632) :
    @Eq EReal (upG h U (ix3 e p f)) (∑ d : Fin 1024, h (ix2 (rw3 e p) d) * U (ix2 d f)) := by
  pointwise [upG]
/-- The rows before the second norm at an index. -/
theorem pre2G_apply (h : FVec Ideal S16384x1024 .f32) (a : FVec Ideal S4x4096x2816 .f32) (D : FVec Ideal S2816x1024 .f32) (e : Fin 4) (p : Fin 4096) (d : Fin 1024) :
    @Eq EReal (pre2G h a D (ix3 e p d)) (alpha * h (ix2 (rw3 e p) d) + ∑ f : Fin 2816, a (ix3 e p f) * D (ix2 f d)) := by
  pointwise [pre2G, alpha]
/-- The padded gate at an index. -/
theorem padG_apply (u : FVec Ideal S4x4096x5632 .f32) (e : Fin 4) (p : Fin 4098) (f : Fin 2816) :
    @Eq EReal (padG u (ix3 e p f)) (if h : 2 ≤ (p : ℕ) then u (ix3 e ⟨p - 2, by omega⟩ (lo f)) else 0) := by
  pointwise [padG]
  by_cases h : 2 ≤ (p : ℕ)
  · rw [dif_pos ⟨h, by omega⟩, dif_pos h]
  · rw [dif_neg fun q => h q.1, dif_neg h]
    show (((0#32 : BitVec 32).toInt : ℝ) : EReal) = 0
    simp
/-- The convolution at an index. -/
theorem convG_apply (p : FVec Ideal S4x4098x2816 .f32) (w : FVec Ideal S3x2816 .f32) (b : FVec Ideal S2816 .f32) (e : Fin 4) (q : Fin 4096) (f : Fin 2816) :
    @Eq EReal (convG p w b (ix3 e q f)) (p (ix3 e ⟨q, by omega⟩ f) * w (ix2 0 f) + p (ix3 e ⟨1 + q, by omega⟩ f) * w (ix2 1 f)
      + p (ix3 e ⟨2 + q, by omega⟩ f) * w (ix2 2 f) + b (ix1 f)) := by
  pointwise [convG, rowG]
  exact congrArg (fun a : EReal => a + b (ix1 f)) (congrArg₂ (fun a b : EReal => a + b)
    (congrArg₂ (fun a b : EReal => a + b) (EReal.mul_comm _ _) (EReal.mul_comm _ _)) (EReal.mul_comm _ _))
/-- The activation at an index. -/
theorem actG_apply (v : FVec Ideal S4x4096x2816 .f32) (u : FVec Ideal S4x4096x5632 .f32) (e : Fin 4) (p : Fin 4096) (f : Fin 2816) :
    @Eq EReal (actG v u (ix3 e p f)) (v (ix3 e p f) * Ideal.logistic (v (ix3 e p f)) * u (ix3 e p (hi f))) := by
  pointwise [actG]
  rfl

section
variable (w : Wts) (pre : Fin 16384 → Fin 1024 → EReal) (P : FVec Ideal S16384x1024 .f32) (g1 b1 : FVec Ideal S1024 .f32)
  (U : FVec Ideal S1024x5632 .f32) (cw : FVec Ideal S3x2816 .f32) (cb : FVec Ideal S2816 .f32) (D : FVec Ideal S2816x1024 .f32)
  (g2 b2 : FVec Ideal S1024 .f32)
  (hP : ∀ R d, @Eq EReal (P (ix2 R d)) (pre R d)) (hg1 : ∀ d, @Eq EReal (g1 (ix1 d)) (w.g1 d)) (hb1 : ∀ d, @Eq EReal (b1 (ix1 d)) (w.b1 d))
  (hU : ∀ d f, @Eq EReal (U (ix2 d f)) (w.up d f)) (hcw : ∀ k f, @Eq EReal (cw (ix2 k f)) (w.cw k f)) (hcb : ∀ f, @Eq EReal (cb (ix1 f)) (w.cb f))
  (hD : ∀ f d, @Eq EReal (D (ix2 f d)) (w.dn f d)) (hg2 : ∀ d, @Eq EReal (g2 (ix1 d)) (w.g2 d)) (hb2 : ∀ d, @Eq EReal (b2 (ix1 d)) (w.b2 d))

include hP hg1 hb1 in
/-- The reference's first norm is the specification's. -/
theorem x1_eq (R : Fin 16384) (d : Fin 1024) : @Eq EReal (ln2 P g1 b1 (ix2 R d)) (X1 w pre R d) := by
  rw [ln2_apply, X1]
  simp only [hP, hg1, hb1]

include hP hg1 hb1 hU in
/-- The reference's up projection is the specification's. -/
theorem up_eq (e : Fin 4) (p : Fin 4096) (f : Fin 5632) : @Eq EReal (upG (ln2 P g1 b1) U (ix3 e p f)) (upc w pre (rw3 e p) f) := by
  rw [upG_apply, upc]
  exact Finset.sum_congr rfl fun d _ => congrArg₂ (fun a b : EReal => a * b) (x1_eq w pre P g1 b1 hP hg1 hb1 _ d) (hU d f)

include hP hg1 hb1 hU in
/-- The padded gate, `s` positions before `p`. -/
theorem pad_eq (s k : ℕ) (hs : s + k = 2) (e : Fin 4) (p : Fin 4096) (f : Fin 2816) :
    @Eq EReal (padG (upG (ln2 P g1 b1) U) (ix3 e ⟨k + p, by omega⟩ f)) (back w pre s (rw3 e p) f) := by
  rw [padG_apply, back]
  split
  · rename_i h
    have h' : 2 ≤ k + (p : ℕ) := h
    rw [if_neg (by show ¬ ((e : ℕ) * 4096 + p) % 4096 < s; omega), up_eq w pre P g1 b1 U hP hg1 hb1 hU, gate]
    refine congrArg (fun R => upc w pre R (lo f)) (Fin.ext ?_)
    show (e : ℕ) * 4096 + (k + (p : ℕ) - 2) = e * 4096 + p - s
    omega
  · rename_i h
    have h' : ¬ 2 ≤ k + (p : ℕ) := h
    rw [if_pos (by show ((e : ℕ) * 4096 + p) % 4096 < s; omega)]

include hP hg1 hb1 hU hcw hcb in
/-- The reference's convolution is the specification's. -/
theorem conv_eq (e : Fin 4) (p : Fin 4096) (f : Fin 2816) :
    @Eq EReal (convG (padG (upG (ln2 P g1 b1) U)) cw cb (ix3 e p f)) (conv w pre (rw3 e p) f) := by
  have q0 := pad_eq w pre P g1 b1 U hP hg1 hb1 hU 2 0 rfl e p f
  have q1 := pad_eq w pre P g1 b1 U hP hg1 hb1 hU 1 1 rfl e p f
  have q2 := pad_eq w pre P g1 b1 U hP hg1 hb1 hU 0 2 rfl e p f
  have z : back w pre 0 (rw3 e p) f = gate w pre (rw3 e p) f := if_neg (Nat.not_lt_zero _)
  have e0 : (⟨0 + (p : ℕ), by omega⟩ : Fin 4098) = ⟨p, by omega⟩ := Fin.ext (Nat.zero_add _)
  rw [e0] at q0
  rw [z] at q2
  rw [convG_apply, conv, q0, q1, q2, hcw, hcw, hcw, hcb]

include hP hg1 hb1 hU hcw hcb in
/-- The reference's activation is the specification's. -/
theorem act_eq (e : Fin 4) (p : Fin 4096) (f : Fin 2816) :
    @Eq EReal (actG (convG (padG (upG (ln2 P g1 b1) U)) cw cb) (upG (ln2 P g1 b1) U) (ix3 e p f)) (act w pre (rw3 e p) f) := by
  rw [actG_apply, conv_eq w pre P g1 b1 U cw cb hP hg1 hb1 hU hcw hcb, up_eq w pre P g1 b1 U hP hg1 hb1 hU, act]

include hP hg1 hb1 hU hcw hcb hD hg2 hb2 in
/-- The reference's end of a layer is the specification's. -/
theorem end_eq (R : Fin 16384) (d : Fin 1024) : @Eq EReal (endG P g1 b1 U cw cb D g2 b2 (ix2 R d)) (out w pre R d) := by
  obtain ⟨e, he⟩ : ∃ e : Fin 4, (e : ℕ) = R / 4096 := ⟨⟨R / 4096, by omega⟩, rfl⟩
  obtain ⟨p, hp⟩ : ∃ p : Fin 4096, (p : ℕ) = R % 4096 := ⟨⟨R % 4096, by omega⟩, rfl⟩
  have hR : rw3 e p = R := Fin.ext (by show (e : ℕ) * 4096 + p = R; omega)
  have s : @Eq EReal (endG P g1 b1 U cw cb D g2 b2 (ix2 R d)) (ln3 (pre2G (ln2 P g1 b1) (actG (convG (padG (upG (ln2 P g1 b1) U)) cw cb) (upG (ln2 P g1 b1) U)) D) g2 b2 (ix3 e p d)) := by
    unfold endG
    refine shapeCast_apply _ _ _ _ ?_
    rw [Shape.rowMajor_val_three, Shape.rowMajor_val_two]
    show ((e : ℕ) * 4096 + p) * 1024 + d = (R : ℕ) * 1024 + d
    omega
  rw [s, ln3_apply, out]
  simp only [pre2G_apply, x1_eq w pre P g1 b1 hP hg1 hb1, act_eq w pre P g1 b1 U cw cb hP hg1 hb1 hU hcw hcb, hD, hg2, hb2, hR]
end
end Cert.TailRef
-- ==== Proof.Tail2Ref.lean ====
module
public import proofs.«01_k».proof.Proof.TailRef
public import proofs.«01_k».proof.Proof.Tail2Tables
@[expose] public section
set_option maxRecDepth 65536
noncomputable section
/-! The odd layer's end in the reference. -/
namespace Cert.Tail2Ref
open Idealize.ShloMosaic Idealize.ShloMosaic.TcCoe
open Cert.Reference2Ideal Cert.Reference2Ideal.Gen Cert.Reference2Ideal.Read Cert.Tail Cert.TailRef
open scoped BigOperators

variable (x0 : Vec Ideal S16384x1024 .f32) (x1 : Vec Ideal S16384x1024 .bf16) (x2 : Vec Ideal S1024x1024 .bf16) (x3 x4 : Vec Ideal S1024 .f32)
  (x5 : Vec Ideal S2x1024x5632 .bf16) (x6 : Vec Ideal S3x2816 .f32) (x7 : Vec Ideal S2816 .f32) (x8 : Vec Ideal S2x2816x1024 .bf16)
  (x9 x10 : Vec Ideal S1024 .f32)

/-- The rows before the first norm. -/
theorem pre_apply (R : Fin 16384) (d : Fin 1024) : @Eq EReal (val_main_v5 (F := Ideal) x0 x1 x2 (ix2 R d)) (Cert.Tail2.preOf x0 x1 x2 R d) := by
  unfold Cert.Tail2.preOf
  pointwise [val_main_v5, val_main_v4, val_main_v3, val_main_cst, val_main_v2, val_main_v1, val_main_v0, alpha]

/-- The second layer's up projection. -/
theorem up_apply (d : Fin 1024) (f : Fin 5632) : @Eq EReal (val_main_v33 (F := Ideal) x5 (ix2 d f)) (x5 (ix3 1 d f)) := by
  pointwise [val_main_v33, val_main_v32, val_main_v31]

/-- The second layer's down projection. -/
theorem down_apply (f : Fin 2816) (d : Fin 1024) : @Eq EReal (val_main_v36 (F := Ideal) x8 (ix2 f d)) (x8 (ix3 1 f d)) := by
  pointwise [val_main_v36, val_main_v35, val_main_v34]

/-- The reference's result is the specification's. -/
theorem result_apply (R : Fin 16384) (d : Fin 1024) : @Eq EReal (val_main_v94 (F := Ideal) x0 x1 x2 x3 x4 x5 x6 x7 x8 x9 x10 (ix2 R d))
    (out (Cert.Tail2.wts 1 x3 x4 x5 x6 x7 x8 x9 x10) (Cert.Tail2.preOf x0 x1 x2) R d) :=
  (congrFun (show val_main_v94 (F := Ideal) x0 x1 x2 x3 x4 x5 x6 x7 x8 x9 x10
      = endG (val_main_v5 (F := Ideal) x0 x1 x2) x3 x4 (val_main_v33 (F := Ideal) x5) x6 x7 (val_main_v36 (F := Ideal) x8) x9 x10 from rfl) (ix2 R d)).trans
    (end_eq (Cert.Tail2.wts 1 x3 x4 x5 x6 x7 x8 x9 x10) (Cert.Tail2.preOf x0 x1 x2) _ _ _ _ _ _ _ _ _ (pre_apply x0 x1 x2)
      (fun _ => rfl) (fun _ => rfl) (up_apply x5) (fun _ _ => rfl) (fun _ => rfl) (down_apply x8) (fun _ => rfl) (fun _ => rfl) R d)
end Cert.Tail2Ref
-- ==== Proof.Tail2Claims.lean ====
module
public import proofs.«01_k».proof.Defs
public import proofs.«01_k».proof.Proof.Tail2Kernel
public import proofs.«01_k».proof.Proof.Tail2Ref
public import proofs.«01_k».proof.Proof.Gen.Kernel2.Frame
public import proofs.«01_k».proof.Proof.Gen.Kernel2Ideal.Frame
public import Idealize.ShloMosaic.Lib.Quiescent
@[expose] public section
noncomputable section
/-! The claims about the odd layer's end. -/
namespace Cert.Tail2
open Idealize.ShloMosaic Idealize.SL.Sem

/-- The kernel terminates and leaves its arguments and the counters as they were. -/
theorem frame_kernel : Cert.quiescent_Kernel2 (hKernel2 := Cert.Kernel2.Gen.facts) :=
  fun m ρ _ => Cert.Kernel2.Gen.frame m ρ
/-- So does its idealization. -/
theorem frame_kernelIdeal : Cert.quiescent_Kernel2Ideal (hKernel2Ideal := Cert.Kernel2Ideal.Gen.facts) :=
  fun m ρ _ => Cert.Kernel2Ideal.Gen.frame m ρ
/-- So does the reference, which has no semaphores. -/
theorem frame_referenceIdeal : Cert.quiescent_Reference2Ideal (hReference2Ideal := Cert.Reference2Ideal.Gen.facts) :=
  fun m ρ _ => (θ_run _ _ _).mono (fun r h => ⟨fun c => (h c).2, sem_eq_zero_of_no_sems rfl r.2⟩)
    (Cert.Reference2Ideal.Value.run m ρ)

/-- Over the extended reals the kernel's result is the reference's. -/
theorem algebraic : Cert.algebraic_Kernel2Ideal_Reference2Ideal (hKernel2Ideal := Cert.Kernel2Ideal.Gen.facts)
    (hReference2Ideal := Cert.Reference2Ideal.Gen.facts) :=
  fun m ρ m' ρ' _ hag => ⟨fun c => (Cert.Kernel2Ideal.Gen.dats m 0 c).arrAt 11 Cert.Kernel2Ideal.cfg0.N,
    Cert.Kernel2Ideal.Value.run_blocks m ρ,
    (θ_run _ _ _).mono (fun r h c => ⟨(h c).1.trans (by
      obtain ⟨h0, h1, h2, h3, h4, h5, h6, h7, h8, h9, h10⟩ := hag c
      refine (Cert.Reference2Ideal.Read.val_main_v94_eq _).trans (Eq.trans ?_ (result_eq m c).symm)
      funext i
      idx_vars i
      refine (Cert.Tail2Ref.result_apply _ _ _ _ _ _ _ _ _ _ _ i0 i1).trans ?_
      unfold WM PM
      rw [← h0, ← h1, ← h2, ← h3, ← h4, ← h5, ← h6, ← h7, ← h8, ← h9, ← h10]), (h c).2⟩) (Cert.Reference2Ideal.Value.run m' ρ')⟩
end Cert.Tail2
-- ==== Proof.Tail3Run.lean ====
module
public import proofs.«01_k».proof.Proof.TailTile
public import proofs.«01_k».proof.Proof.Gen.Kernel3Ideal.Value
@[expose] public section
set_option maxRecDepth 65536
noncomputable section
/-! The stores of one grid point of the even layer's end are the lists. -/
namespace Cert.Tail3
open Idealize.ShloMosaic Idealize.ShloMosaic.TcCoe Idealize.ShloMosaic.Tactic
open Cert.Kernel3Ideal Cert.Kernel3Ideal.Gen Cert.Tail
variable {F : FTy → Type} [FloatOps F]

/-- Half `h` of the rows lies among a mixer's output. -/
theorem inMix (h : ℕ) : ∀ a, (![256 * (h % 2), 0] : Fin 2 → Nat) a + S256x512.size a ≤ S512x512.size a := by
  have := Nat.mod_lt h (show 2 > 0 by norm_num)
  intro a
  match a with
  | ⟨0, _⟩ => show 256 * (h % 2) + 256 ≤ 512; omega
  | ⟨1, _⟩ => show 0 + 512 ≤ 512; omega
/-- The weights of mixer `k`'s columns lie among the projection's. -/
theorem inPart (k : ℕ) : ∀ a, (![512 * (k % 2), 0] : Fin 2 → Nat) a + S512x1024.size a ≤ S1024x1024.size a := by
  have := Nat.mod_lt k (show 2 > 0 by norm_num)
  intro a
  match a with
  | ⟨0, _⟩ => show 512 * (k % 2) + 512 ≤ 1024; omega
  | ⟨1, _⟩ => show 0 + 1024 ≤ 1024; omega
/-- Half `h` of the rows of one mixer's output. -/
def mixR (h : ℕ) : Rect S512x512 := Rect.unit ![256 * (h % 2), 0] S256x512.size (inMix h)
/-- The projection's weights of mixer `k`'s columns. -/
def partR (k : ℕ) : Rect S1024x1024 := Rect.unit ![512 * (k % 2), 0] S512x1024.size (inPart k)

/-- The scaled residual plus the output projection of both mixers, half a tile. -/
def pre3V (x : Vec F S256x1024 .f32) (y z : Vec F S256x512 .bf16) (u w : Vec F S512x1024 .bf16) : FVec F S256x1024 .f32 :=
  addf (mulf (broadcast S256x1024 (Scalar.ofBits .f32 0x3FB504F3#32)) x)
    (addf (matmul dot_S256x512_S512x1024_S256x1024_1_0_0_1_n_n none y u (constant S256x1024 .f32 0x00000000#32))
      (matmul dot_S256x512_S512x1024_S256x1024_1_0_0_1_n_n none z w (constant S256x1024 .f32 0x00000000#32)))

/-- Half `h` of the rows before the first norm. -/
def preH (arg1 : Memref sig .tc .vmem S512x1024 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x1024 .bf16) (harg4 : arg4.IsWhole)
    (x0 : Vec F S512x1024 .f32) (x1 x2 : Vec F S512x512 .bf16) (x3 : Vec F S1024x1024 .bf16) (h : ℕ) : FVec F S256x1024 .f32 :=
  pre3V (View.readAt (Elt F) arg1.view (half h).toLoadRect (harg1.unread x0)) (View.readAt (Elt F) arg2.view (mixR h).toLoadRect (harg2.unread x1))
    (View.readAt (Elt F) arg3.view (mixR h).toLoadRect (harg3.unread x2)) (View.readAt (Elt F) arg4.view (partR 0).toLoadRect (harg4.unread x3))
    (View.readAt (Elt F) arg4.view (partR 1).toLoadRect (harg4.unread x3))

/-- The result's stores, in the first tile of a batch entry. -/
theorem out_runA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S512x2816 .bf16) (harg15 : arg15.IsWhole) (arg16 : Memref sig .tc .vmem S512x1024 .f32) (harg16 : arg16.IsWhole) (hc0 : cond0_0 i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1x1024x5632 .bf16) (x7 : Vec F S8x2816 .f32) (x8 : Vec F S1x2816 .f32) (x9 : Vec F S1x2816x1024 .bf16) (x10 : Vec F S1x1024 .f32) (x11 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 = outL arg5 harg5 arg6 harg6 arg7 harg7 arg8 harg8 arg9 harg9 arg10 harg10 arg11 harg11 arg12 harg12 arg15 arg16
      (preH arg1 harg1 arg2 harg2 arg3 harg3 arg4 harg4 x0 x1 x2 x3 0) (preH arg1 harg1 arg2 harg2 arg3 harg3 arg4 harg4 x0 x1 x2 x3 1) x4 x5 x6 x7 x8 x9 x10 x11
      (prevA arg5 harg5 arg6 harg6 arg7 harg7 arg14 arg16 (preH arg1 harg1 arg2 harg2 arg3 harg3 arg4 harg4 x0 x1 x2 x3 0) (preH arg1 harg1 arg2 harg2 arg3 harg3 arg4 harg4 x0 x1 x2 x3 1) x4 x5 x6) := by
  sl_kernel_rfl

/-- The stores into the carried rows, in the first tile of a batch entry. -/
theorem carry_runA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S512x2816 .bf16) (harg15 : arg15.IsWhole) (arg16 : Memref sig .tc .vmem S512x1024 .f32) (harg16 : arg16.IsWhole) (hc0 : cond0_0 i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1x1024x5632 .bf16) (x7 : Vec F S8x2816 .f32) (x8 : Vec F S1x2816 .f32) (x9 : Vec F S1x2816x1024 .bf16) (x10 : Vec F S1x1024 .f32) (x11 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 = carL arg5 harg5 arg6 harg6 arg7 harg7 arg16 (preH arg1 harg1 arg2 harg2 arg3 harg3 arg4 harg4 x0 x1 x2 x3 0) (preH arg1 harg1 arg2 harg2 arg3 harg3 arg4 harg4 x0 x1 x2 x3 1) x4 x5 x6 zeroL 11 := by
  sl_kernel_rfl

/-- The result's stores, in a later tile. -/
theorem out_runB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S512x2816 .bf16) (harg15 : arg15.IsWhole) (arg16 : Memref sig .tc .vmem S512x1024 .f32) (harg16 : arg16.IsWhole) (hc0 : ¬cond0_0 i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1x1024x5632 .bf16) (x7 : Vec F S8x2816 .f32) (x8 : Vec F S1x2816 .f32) (x9 : Vec F S1x2816x1024 .bf16) (x10 : Vec F S1x1024 .f32) (x11 : Vec F S1x1024 .f32) (xs0 : Vec F S8x2816 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1 = outL arg5 harg5 arg6 harg6 arg7 harg7 arg8 harg8 arg9 harg9 arg10 harg10 arg11 harg11 arg12 harg12 arg15 arg16
      (preH arg1 harg1 arg2 harg2 arg3 harg3 arg4 harg4 x0 x1 x2 x3 0) (preH arg1 harg1 arg2 harg2 arg3 harg3 arg4 harg4 x0 x1 x2 x3 1) x4 x5 x6 x7 x8 x9 x10 x11
      (prevB arg14 harg14 xs0) := by
  sl_kernel_rfl

/-- The stores into the carried rows, in a later tile. -/
theorem carry_runB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S8x2816 .f32) (harg14 : arg14.IsWhole) (arg15 : Memref sig .tc .vmem S512x2816 .bf16) (harg15 : arg15.IsWhole) (arg16 : Memref sig .tc .vmem S512x1024 .f32) (harg16 : arg16.IsWhole) (hc0 : ¬cond0_0 i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1x1024x5632 .bf16) (x7 : Vec F S8x2816 .f32) (x8 : Vec F S1x2816 .f32) (x9 : Vec F S1x2816x1024 .bf16) (x10 : Vec F S1x1024 .f32) (x11 : Vec F S1x1024 .f32) (xs0 : Vec F S8x2816 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1 = carL arg5 harg5 arg6 harg6 arg7 harg7 arg16 (preH arg1 harg1 arg2 harg2 arg3 harg3 arg4 harg4 x0 x1 x2 x3 0) (preH arg1 harg1 arg2 harg2 arg3 harg3 arg4 harg4 x0 x1 x2 x3 1) x4 x5 x6 [] 11 := by
  sl_kernel_rfl

end Cert.Tail3
-- ==== Proof.Tail3Tables.lean ====
module
public import proofs.«01_k».proof.Proof.Tail3Run
public import proofs.«01_k».proof.Proof.Tail2Tables
@[expose] public section
set_option maxRecDepth 65536
noncomputable section
/-! The blocks of the even layer's end, read at an index. -/
namespace Cert.Tail3
open Idealize.ShloMosaic Idealize.ShloMosaic.TcCoe Idealize.ShloMosaic.Tactic
open Cert.Kernel3Ideal Cert.Kernel3Ideal.Gen Cert.Tail
open scoped BigOperators
open Idealize.SL.Sem
variable (m : (ℓ : Loc nD τ sig) → Buf (Elt Ideal) ℓ) (c : Dev nD)

/-- The rows before the first norm: the first half of the projection's rows meets the first mixer, the second half the second. -/
def preOf (x : S16384x1024.Idx → EReal) (y z : S16384x512.Idx → EReal) (wo : S1024x1024.Idx → EReal) (R : Fin 16384) (d : Fin 1024) : EReal :=
  alpha * x (ix2 R d) + ((∑ e : Fin 512, y (ix2 R e) * wo (ix2 (Fin.castAdd 512 e : Fin 1024) d))
    + ∑ e : Fin 512, z (ix2 R e) * wo (ix2 (Fin.natAdd 512 e : Fin 1024) d))

/-- Which block a grid point has of window 0. -/
theorem idx_0 : ∀ t : Fin grid0.N, win0_0.index t = ![(t : ℕ), 0] := by decide +kernel
/-- Which block a grid point has of window 1. -/
theorem idx_1 : ∀ t : Fin grid0.N, win0_1.index t = ![(t : ℕ), 0] := by decide +kernel
/-- Which block a grid point has of window 2. -/
theorem idx_2 : ∀ t : Fin grid0.N, win0_2.index t = ![(t : ℕ), 0] := by decide +kernel
/-- Which block a grid point has of window 3. -/
theorem idx_3 : ∀ t : Fin grid0.N, win0_3.index t = ![0, 0] := by decide +kernel
/-- Which block a grid point has of window 4. -/
theorem idx_4 : ∀ t : Fin grid0.N, win0_4.index t = ![0, 0] := by decide +kernel
/-- Which block a grid point has of window 5. -/
theorem idx_5 : ∀ t : Fin grid0.N, win0_5.index t = ![0, 0] := by decide +kernel
/-- Which block a grid point has of window 6. -/
theorem idx_6 : ∀ t : Fin grid0.N, win0_6.index t = ![0, 0, 0] := by decide +kernel
/-- Which block a grid point has of window 7. -/
theorem idx_7 : ∀ t : Fin grid0.N, win0_7.index t = ![0, 0] := by decide +kernel
/-- Which block a grid point has of window 8. -/
theorem idx_8 : ∀ t : Fin grid0.N, win0_8.index t = ![0, 0] := by decide +kernel
/-- Which block a grid point has of window 9. -/
theorem idx_9 : ∀ t : Fin grid0.N, win0_9.index t = ![0, 0, 0] := by decide +kernel
/-- Which block a grid point has of window 10. -/
theorem idx_10 : ∀ t : Fin grid0.N, win0_10.index t = ![0, 0] := by decide +kernel
/-- Which block a grid point has of window 11. -/
theorem idx_11 : ∀ t : Fin grid0.N, win0_11.index t = ![0, 0] := by decide +kernel
/-- Which block a grid point has of window 12. -/
theorem idx_12 : ∀ t : Fin grid0.N, win0_12.index t = ![(t : ℕ), 0] := by decide +kernel

/-- The number of a row in the whole array. -/
theorem row_eq (t : Fin cfg0.N) (r : Fin 512) : row t r = ⟨512 * t + r, by have ht : (t : ℕ) < 32 := t.isLt; omega⟩ :=
  Fin.ext (Nat.mod_eq_of_lt (by have ht : (t : ℕ) < 32 := t.isLt; omega))

/-- The tile's row of the residual. -/
theorem blk_x (t : Fin cfg0.N) (r : Fin 512) (d : Fin 1024) :
    @Eq EReal (iblk m c 0 t (ix2 r d)) (m ((c : Thread nD τ).loc main_arg0) (ix2 (row t r) d)) := by
  rw [row_eq]
  blk_ext [iblk, V, idx_0 t]
/-- The tile's row of retention's output. -/
theorem blk_y (t : Fin cfg0.N) (r : Fin 512) (d : Fin 512) :
    @Eq EReal (iblk m c 1 t (ix2 r d)) (m ((c : Thread nD τ).loc main_arg1) (ix2 (row t r) d)) := by
  rw [row_eq]
  blk_ext [iblk, V, idx_1 t]
/-- The tile's row of the dilated attention's output. -/
theorem blk_z (t : Fin cfg0.N) (r : Fin 512) (d : Fin 512) :
    @Eq EReal (iblk m c 2 t (ix2 r d)) (m ((c : Thread nD τ).loc main_arg2) (ix2 (row t r) d)) := by
  rw [row_eq]
  blk_ext [iblk, V, idx_2 t]
/-- The output projection's weights. -/
theorem blk_wo (t : Fin cfg0.N) (e d : Fin 1024) :
    @Eq EReal (iblk m c 3 t (ix2 e d)) (m ((c : Thread nD τ).loc main_arg3) (ix2 e d)) := by
  blk_ext [iblk, V, idx_3 t]
/-- The first norm's weights. -/
theorem blk_g1 (t : Fin cfg0.N) (d : Fin 1024) :
    @Eq EReal (iblk m c 4 t (ix2 0 d)) (m ((c : Thread nD τ).loc main_arg4) (ix1 d)) := by
  refine Eq.trans (b := (V m c main_v3 (ix2 0 d) : EReal)) (by blk_ext [iblk, idx_4 t]) ?_
  unfold V
  after_reads_at
/-- The first norm's bias. -/
theorem blk_b1 (t : Fin cfg0.N) (d : Fin 1024) :
    @Eq EReal (iblk m c 5 t (ix2 0 d)) (m ((c : Thread nD τ).loc main_arg5) (ix1 d)) := by
  refine Eq.trans (b := (V m c main_v4 (ix2 0 d) : EReal)) (by blk_ext [iblk, idx_5 t]) ?_
  unfold V
  after_reads_at
/-- The convolution's bias. -/
theorem blk_cb (t : Fin cfg0.N) (d : Fin 2816) :
    @Eq EReal (iblk m c 8 t (ix2 0 d)) (m ((c : Thread nD τ).loc main_arg8) (ix1 d)) := by
  refine Eq.trans (b := (V m c main_v5 (ix2 0 d) : EReal)) (by blk_ext [iblk, idx_8 t]) ?_
  unfold V
  after_reads_at
/-- The second norm's weights. -/
theorem blk_g2 (t : Fin cfg0.N) (d : Fin 1024) :
    @Eq EReal (iblk m c 10 t (ix2 0 d)) (m ((c : Thread nD τ).loc main_arg10) (ix1 d)) := by
  refine Eq.trans (b := (V m c main_v6 (ix2 0 d) : EReal)) (by blk_ext [iblk, idx_10 t]) ?_
  unfold V
  after_reads_at
/-- The second norm's bias. -/
theorem blk_b2 (t : Fin cfg0.N) (d : Fin 1024) :
    @Eq EReal (iblk m c 11 t (ix2 0 d)) (m ((c : Thread nD τ).loc main_arg11) (ix1 d)) := by
  refine Eq.trans (b := (V m c main_v7 (ix2 0 d) : EReal)) (by blk_ext [iblk, idx_11 t]) ?_
  unfold V
  after_reads_at
/-- The up projection's weights. -/
theorem blk_up (t : Fin cfg0.N) (d : Fin 1024) (f : Fin 5632) :
    @Eq EReal (iblk m c 6 t (ix3 0 d f)) (m ((c : Thread nD τ).loc main_arg6) (ix3 0 d f)) := by
  blk_ext [iblk, V, idx_6 t]
/-- The down projection's weights. -/
theorem blk_dn (t : Fin cfg0.N) (f : Fin 2816) (d : Fin 1024) :
    @Eq EReal (iblk m c 9 t (ix3 0 f d)) (m ((c : Thread nD τ).loc main_arg9) (ix3 0 f d)) := by
  blk_ext [iblk, V, idx_9 t]
/-- The convolution's taps. -/
theorem blk_cw (t : Fin cfg0.N) (k : Fin 3) (f : Fin 2816) :
    @Eq EReal (iblk m c 7 t (ix2 ⟨k, by omega⟩ f)) (m ((c : Thread nD τ).loc main_arg7) (ix2 k f)) := by
  refine Eq.trans (b := (V m c main_v2 (ix2 ⟨k, by omega⟩ f) : EReal)) (by blk_ext [iblk, idx_7 t]) ?_
  unfold V
  after_reads_at
  exact scatter_rows _ rfl rfl rfl _ _ rfl _ k f
end Cert.Tail3
-- ==== Proof.Tail3Kernel.lean ====
module
public import proofs.«01_k».proof.Proof.Tail3Tables
@[expose] public section
set_option maxRecDepth 65536
set_option maxHeartbeats 1000000
noncomputable section
/-! The even layer's end: what each tile leaves, and the result array. -/
namespace Cert.Tail3
open Idealize.ShloMosaic Idealize.ShloMosaic.TcCoe Idealize.ShloMosaic.Tactic
open Cert.Kernel3Ideal Cert.Kernel3Ideal.Gen Cert.Tail
open scoped BigOperators
open Idealize.SL.Sem

/-- Where a half of a mixer's rows is read. -/
theorem idx_mix (h : ℕ) (hh : h < 2) (r : Fin 256) (e : Fin 512) :
    (mixR h).toLoadRect.idx (ix2 r e : S256x512.Idx) = (ix2 ⟨256 * h + r, by omega⟩ e : S512x512.Idx) := by
  funext k; apply Fin.ext
  match k with
  | ⟨0, _⟩ => show 256 * (h % 2) + 1 * (r : ℕ) = 256 * h + r; omega
  | ⟨1, _⟩ => show 0 + 1 * (e : ℕ) = e; omega
/-- Where the first mixer's weights are read. -/
theorem idx_part0 (e : Fin 512) (d : Fin 1024) :
    (partR 0).toLoadRect.idx (ix2 e d : S512x1024.Idx) = (ix2 (Fin.castAdd 512 e : Fin 1024) d : S1024x1024.Idx) := by
  funext k; apply Fin.ext
  match k with
  | ⟨0, _⟩ => show 512 * (0 % 2) + 1 * (e : ℕ) = e; omega
  | ⟨1, _⟩ => show 0 + 1 * (d : ℕ) = d; omega
/-- Where the second mixer's weights are read. -/
theorem idx_part1 (e : Fin 512) (d : Fin 1024) :
    (partR 1).toLoadRect.idx (ix2 e d : S512x1024.Idx) = (ix2 (Fin.natAdd 512 e : Fin 1024) d : S1024x1024.Idx) := by
  funext k; apply Fin.ext
  match k with
  | ⟨0, _⟩ => show 512 * (1 % 2) + 1 * (e : ℕ) = 512 + e; omega
  | ⟨1, _⟩ => show 0 + 1 * (d : ℕ) = d; omega

/-- The rows before the first norm, at an index. -/
theorem pre3_apply (x : Vec Ideal S256x1024 .f32) (y z : Vec Ideal S256x512 .bf16) (u w : Vec Ideal S512x1024 .bf16) (r : Fin 256) (d : Fin 1024) :
    @Eq EReal (pre3V x y z u w (ix2 r d)) (alpha * x (ix2 r d) + ((∑ e, y (ix2 r e) * u (ix2 e d)) + ∑ e, z (ix2 r e) * w (ix2 e d))) := by
  pointwise [pre3V, alpha]

/-- A half of the rows before the first norm, of the tile's blocks. -/
theorem preH_apply (arg1 : Memref sig .tc .vmem S512x1024 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x1024 .bf16) (harg4 : arg4.IsWhole)
    (x0 : Vec Ideal S512x1024 .f32) (x1 x2 : Vec Ideal S512x512 .bf16) (x3 : Vec Ideal S1024x1024 .bf16) (h : ℕ) (hh : h < 2) (r : Fin 256) (d : Fin 1024) :
    @Eq EReal (preH arg1 harg1 arg2 harg2 arg3 harg3 arg4 harg4 x0 x1 x2 x3 h (ix2 r d))
      (alpha * x0 (ix2 ⟨256 * h + r, by omega⟩ d)
        + ((∑ e : Fin 512, x1 (ix2 ⟨256 * h + r, by omega⟩ e) * x3 (ix2 (Fin.castAdd 512 e : Fin 1024) d))
          + ∑ e : Fin 512, x2 (ix2 ⟨256 * h + r, by omega⟩ e) * x3 (ix2 (Fin.natAdd 512 e : Fin 1024) d))) := by
  refine (pre3_apply _ _ _ _ _ r d).trans ?_
  have q0 := fun d : Fin 1024 => (readAt_unread arg1 harg1 x0 (half h).toLoadRect (ix2 r d)).trans (congrArg x0 (idx_half h hh r d))
  have q1 := fun e : Fin 512 => (readAt_unread arg2 harg2 x1 (mixR h).toLoadRect (ix2 r e)).trans (congrArg x1 (idx_mix h hh r e))
  have q2 := fun e : Fin 512 => (readAt_unread arg3 harg3 x2 (mixR h).toLoadRect (ix2 r e)).trans (congrArg x2 (idx_mix h hh r e))
  have w0 := fun (e : Fin 512) (d : Fin 1024) => (readAt_unread arg4 harg4 x3 (partR 0).toLoadRect (ix2 e d)).trans (congrArg x3 (idx_part0 e d))
  have w1 := fun (e : Fin 512) (d : Fin 1024) => (readAt_unread arg4 harg4 x3 (partR 1).toLoadRect (ix2 e d)).trans (congrArg x3 (idx_part1 e d))
  exact congrArg₂ (fun a b : EReal => alpha * a + b) (q0 d) (congrArg₂ (fun a b : EReal => a + b)
    (Finset.sum_congr rfl fun e _ => congrArg₂ (fun a b : EReal => a * b) (q1 e) (w0 e d))
    (Finset.sum_congr rfl fun e _ => congrArg₂ (fun a b : EReal => a * b) (q2 e) (w1 e d)))

variable (m : (ℓ : Loc nD τ sig) → Buf (Elt Ideal) ℓ) (c : Dev nD)

/-- The weights among the arguments. -/
abbrev WM : Wts := Cert.Tail2.wts 0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The rows before the first norm, of the arguments. -/
abbrev PM : Fin 16384 → Fin 1024 → EReal := preOf (m ((c : Thread nD τ).loc main_arg0)) (m ((c : Thread nD τ).loc main_arg1)) (m ((c : Thread nD τ).loc main_arg2)) (m ((c : Thread nD τ).loc main_arg3))

/-- A half of the rows before the first norm, of the arguments. -/
theorem pre_tile (t : Fin cfg0.N) (h : ℕ) (hh : h < 2) (r : Fin 256) (d : Fin 1024) :
    @Eq EReal (preH (ms0_0 t) (hs0_0 t) (ms0_1 t) (hs0_1 t) (ms0_2 t) (hs0_2 t) (ms0_3 t) (hs0_3 t) (iblk m c 0 t) (iblk m c 1 t) (iblk m c 2 t) (iblk m c 3 t) h (ix2 r d))
      (PM m c (row t (256 * h + r)) d) := by
  refine (preH_apply _ _ _ _ _ _ _ _ _ _ _ _ h hh r d).trans ?_
  simp only [blk_x, blk_y, blk_z, blk_wo, preOf]

/-- The carried rows after the first tile of a batch entry. -/
theorem carryA (t : Fin cfg0.N) (h0 : (t : ℕ) % 8 = 0) (j : Fin 8) (f : Fin 2816) :
    @Eq EReal ((outsAt0 m c t.val t.isLt).2 (ix2 j f)) (gate (WM m c) (PM m c) (row t (504 + j)) f) := by
  rw [outsAt0_A m c t h0]
  unfold sout0_A_0
  rw [View.read_writes_junk_eq_canon, carry_runA]
  exact carL_apply _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t) _ j f

/-- The carried rows after a later tile. -/
theorem carryB (t : Fin cfg0.N) (h0 : ¬ (t : ℕ) % 8 = 0) (j : Fin 8) (f : Fin 2816) :
    @Eq EReal ((outsAt0 m c t.val t.isLt).2 (ix2 j f)) (gate (WM m c) (PM m c) (row t (504 + j)) f) := by
  rw [outsAt0_B m c t h0]
  unfold sout0_B_0
  rw [View.read_writes_junk_eq_canon, carry_runB]
  exact carL_apply _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t) _ j f

/-- The carried rows after any tile. -/
theorem carry_eq (t : Fin cfg0.N) (j : Fin 8) (f : Fin 2816) :
    @Eq EReal ((outsAt0 m c t.val t.isLt).2 (ix2 j f)) (gate (WM m c) (PM m c) (row t (504 + j)) f) := by
  by_cases h0 : (t : ℕ) % 8 = 0
  · exact carryA m c t h0 j f
  · exact carryB m c t h0 j f

/-- The rows that the first tile of a batch entry finds carried. -/
theorem prevA_eq (t : Fin cfg0.N) (h0 : (t : ℕ) % 8 = 0) (n : Fin 11) (j : Fin 8) (f : Fin 256) :
    @Eq EReal (prevA (ms0_4 t) (hs0_4 t) (ms0_5 t) (hs0_5 t) (ms0_6 t) (hs0_6 t) scM0_0 scM0_2 (preH (ms0_0 t) (hs0_0 t) (ms0_1 t) (hs0_1 t) (ms0_2 t) (hs0_2 t) (ms0_3 t) (hs0_3 t) (iblk m c 0 t) (iblk m c 1 t) (iblk m c 2 t) (iblk m c 3 t) 0) (preH (ms0_0 t) (hs0_0 t) (ms0_1 t) (hs0_1 t) (ms0_2 t) (hs0_2 t) (ms0_3 t) (hs0_3 t) (iblk m c 0 t) (iblk m c 1 t) (iblk m c 2 t) (iblk m c 3 t) 1) (iblk m c 4 t) (iblk m c 5 t) (iblk m c 6 t) n (ix2 j f))
      (if (t : ℕ) % 8 = 0 then 0 else gate (WM m c) (PM m c) (row (t - 1) (504 + j)) (col n f)) := by
  rw [if_pos h0]
  exact (prevA_apply _ _ _ _ _ _ _ _ _ _ _ _ _ n j f)

/-- The result's rows of the first tile of a batch entry. -/
theorem outA (t : Fin cfg0.N) (h0 : (t : ℕ) % 8 = 0) (r : Fin 512) (d : Fin 1024) :
    @Eq EReal ((outsAt0 m c t.val t.isLt).1 (ix2 r d)) (out (WM m c) (PM m c) (row t r) d) := by
  rw [outsAt0_A m c t h0]
  unfold out0_A_12
  have ht : (t : ℕ) < 32 := t.isLt
  rw [View.read_writes_junk_eq_canon, out_runA]
  exact outL_apply _ _ _ _ _ _ _ _ _ _ _ _ _ _ _ _ _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t)
    (blk_cw m c t) (blk_cb m c t) (blk_dn m c t) (blk_g2 m c t) (blk_b2 m c t) ht _
    (prevA_eq m c t h0) r d

/-- The rows that a later tile finds carried. -/
theorem prevB_eq (t : Fin cfg0.N) (h0 : ¬ (t : ℕ) % 8 = 0) (n : Fin 11) (j : Fin 8) (f : Fin 256) :
    @Eq EReal (prevB scM0_0 (Memref.isWhole_whole _) (outsAt0 m c (t.val - 1) (Nat.lt_of_le_of_lt (Nat.sub_le _ _) t.isLt)).2 n (ix2 j f))
      (if (t : ℕ) % 8 = 0 then 0 else gate (WM m c) (PM m c) (row (t - 1) (504 + j)) (col n f)) := by
  rw [if_neg h0]
  exact ((prevB_apply _ _ _ n j f).trans (carry_eq m c ⟨(t : ℕ) - 1, by omega⟩ j (col n f)))

/-- The result's rows of a later tile. -/
theorem outB (t : Fin cfg0.N) (h0 : ¬ (t : ℕ) % 8 = 0) (r : Fin 512) (d : Fin 1024) :
    @Eq EReal ((outsAt0 m c t.val t.isLt).1 (ix2 r d)) (out (WM m c) (PM m c) (row t r) d) := by
  rw [outsAt0_B m c t h0]
  unfold out0_B_12
  have ht : (t : ℕ) < 32 := t.isLt
  rw [View.read_writes_junk_eq_canon, out_runB]
  exact outL_apply _ _ _ _ _ _ _ _ _ _ _ _ _ _ _ _ _ _ _ _ _ _ _ _ _ _ _ _ (WM m c) (PM m c) t (fun r d => (pre_tile m c t 0 (by norm_num) r d).trans (by simp only [Nat.mul_zero, Nat.zero_add])) (fun r d => pre_tile m c t 1 (by norm_num) r d)
    (blk_g1 m c t) (blk_b1 m c t) (blk_up m c t)
    (blk_cw m c t) (blk_cb m c t) (blk_dn m c t) (blk_g2 m c t) (blk_b2 m c t) ht _
    (prevB_eq m c t h0) r d

/-- The result array after the kernel's run. -/
theorem result_eq : (dats m 0 c).arrAt 12 cfg0.N = fun i : S16384x1024.Idx => out (WM m c) (PM m c) (i 0) (i 1) := by
  refine (dats m 0 c).arrAt_eq_of_covers 12 _ (by decide +kernel) fun t hf y => ?_
  blk_simp
  rw [after0_12]
  idx_vars y
  have ht : (t : ℕ) < 32 := t.isLt
  have key : @Eq EReal ((outsAt0 m c t.val t.isLt).1 (ix2 y0 y1)) (out (WM m c) (PM m c) (row t y0) y1) := by
    by_cases h0 : (t : ℕ) % 8 = 0
    · exact outA m c t h0 y0 y1
    · exact outB m c t h0 y0 y1
  refine key.trans (congrArg₂ (out (WM m c) (PM m c)) (Fin.ext ?_) (Fin.ext ?_)).symm
  · blk_simp
    rw [idx_12 t]
    show (t : ℕ) * 512 + (y0 : ℕ) = (512 * t + y0) % 16384
    omega
  · blk_simp
    rw [idx_12 t]
    show 0 * 1024 + (y1 : ℕ) = y1
    omega
end Cert.Tail3
-- ==== Proof.Tail3Ref.lean ====
module
public import proofs.«01_k».proof.Proof.TailRef
public import proofs.«01_k».proof.Proof.Tail3Tables
public import proofs.«01_k».proof.Proof.Gen.Reference3Ideal.Read
@[expose] public section
set_option maxRecDepth 65536
noncomputable section
/-! The even layer's end in the reference. -/
namespace Cert.Tail3Ref
open Idealize.ShloMosaic Idealize.ShloMosaic.TcCoe
open Cert.Reference3Ideal Cert.Reference3Ideal.Gen Cert.Reference3Ideal.Read Cert.Tail Cert.TailRef
open scoped BigOperators

variable (x0 : Vec Ideal S16384x1024 .f32) (x1 x2 : Vec Ideal S16384x512 .bf16) (x3 : Vec Ideal S1024x1024 .bf16) (x4 x5 : Vec Ideal S1024 .f32)
  (x6 : Vec Ideal S2x1024x5632 .bf16) (x7 : Vec Ideal S3x2816 .f32) (x8 : Vec Ideal S2816 .f32) (x9 : Vec Ideal S2x2816x1024 .bf16)
  (x10 x11 : Vec Ideal S1024 .f32)

/-- The first 512 columns of the joined outputs are the first mixer's. -/
theorem cat_left (R : Fin 16384) (e : Fin 512) :
    @Eq EReal (val_main_v0 (F := Ideal) x1 x2 (ix2 R (Fin.castAdd 512 e : Fin 1024))) (x1 (ix2 R e)) :=
  concatenate_pair_apply_left (t := S16384x1024) (s₁ := S16384x512) (s₂ := S16384x512) 1 x1 x2 _ (ix2 R (Fin.castAdd 512 e : Fin 1024)) rfl (ix2 R e) (fun b => by
    match b with
    | ⟨0, _⟩ => rfl
    | ⟨1, _⟩ => rfl)

/-- The last 512 columns are the second mixer's. -/
theorem cat_right (R : Fin 16384) (e : Fin 512) :
    @Eq EReal (val_main_v0 (F := Ideal) x1 x2 (ix2 R (Fin.natAdd 512 e : Fin 1024))) (x2 (ix2 R e)) :=
  concatenate_pair_apply_right (t := S16384x1024) (s₁ := S16384x512) (s₂ := S16384x512) 1 x1 x2 _ (ix2 R (Fin.natAdd 512 e : Fin 1024)) rfl rfl (ix2 R e) (fun b hb => by
    match b with
    | ⟨0, _⟩ => rfl
    | ⟨1, _⟩ => exact absurd rfl hb) (Nat.add_comm (e : ℕ) 512)

/-- The rows before the first norm, of the joined outputs. -/
theorem joined_apply (R : Fin 16384) (d : Fin 1024) : @Eq EReal (val_main_v6 (F := Ideal) x0 x1 x2 x3 (ix2 R d))
    (alpha * x0 (ix2 R d) + ∑ e : Fin 1024, val_main_v0 (F := Ideal) x1 x2 (ix2 R e) * x3 (ix2 e d)) := by
  pointwise [val_main_v6, val_main_v5, val_main_v4, val_main_cst, val_main_v3, val_main_v2, val_main_v1, alpha]

/-- The rows before the first norm. -/
theorem pre_apply (R : Fin 16384) (d : Fin 1024) : @Eq EReal (val_main_v6 (F := Ideal) x0 x1 x2 x3 (ix2 R d)) (Cert.Tail3.preOf x0 x1 x2 x3 R d) := by
  refine (joined_apply x0 x1 x2 x3 R d).trans (congrArg (fun b : EReal => alpha * x0 (ix2 R d) + b) ?_)
  refine (Fin.sum_univ_add (a := 512) (b := 512) _).trans (congrArg₂ (fun a b : EReal => a + b) ?_ ?_)
  · exact Finset.sum_congr rfl fun e _ => congrArg (fun a : EReal => a * x3 (ix2 (Fin.castAdd 512 e : Fin 1024) d)) (cat_left x1 x2 R e)
  · exact Finset.sum_congr rfl fun e _ => congrArg (fun a : EReal => a * x3 (ix2 (Fin.natAdd 512 e : Fin 1024) d)) (cat_right x1 x2 R e)

/-- The first layer's up projection. -/
theorem up_apply (d : Fin 1024) (f : Fin 5632) : @Eq EReal (val_main_v34 (F := Ideal) x6 (ix2 d f)) (x6 (ix3 0 d f)) := by
  pointwise [val_main_v34, val_main_v33, val_main_v32]

/-- The first layer's down projection. -/
theorem down_apply (f : Fin 2816) (d : Fin 1024) : @Eq EReal (val_main_v37 (F := Ideal) x9 (ix2 f d)) (x9 (ix3 0 f d)) := by
  pointwise [val_main_v37, val_main_v36, val_main_v35]

/-- The reference's result is the specification's. -/
theorem result_apply (R : Fin 16384) (d : Fin 1024) : @Eq EReal (val_main_v95 (F := Ideal) x0 x1 x2 x3 x4 x5 x6 x7 x8 x9 x10 x11 (ix2 R d))
    (out (Cert.Tail2.wts 0 x4 x5 x6 x7 x8 x9 x10 x11) (Cert.Tail3.preOf x0 x1 x2 x3) R d) :=
  (congrFun (show val_main_v95 (F := Ideal) x0 x1 x2 x3 x4 x5 x6 x7 x8 x9 x10 x11
      = endG (val_main_v6 (F := Ideal) x0 x1 x2 x3) x4 x5 (val_main_v34 (F := Ideal) x6) x7 x8 (val_main_v37 (F := Ideal) x9) x10 x11 from rfl) (ix2 R d)).trans
    (end_eq (Cert.Tail2.wts 0 x4 x5 x6 x7 x8 x9 x10 x11) (Cert.Tail3.preOf x0 x1 x2 x3) _ _ _ _ _ _ _ _ _ (pre_apply x0 x1 x2 x3)
      (fun _ => rfl) (fun _ => rfl) (up_apply x6) (fun _ _ => rfl) (fun _ => rfl) (down_apply x9) (fun _ => rfl) (fun _ => rfl) R d)
end Cert.Tail3Ref
-- ==== Proof.Tail3Claims.lean ====
module
public import proofs.«01_k».proof.Defs
public import proofs.«01_k».proof.Proof.Tail3Kernel
public import proofs.«01_k».proof.Proof.Tail3Ref
public import proofs.«01_k».proof.Proof.Gen.Kernel3.Frame
public import proofs.«01_k».proof.Proof.Gen.Kernel3Ideal.Frame
public import Idealize.ShloMosaic.Lib.Quiescent
@[expose] public section
noncomputable section
/-! The claims about the even layer's end. -/
namespace Cert.Tail3
open Idealize.ShloMosaic Idealize.SL.Sem

/-- The kernel terminates and leaves its arguments and the counters as they were. -/
theorem frame_kernel : Cert.quiescent_Kernel3 (hKernel3 := Cert.Kernel3.Gen.facts) :=
  fun m ρ _ => Cert.Kernel3.Gen.frame m ρ
/-- So does its idealization. -/
theorem frame_kernelIdeal : Cert.quiescent_Kernel3Ideal (hKernel3Ideal := Cert.Kernel3Ideal.Gen.facts) :=
  fun m ρ _ => Cert.Kernel3Ideal.Gen.frame m ρ
/-- So does the reference, which has no semaphores. -/
theorem frame_referenceIdeal : Cert.quiescent_Reference3Ideal (hReference3Ideal := Cert.Reference3Ideal.Gen.facts) :=
  fun m ρ _ => (θ_run _ _ _).mono (fun r h => ⟨fun c => (h c).2, sem_eq_zero_of_no_sems rfl r.2⟩)
    (Cert.Reference3Ideal.Value.run m ρ)

/-- Over the extended reals the kernel's result is the reference's. -/
theorem algebraic : Cert.algebraic_Kernel3Ideal_Reference3Ideal (hKernel3Ideal := Cert.Kernel3Ideal.Gen.facts)
    (hReference3Ideal := Cert.Reference3Ideal.Gen.facts) :=
  fun m ρ m' ρ' _ hag => ⟨fun c => (Cert.Kernel3Ideal.Gen.dats m 0 c).arrAt 12 Cert.Kernel3Ideal.cfg0.N,
    Cert.Kernel3Ideal.Value.run_blocks m ρ,
    (θ_run _ _ _).mono (fun r h c => ⟨(h c).1.trans (by
      obtain ⟨h0, h1, h2, h3, h4, h5, h6, h7, h8, h9, h10, h11⟩ := hag c
      refine (Cert.Reference3Ideal.Read.val_main_v95_eq _).trans (Eq.trans ?_ (result_eq m c).symm)
      funext i
      idx_vars i
      refine (Cert.Tail3Ref.result_apply _ _ _ _ _ _ _ _ _ _ _ _ i0 i1).trans ?_
      unfold WM PM
      rw [← h0, ← h1, ← h2, ← h3, ← h4, ← h5, ← h6, ← h7, ← h8, ← h9, ← h10, ← h11]), (h c).2⟩) (Cert.Reference3Ideal.Value.run m' ρ')⟩
end Cert.Tail3
-- ==== Proof.ProjSpec.lean ====
module
public import Idealize.ShloMosaic.Lib.Pipeline.ValueKit
public import Idealize.ShloMosaic.Lib.Pointwise
public import Idealize.ShloMosaic.Lib.IdealHost
@[expose] public section
noncomputable section
/-! The odd layer's input projection over the extended reals, written on functions of row and feature: queries and keys
through a causal convolution of four taps and SiLU, values as they are, output gates through the logistic function, and the
input and forget gates of the heads. Row `R` is position `R % 4096` of batch entry `R / 4096`. -/
namespace Cert.Proj
open Idealize.ShloMosaic
open scoped BigOperators

/-- The rows and the weights of an input projection. -/
structure Ins where
  x : Fin 16384 → Fin 1024 → EReal
  w : Fin 1024 → Fin 4104 → EReal
  gb : Fin 8 → EReal
  cw : Fin 4 → Fin 2048 → EReal

/-- Feature `f` of chunk `n` of the convolution's features. -/
abbrev col (n : Fin 4) (f : Fin 512) : Fin 2048 := ⟨512 * n + f, by omega⟩
/-- The projection's column of the convolution's feature `f`. -/
abbrev lo (f : Fin 2048) : Fin 4104 := ⟨f, by omega⟩

variable (p : Ins)

/-- The projection of row `R` at column `f`. -/
def H (R : Fin 16384) (f : Fin 4104) : EReal := ∑ d : Fin 1024, p.x R d * p.w d f

/-- The projection `s` positions earlier, zero before the first position. -/
def back (s : ℕ) (R : Fin 16384) (f : Fin 2048) : EReal :=
  if (R : ℕ) % 4096 < s then 0 else H p ⟨R - s, by omega⟩ (lo f)

/-- The causal convolution of four taps. -/
def conv (R : Fin 16384) (f : Fin 2048) : EReal :=
  back p 3 R f * p.cw 0 f + back p 2 R f * p.cw 1 f + back p 1 R f * p.cw 2 f + H p R (lo f) * p.cw 3 f

/-- The convolution through SiLU. -/
def silu (R : Fin 16384) (f : Fin 2048) : EReal := conv p R f * Ideal.logistic (conv p R f)

/-- The queries. -/
def q (R : Fin 16384) (d : Fin 1024) : EReal := silu p R ⟨d, by omega⟩
/-- The keys, a feature of a row, scaled by the inverse root of the head's width. -/
def kt (d : Fin 1024) (R : Fin 16384) : EReal := silu p R ⟨1024 + d, by omega⟩ * Ideal.ofBits .f32 0x3D800000#32
/-- The values. -/
def v (R : Fin 16384) (d : Fin 1024) : EReal := H p R ⟨2048 + d, by omega⟩
/-- The output gates. -/
def o (R : Fin 16384) (d : Fin 1024) : EReal := Ideal.logistic (H p R ⟨3072 + d, by omega⟩)
/-- The gates of the heads before the logarithm of the logistic function. -/
def pre (g : Fin 8) (R : Fin 16384) : EReal := H p R ⟨4096 + g, by omega⟩ + p.gb g
/-- The logarithm of the logistic function. -/
def logsig (x : EReal) : EReal := min x 0 - Ideal.log1p (Ideal.exp (0 - max x (-x)))
/-- The gates of the heads: the four input gates, then the logarithms of the four forget gates. -/
def gates (g : Fin 8) (R : Fin 16384) : EReal := if (g : ℕ) < 4 then pre p g R else logsig (pre p g R)
end Cert.Proj
-- ==== Proof.ProjVec.lean ====
module
public import proofs.«01_k».proof.Proof.Gen.Kernel4Ideal.Frame
public import Idealize.ShloMosaic.Lib.Pipeline.ValueKit
public import Idealize.ShloMosaic.Lib.Pointwise
public import proofs.«01_k».proof.Proof.ProjSpec
@[expose] public section
set_option maxRecDepth 65536
noncomputable section
/-! What one grid point of the input projection computes, and each of it at an index. -/
namespace Cert.Proj
open Idealize.ShloMosaic Idealize.ShloMosaic.TcCoe Idealize.ShloMosaic.Tactic
open Cert.Kernel4Ideal Cert.Kernel4Ideal.Gen
open scoped BigOperators
variable {F : FTy → Type} [FloatOps F]

/-- One chunk of columns of the projection. -/
def hV (x : Vec F S1024x1024 .f32) (w : Vec F S1024x512 .bf16) : FVec F S1024x512 .f32 :=
  matmul dot_S1024x1024_S1024x512_S1024x512_1_0_0_1_n_n none (truncf .bf16 x bitsLt_bf16_f32)
    (shapeCast S1024x512 w shapeCasts_S1024x512_S1024x512) (constant S1024x512 .f32 0x00000000#32)

/-- The rows moved down by `s`, the first ones taken from the last rows of the tile before. -/
def shiftV (s : BitVec 32) (g : FVec F S1024x512 .f32) (p : Vec F S8x512 .f32) : FVec F S1024x512 .f32 :=
  concatenate S1024x512 0
    [⟨S8x512, select (cmpi .slt (iota .tc S8x512 32 [0] iota_S8x512_d0_w32) (broadcast S8x512 s))
        (dynamicRotate 0 s none p rotates_S8x512_d0)
        (extractStridedSlice S8x512 ![0, 0] (dynamicRotate 0 s none g rotates_S1024x512_d0) slices_S1024x512_o0_0_S8x512)⟩,
     ⟨S1016x512, extractStridedSlice S1016x512 ![8, 0] (dynamicRotate 0 s none g rotates_S1024x512_d0) slices_S1024x512_o8_0_S1016x512⟩]
    concatenates_S8x512_S1016x512_S1024x512_d0

/-- A row of weights beside every row of a tile. -/
def rowV (c : Vec F S1x512 .f32) : FVec F S1024x512 .f32 :=
  broadcastTo S1024x512 (shapeCast S1x512 c shapeCasts_S1x512_S1x512) broadcasts_S1x512_S1024x512

/-- The convolution of four taps. -/
def convV (g : FVec F S1024x512 .f32) (p : Vec F S8x512 .f32) (c0 c1 c2 c3 : Vec F S1x512 .f32) : FVec F S1024x512 .f32 :=
  addf (addf (addf (mulf (shiftV 3#32 g p) (rowV c0)) (mulf (shiftV 2#32 g p) (rowV c1))) (mulf (shiftV 1#32 g p) (rowV c2)))
    (mulf g (rowV c3))

/-- A convolution through SiLU. -/
def siluV (k : FVec F S1024x512 .f32) : FVec F S1024x512 .f32 := mulf k (logistic k)

/-- The queries' block of a convolution. -/
def qV (k : FVec F S1024x512 .f32) : FVec F S1024x512 .bf16 := truncf .bf16 (siluV k) bitsLt_bf16_f32
/-- The keys' block of a convolution. -/
def ktV (k : FVec F S1024x512 .f32) : FVec F S512x1024 .bf16 :=
  truncf .bf16 (transpose S512x1024 [1, 0] (mulf (siluV k) (broadcast S1024x512 (Scalar.ofBits .f32 0x3D800000#32)))
    transposes_S1024x512_p1_0_S512x1024) bitsLt_bf16_f32
/-- The values' block of a chunk. -/
def vV (h : FVec F S1024x512 .f32) : FVec F S1024x512 .bf16 := truncf .bf16 h bitsLt_bf16_f32
/-- The output gates' block of a chunk. -/
def oV (h : FVec F S1024x512 .f32) : FVec F S1024x512 .bf16 := truncf .bf16 (logistic h) bitsLt_bf16_f32

/-- The last eight rows of a chunk. -/
def lastV (g : FVec F S1024x512 .f32) : FVec F S8x512 .f32 :=
  extractStridedSlice S8x512 ![1016, 0] g slices_S1024x512_o1016_0_S8x512

/-- The heads' gates before the logarithm, a gate a row. -/
def preV (x : Vec F S1024x1024 .f32) (w : Vec F S1024x128 .bf16) (b : Vec F S1x128 .f32) : FVec F S8x1024 .f32 :=
  extractStridedSlice S8x1024 ![0, 0] (transpose S128x1024 [1, 0]
    (addf (matmul dot_S1024x1024_S1024x128_S1024x128_1_0_0_1_n_n none (truncf .bf16 x bitsLt_bf16_f32)
        (shapeCast S1024x128 w shapeCasts_S1024x128_S1024x128) (constant S1024x128 .f32 0x00000000#32))
      (broadcastTo S1024x128 (shapeCast S1x128 b shapeCasts_S1x128_S1x128) broadcasts_S1x128_S1024x128))
    transposes_S1024x128_p1_0_S128x1024) slices_S128x1024_o0_0_S8x1024

/-- The heads' gates: the first four rows as they are, the others through the logarithm of the logistic function. -/
def gatesV (g : FVec F S8x1024 .f32) : FVec F S8x1024 .f32 :=
  select (broadcastTo S8x1024 (shapeCast S8x1 (cmpi .slt (iota .tc S8x1 32 [0] iota_S8x1_d0_w32) (broadcast S8x1 4#32))
      shapeCasts_S8x1_S8x1) broadcasts_S8x1_S8x1024) g
    (subf (minimumf g (broadcast S8x1024 (Scalar.ofBits .f32 0x00000000#32)))
      (log1p (exp (subf (broadcast S8x1024 (Scalar.ofBits .f32 0x00000000#32)) (absf g)))))

/-- Which of eight rows are before the fourth. -/
theorem lt_three : ∀ r : Fin 8, IntOp.cmpi .slt (BitVec.ofNat 32 (r : ℕ)) 3#32 = if (r : ℕ) < 3 then 1#1 else 0#1 := by decide
/-- Which of eight rows are before the third. -/
theorem lt_two : ∀ r : Fin 8, IntOp.cmpi .slt (BitVec.ofNat 32 (r : ℕ)) 2#32 = if (r : ℕ) < 2 then 1#1 else 0#1 := by decide
/-- Which of eight rows are before the second. -/
theorem lt_one : ∀ r : Fin 8, IntOp.cmpi .slt (BitVec.ofNat 32 (r : ℕ)) 1#32 = if (r : ℕ) < 1 then 1#1 else 0#1 := by decide
/-- Which of eight rows are before the fifth. -/
theorem lt_four : ∀ r : Fin 8, IntOp.cmpi .slt (BitVec.ofNat 32 (r : ℕ)) 4#32 = if (r : ℕ) < 4 then 1#1 else 0#1 := by decide

/-- The rows moved down by three, at an index. -/
theorem shift3_apply (g : FVec Ideal S1024x512 .f32) (p : Vec Ideal S8x512 .f32) (r : Fin 1024) (f : Fin 512) :
    shiftV 3#32 g p (ix2 r f) = if h : (r : ℕ) < 3 then p (ix2 ⟨5 + r, by omega⟩ f) else g (ix2 ⟨r - 3, by omega⟩ f) := by
  pointwise [shiftV]
  by_cases h8 : (r : ℕ) < 8
  · rw [dif_pos h8, lt_three ⟨r, h8⟩]
    by_cases h2 : (r : ℕ) < 3
    · simp only [h2, if_true, dif_pos]
      show p _ = p _
      congr 2; ext; show ((r : ℕ) + 8 - 3) % 8 = 5 + r; omega
    · simp only [h2, if_false, dif_neg, not_false_eq_true]
      show g _ = g _
      congr 2; ext; show ((r : ℕ) + 1024 - 3) % 1024 = r - 3; omega
  · rw [dif_neg h8, dif_neg (by omega)]
    congr 2; ext; show (8 + ((r : ℕ) - 8) + 1024 - 3) % 1024 = r - 3; omega

/-- The rows moved down by two, at an index. -/
theorem shift2_apply (g : FVec Ideal S1024x512 .f32) (p : Vec Ideal S8x512 .f32) (r : Fin 1024) (f : Fin 512) :
    shiftV 2#32 g p (ix2 r f) = if h : (r : ℕ) < 2 then p (ix2 ⟨6 + r, by omega⟩ f) else g (ix2 ⟨r - 2, by omega⟩ f) := by
  pointwise [shiftV]
  by_cases h8 : (r : ℕ) < 8
  · rw [dif_pos h8, lt_two ⟨r, h8⟩]
    by_cases h2 : (r : ℕ) < 2
    · simp only [h2, if_true, dif_pos]
      show p _ = p _
      congr 2; ext; show ((r : ℕ) + 8 - 2) % 8 = 6 + r; omega
    · simp only [h2, if_false, dif_neg, not_false_eq_true]
      show g _ = g _
      congr 2; ext; show ((r : ℕ) + 1024 - 2) % 1024 = r - 2; omega
  · rw [dif_neg h8, dif_neg (by omega)]
    congr 2; ext; show (8 + ((r : ℕ) - 8) + 1024 - 2) % 1024 = r - 2; omega

/-- The rows moved down by one, at an index. -/
theorem shift1_apply (g : FVec Ideal S1024x512 .f32) (p : Vec Ideal S8x512 .f32) (r : Fin 1024) (f : Fin 512) :
    shiftV 1#32 g p (ix2 r f) = if h : (r : ℕ) < 1 then p (ix2 ⟨7 + r, by omega⟩ f) else g (ix2 ⟨r - 1, by omega⟩ f) := by
  pointwise [shiftV]
  by_cases h8 : (r : ℕ) < 8
  · rw [dif_pos h8, lt_one ⟨r, h8⟩]
    by_cases h2 : (r : ℕ) < 1
    · simp only [h2, if_true, dif_pos]
      show p _ = p _
      congr 2; ext; show ((r : ℕ) + 8 - 1) % 8 = 7 + r; omega
    · simp only [h2, if_false, dif_neg, not_false_eq_true]
      show g _ = g _
      congr 2; ext; show ((r : ℕ) + 1024 - 1) % 1024 = r - 1; omega
  · rw [dif_neg h8, dif_neg (by omega)]
    congr 2; ext; show (8 + ((r : ℕ) - 8) + 1024 - 1) % 1024 = r - 1; omega

/-- The convolution at an index. -/
theorem conv_apply (g : FVec Ideal S1024x512 .f32) (p : Vec Ideal S8x512 .f32) (c0 c1 c2 c3 : Vec Ideal S1x512 .f32)
    (r : Fin 1024) (f : Fin 512) :
    @Eq EReal (convV g p c0 c1 c2 c3 (ix2 r f))
      (shiftV 3#32 g p (ix2 r f) * c0 (ix2 0 f) + shiftV 2#32 g p (ix2 r f) * c1 (ix2 0 f) + shiftV 1#32 g p (ix2 r f) * c2 (ix2 0 f)
        + g (ix2 r f) * c3 (ix2 0 f)) := by
  pointwise [convV, rowV]

/-- A chunk of the projection at an index. -/
theorem h_apply (x : Vec Ideal S1024x1024 .f32) (w : Vec Ideal S1024x512 .bf16) (r : Fin 1024) (f : Fin 512) :
    @Eq EReal (hV x w (ix2 r f)) (∑ d, x (ix2 r d) * w (ix2 d f)) := by
  pointwise [hV]

/-- The queries' block at an index. -/
theorem q_apply (k : FVec Ideal S1024x512 .f32) (r : Fin 1024) (f : Fin 512) :
    @Eq EReal (qV k (ix2 r f)) (k (ix2 r f) * Ideal.logistic (k (ix2 r f))) := by
  pointwise [qV, siluV]
/-- The keys' block at an index. -/
theorem kt_apply (k : FVec Ideal S1024x512 .f32) (f : Fin 512) (r : Fin 1024) :
    @Eq EReal (ktV k (ix2 f r)) (k (ix2 r f) * Ideal.logistic (k (ix2 r f)) * Ideal.ofBits .f32 0x3D800000#32) := by
  pointwise [ktV, siluV]
/-- The values' block at an index. -/
theorem v_apply (h : FVec Ideal S1024x512 .f32) (r : Fin 1024) (f : Fin 512) : @Eq EReal (vV h (ix2 r f)) (h (ix2 r f)) := by
  pointwise [vV]
/-- The output gates' block at an index. -/
theorem o_apply (h : FVec Ideal S1024x512 .f32) (r : Fin 1024) (f : Fin 512) :
    @Eq EReal (oV h (ix2 r f)) (Ideal.logistic (h (ix2 r f))) := by
  pointwise [oV]

/-- The last eight rows at an index. -/
theorem last_apply (g : FVec Ideal S1024x512 .f32) (r : Fin 8) (f : Fin 512) :
    @Eq EReal (lastV g (ix2 r f)) (g (ix2 ⟨1016 + r, by omega⟩ f)) := by
  pointwise [lastV]

/-- The heads' gates before the logarithm, at an index. -/
theorem pre_apply (x : Vec Ideal S1024x1024 .f32) (w : Vec Ideal S1024x128 .bf16) (b : Vec Ideal S1x128 .f32) (g : Fin 8) (r : Fin 1024) :
    @Eq EReal (preV x w b (ix2 g r)) ((∑ d, x (ix2 r d) * w (ix2 d ⟨g, by omega⟩)) + b (ix2 0 ⟨g, by omega⟩)) := by
  pointwise [preV]

/-- The heads' gates at an index. -/
theorem gates_apply (z : FVec Ideal S8x1024 .f32) (g : Fin 8) (r : Fin 1024) :
    @Eq EReal (gatesV z (ix2 g r)) (if (g : ℕ) < 4 then z (ix2 g r) else logsig (z (ix2 g r))) := by
  pointwise [gatesV]
  rw [lt_four g]
  by_cases h : (g : ℕ) < 4
  · simp only [h, if_true]; rfl
  · simp only [h, if_false]; rfl
end Cert.Proj
-- ==== Proof.ProjPieces.lean ====
module
public import proofs.«01_k».proof.Proof.ProjVec
@[expose] public section
set_option maxRecDepth 65536
noncomputable section
/-! The stores of one grid point of the input projection, as lists (the last store first). -/
namespace Cert.Proj
open Idealize.ShloMosaic Idealize.ShloMosaic.TcCoe Idealize.ShloMosaic.Tactic
open Cert.Kernel4Ideal Cert.Kernel4Ideal.Gen
variable {F : FTy → Type} [FloatOps F]

/-- A chunk of columns lies in the projection's weights. -/
theorem inW (n : ℕ) : ∀ a, ![0, 512 * (n % 8)] a + S1024x512.size a ≤ S1024x4104.size a := by
  intro a
  match a with
  | ⟨0, _⟩ => exact Nat.le_of_eq rfl
  | ⟨1, _⟩ => show 512 * (n % 8) + 512 ≤ 4104; omega
/-- A half of the columns lies in the tile. -/
theorem inCol (n : ℕ) : ∀ a, ![0, 512 * (n % 2)] a + S1024x512.size a ≤ S1024x1024.size a := by
  intro a
  match a with
  | ⟨0, _⟩ => exact Nat.le_of_eq rfl
  | ⟨1, _⟩ => show 512 * (n % 2) + 512 ≤ 1024; omega
/-- A half of the rows lies in the tile. -/
theorem inRow (n : ℕ) : ∀ a, ![512 * (n % 2), 0] a + S512x1024.size a ≤ S1024x1024.size a := by
  intro a
  match a with
  | ⟨0, _⟩ => show 512 * (n % 2) + 512 ≤ 1024; omega
  | ⟨1, _⟩ => exact Nat.le_of_eq rfl
/-- A chunk lies among the carried rows. -/
theorem inCarry (n : ℕ) : ∀ a, ![0, 512 * (n % 4)] a + S8x512.size a ≤ S8x2048.size a := by
  intro a
  match a with
  | ⟨0, _⟩ => exact Nat.le_of_eq rfl
  | ⟨1, _⟩ => show 512 * (n % 4) + 512 ≤ 2048; omega
/-- A tap lies in a chunk of the taps. -/
theorem inTap (k : ℕ) : ∀ a, ![k % 4, 0] a + S1x512.size a ≤ S8x512.size a := by
  intro a
  match a with
  | ⟨0, _⟩ => show k % 4 + 1 ≤ 8; omega
  | ⟨1, _⟩ => exact Nat.le_of_eq rfl

/-- Chunk `n` of the projection's columns. -/
def wR (n : ℕ) : Rect S1024x4104 := Rect.unit ![0, 512 * (n % 8)] S1024x512.size (inW n)
/-- Half `n` of a tile's columns. -/
def colR (n : ℕ) : Rect S1024x1024 := Rect.unit ![0, 512 * (n % 2)] S1024x512.size (inCol n)
/-- Half `n` of a tile's rows. -/
def rowR (n : ℕ) : Rect S1024x1024 := Rect.unit ![512 * (n % 2), 0] S512x1024.size (inRow n)
/-- Chunk `n` of the carried rows. -/
def carryR (n : ℕ) : Rect S8x2048 := Rect.unit ![0, 512 * (n % 4)] S8x512.size (inCarry n)
/-- Tap `k` of chunk `n` of the convolution's weights. -/
def tapR (k n : ℕ) : LoadRect S8x2048 :=
  (carryR n).withinL (Rect.unit (s := S8x512) ![k % 4, 0] S1x512.size (inTap k)).toLoadRect (fun _ => rfl)

/-- The zeros stored before the first position of a batch entry. -/
def zeroL : List (View.Piece (Elt F) S8x2048 .f32) :=
  [⟨Rect.unit ![0, 0] S8x2048.size inb_S8x2048_S8x2048_0_0,
    shapeCast S8x2048 (broadcast S8x2048 (Scalar.ofBits .f32 0x00000000#32)) shapeCasts_S8x2048_S8x2048⟩]

/-- The buffers a grid point reads, with what they hold. -/
structure Pt (F : FTy → Type) [FloatOps F] where
  mx : Memref sig .tc .vmem S1024x1024 .f32
  hx : mx.IsWhole
  mw : Memref sig .tc .vmem S1024x4104 .bf16
  hw : mw.IsWhole
  mg : Memref sig .tc .vmem S1024x128 .bf16
  hg : mg.IsWhole
  mb : Memref sig .tc .vmem S1x128 .f32
  hb : mb.IsWhole
  mc : Memref sig .tc .vmem S8x2048 .f32
  hc : mc.IsWhole
  ms : Memref sig .tc .vmem S8x2048 .f32
  hs : ms.IsWhole
  x : Vec F S1024x1024 .f32
  w : Vec F S1024x4104 .bf16
  g : Vec F S1024x128 .bf16
  b : Vec F S1x128 .f32
  c : Vec F S8x2048 .f32

variable (P : Pt F)

/-- The tile's rows as loaded. -/
def Pt.xC : Vec F S1024x1024 .f32 :=
  View.readAt (Elt F) P.mx.view (Rect.unit ![0, 0] S1024x1024.size inb_S1024x1024_S1024x1024_0_0).toLoadRect (P.hx.unread P.x)
/-- Chunk `n` of the projection's weights as loaded. -/
def Pt.wC (n : ℕ) : Vec F S1024x512 .bf16 := View.readAt (Elt F) P.mw.view (wR n).toLoadRect (P.hw.unread P.w)
/-- The gates' weights as loaded. -/
def Pt.gC : Vec F S1024x128 .bf16 :=
  View.readAt (Elt F) P.mg.view (Rect.unit ![0, 0] S1024x128.size inb_S1024x128_S1024x128_0_0).toLoadRect (P.hg.unread P.g)
/-- The gates' bias as loaded. -/
def Pt.bC : Vec F S1x128 .f32 :=
  View.readAt (Elt F) P.mb.view (Rect.unit ![0, 0] S1x128.size inb_S1x128_S1x128_0_0).toLoadRect (P.hb.unread P.b)
/-- Tap `k` of chunk `n` as loaded. -/
def Pt.tapC (k n : ℕ) : Vec F S1x512 .f32 := View.readAt (Elt F) P.mc.view (tapR k n) (P.hc.unread P.c)
/-- Chunk `n` of the projection. -/
def Pt.h (n : ℕ) : FVec F S1024x512 .f32 := hV P.xC (P.wC n)

/-- The stores into the carried rows before chunk `n`, over the ones in `base`. -/
def Pt.carryL (base : List (View.Piece (Elt F) S8x2048 .f32)) : ℕ → List (View.Piece (Elt F) S8x2048 .f32)
  | 0 => base
  | n + 1 => ⟨carryR n, shapeCast S8x512 (lastV (P.h n)) shapeCasts_S8x512_S8x512⟩ :: Pt.carryL base n

/-- The carried rows read at chunk `n`, in the first tile of a batch entry. -/
def Pt.prevA (n : ℕ) : Vec F S8x512 .f32 := P.ms.view.readCov (P.carryL zeroL n) (carryR n).toLoadRect
/-- The carried rows read at chunk `n`, in a later tile. -/
def Pt.prevB (xs : Vec F S8x2048 .f32) (n : ℕ) : Vec F S8x512 .f32 :=
  View.readAt (Elt F) P.ms.view (carryR n).toLoadRect (P.hs.unread xs)

/-- Chunk `n` of the convolution. -/
def Pt.k (prev : ℕ → Vec F S8x512 .f32) (n : ℕ) : FVec F S1024x512 .f32 :=
  convV (P.h n) (prev n) (P.tapC 0 n) (P.tapC 1 n) (P.tapC 2 n) (P.tapC 3 n)

/-- Two stores of half the columns each. -/
def colsL (a b : FVec F S1024x512 .bf16) : List (View.Piece (Elt F) S1024x1024 .bf16) := [⟨colR 1, b⟩, ⟨colR 0, a⟩]
/-- Two stores of half the rows each. -/
def rowsL (a b : FVec F S512x1024 .bf16) : List (View.Piece (Elt F) S1024x1024 .bf16) := [⟨rowR 1, b⟩, ⟨rowR 0, a⟩]

/-- The queries' stores. -/
def Pt.qL (prev : ℕ → Vec F S8x512 .f32) : List (View.Piece (Elt F) S1024x1024 .bf16) := colsL (qV (P.k prev 0)) (qV (P.k prev 1))
/-- The keys' stores. -/
def Pt.ktL (prev : ℕ → Vec F S8x512 .f32) : List (View.Piece (Elt F) S1024x1024 .bf16) := rowsL (ktV (P.k prev 2)) (ktV (P.k prev 3))
/-- The values' stores. -/
def Pt.vL : List (View.Piece (Elt F) S1024x1024 .bf16) := colsL (vV (P.h 4)) (vV (P.h 5))
/-- The output gates' stores. -/
def Pt.oL : List (View.Piece (Elt F) S1024x1024 .bf16) := colsL (oV (P.h 6)) (oV (P.h 7))
/-- The heads' gates' store. -/
def Pt.gL : List (View.Piece (Elt F) S8x1024 .f32) :=
  [⟨Rect.unit ![0, 0] S8x1024.size inb_S8x1024_S8x1024_0_0, gatesV (preV P.xC P.gC P.bC)⟩]
end Cert.Proj
-- ==== Proof.ProjRun.lean ====
module
public import proofs.«01_k».proof.Proof.ProjPieces
@[expose] public section
set_option maxRecDepth 65536
noncomputable section
/-! The stores of one grid point of the input projection are the lists. -/
namespace Cert.Proj
open Idealize.ShloMosaic Idealize.ShloMosaic.TcCoe Idealize.ShloMosaic.Tactic
open Cert.Kernel4Ideal Cert.Kernel4Ideal.Gen
variable {F : FTy → Type} [FloatOps F] (c : Dev nD) (i : grid0.Coords)
  (arg1 : Memref sig .tc .vmem S1024x1024 .f32) (harg1 : arg1.IsWhole) (arg2 : Memref sig .tc .vmem S1024x4104 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8x2048 .f32) (harg5 : arg5.IsWhole)
  (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S8x1024 .f32) (harg10 : arg10.IsWhole) (arg11 : Memref sig .tc .vmem S8x2048 .f32) (harg11 : arg11.IsWhole)
  (x0 : Vec F S1024x1024 .f32) (x1 : Vec F S1024x4104 .bf16) (x2 : Vec F S1024x128 .bf16) (x3 : Vec F S1x128 .f32) (x4 : Vec F S8x2048 .f32)

/-- The buffers of a grid point, by argument. -/
abbrev pt : Pt F := ⟨arg1, harg1, arg2, harg2, arg3, harg3, arg4, harg4, arg5, harg5, arg11, harg11, x0, x1, x2, x3, x4⟩

/-- What the outputs and the carried rows hold after a grid point, of the rows carried into it and of the stores the carried
rows start with. -/
def Pt.leaves (P : Pt F) (prev : ℕ → Vec F S8x512 .f32) (base : List (View.Piece (Elt F) S8x2048 .f32)) :
    Vec F S1024x1024 .bf16 × Vec F S1024x1024 .bf16 × Vec F S1024x1024 .bf16 × Vec F S1024x1024 .bf16 × Vec F S8x1024 .f32 × Vec F S8x2048 .f32 :=
  (View.canon (P.qL prev), View.canon (P.ktL prev), View.canon P.vL, View.canon P.oL, View.canon P.gL, View.canon (P.carryL base 4))

/-- The queries among them. -/
theorem leaves_q (P : Pt F) (prev : ℕ → Vec F S8x512 .f32) (base : List (View.Piece (Elt F) S8x2048 .f32)) :
    (P.leaves prev base).1 = View.canon (P.qL prev) := by
  dsimp only [Pt.leaves]
/-- The keys among them. -/
theorem leaves_kt (P : Pt F) (prev : ℕ → Vec F S8x512 .f32) (base : List (View.Piece (Elt F) S8x2048 .f32)) :
    (P.leaves prev base).2.1 = View.canon (P.ktL prev) := by
  dsimp only [Pt.leaves]
/-- The values among them. -/
theorem leaves_v (P : Pt F) (prev : ℕ → Vec F S8x512 .f32) (base : List (View.Piece (Elt F) S8x2048 .f32)) :
    (P.leaves prev base).2.2.1 = View.canon (P.vL) := by
  dsimp only [Pt.leaves]
/-- The output gates among them. -/
theorem leaves_o (P : Pt F) (prev : ℕ → Vec F S8x512 .f32) (base : List (View.Piece (Elt F) S8x2048 .f32)) :
    (P.leaves prev base).2.2.2.1 = View.canon (P.oL) := by
  dsimp only [Pt.leaves]
/-- The heads' gates among them. -/
theorem leaves_gates (P : Pt F) (prev : ℕ → Vec F S8x512 .f32) (base : List (View.Piece (Elt F) S8x2048 .f32)) :
    (P.leaves prev base).2.2.2.2.1 = View.canon (P.gL) := by
  dsimp only [Pt.leaves]
/-- The carried rows among them. -/
theorem leaves_carry (P : Pt F) (prev : ℕ → Vec F S8x512 .f32) (base : List (View.Piece (Elt F) S8x2048 .f32)) :
    (P.leaves prev base).2.2.2.2.2 = View.canon (P.carryL base 4) := by
  dsimp only [Pt.leaves]

/-- The first tile of a batch entry leaves these. -/
theorem tileA (hc0 : cond0_0 i) (P : Pt F) (hP : P = pt arg1 harg1 arg2 harg2 arg3 harg3 arg4 harg4 arg5 harg5 arg11 harg11 x0 x1 x2 x3 x4) :
    (out0_A_5 c i arg1 harg1 arg2 harg2 arg3 harg3 arg4 harg4 arg5 harg5 arg6 harg6 arg7 harg7 arg8 harg8 arg9 harg9 arg10 harg10 arg11 harg11 hc0 x0 x1 x2 x3 x4,
      out0_A_6 c i arg1 harg1 arg2 harg2 arg3 harg3 arg4 harg4 arg5 harg5 arg6 harg6 arg7 harg7 arg8 harg8 arg9 harg9 arg10 harg10 arg11 harg11 hc0 x0 x1 x2 x3 x4,
      out0_A_7 c i arg1 harg1 arg2 harg2 arg3 harg3 arg4 harg4 arg5 harg5 arg6 harg6 arg7 harg7 arg8 harg8 arg9 harg9 arg10 harg10 arg11 harg11 hc0 x0 x1 x2 x3 x4,
      out0_A_8 c i arg1 harg1 arg2 harg2 arg3 harg3 arg4 harg4 arg5 harg5 arg6 harg6 arg7 harg7 arg8 harg8 arg9 harg9 arg10 harg10 arg11 harg11 hc0 x0 x1 x2 x3 x4,
      out0_A_9 c i arg1 harg1 arg2 harg2 arg3 harg3 arg4 harg4 arg5 harg5 arg6 harg6 arg7 harg7 arg8 harg8 arg9 harg9 arg10 harg10 arg11 harg11 hc0 x0 x1 x2 x3 x4,
      sout0_A_0 c i arg1 harg1 arg2 harg2 arg3 harg3 arg4 harg4 arg5 harg5 arg6 harg6 arg7 harg7 arg8 harg8 arg9 harg9 arg10 harg10 arg11 harg11 hc0 x0 x1 x2 x3 x4) = P.leaves P.prevA zeroL := by
  subst hP
  unfold Pt.leaves out0_A_5 out0_A_6 out0_A_7 out0_A_8 out0_A_9 sout0_A_0
  simp only [View.read_writes_junk_eq_canon]
  refine congrArg₂ Prod.mk (congrArg View.canon ?_) (congrArg₂ Prod.mk (congrArg View.canon ?_) (congrArg₂ Prod.mk (congrArg View.canon ?_)
    (congrArg₂ Prod.mk (congrArg View.canon ?_) (congrArg₂ Prod.mk (congrArg View.canon ?_) (congrArg View.canon ?_)))))
  · sl_kernel_rfl
  · sl_kernel_rfl
  · sl_kernel_rfl
  · sl_kernel_rfl
  · sl_kernel_rfl
  · sl_kernel_rfl

/-- A later tile leaves these, `xs0` being the rows carried into it. -/
theorem tileB (hc0 : ¬ cond0_0 i) (xs0 : Vec F S8x2048 .f32) (P : Pt F) (hP : P = pt arg1 harg1 arg2 harg2 arg3 harg3 arg4 harg4 arg5 harg5 arg11 harg11 x0 x1 x2 x3 x4) :
    (out0_B_5 c i arg1 harg1 arg2 harg2 arg3 harg3 arg4 harg4 arg5 harg5 arg6 harg6 arg7 harg7 arg8 harg8 arg9 harg9 arg10 harg10 arg11 harg11 hc0 x0 x1 x2 x3 x4 xs0,
      out0_B_6 c i arg1 harg1 arg2 harg2 arg3 harg3 arg4 harg4 arg5 harg5 arg6 harg6 arg7 harg7 arg8 harg8 arg9 harg9 arg10 harg10 arg11 harg11 hc0 x0 x1 x2 x3 x4 xs0,
      out0_B_7 c i arg1 harg1 arg2 harg2 arg3 harg3 arg4 harg4 arg5 harg5 arg6 harg6 arg7 harg7 arg8 harg8 arg9 harg9 arg10 harg10 arg11 harg11 hc0 x0 x1 x2 x3 x4 xs0,
      out0_B_8 c i arg1 harg1 arg2 harg2 arg3 harg3 arg4 harg4 arg5 harg5 arg6 harg6 arg7 harg7 arg8 harg8 arg9 harg9 arg10 harg10 arg11 harg11 hc0 x0 x1 x2 x3 x4 xs0,
      out0_B_9 c i arg1 harg1 arg2 harg2 arg3 harg3 arg4 harg4 arg5 harg5 arg6 harg6 arg7 harg7 arg8 harg8 arg9 harg9 arg10 harg10 arg11 harg11 hc0 x0 x1 x2 x3 x4 xs0,
      sout0_B_0 c i arg1 harg1 arg2 harg2 arg3 harg3 arg4 harg4 arg5 harg5 arg6 harg6 arg7 harg7 arg8 harg8 arg9 harg9 arg10 harg10 arg11 harg11 hc0 x0 x1 x2 x3 x4 xs0) = P.leaves (P.prevB xs0) [] := by
  subst hP
  unfold Pt.leaves out0_B_5 out0_B_6 out0_B_7 out0_B_8 out0_B_9 sout0_B_0
  simp only [View.read_writes_junk_eq_canon]
  refine congrArg₂ Prod.mk (congrArg View.canon ?_) (congrArg₂ Prod.mk (congrArg View.canon ?_) (congrArg₂ Prod.mk (congrArg View.canon ?_)
    (congrArg₂ Prod.mk (congrArg View.canon ?_) (congrArg₂ Prod.mk (congrArg View.canon ?_) (congrArg View.canon ?_)))))
  · sl_kernel_rfl
  · sl_kernel_rfl
  · sl_kernel_rfl
  · sl_kernel_rfl
  · sl_kernel_rfl
  · sl_kernel_rfl
end Cert.Proj
-- ==== Proof.ProjBlock.lean ====
module
public import proofs.«01_k».proof.Proof.ProjRun
@[expose] public section
set_option maxRecDepth 65536
noncomputable section
/-! What the stores of one grid point of the input projection leave, at each index, over the extended reals: tile `T` holds
rows `1024·T` to `1024·T + 1023`. -/
namespace Cert.Proj
open Idealize.ShloMosaic Idealize.ShloMosaic.TcCoe Idealize.ShloMosaic.Tactic
open Cert.Kernel4Ideal Cert.Kernel4Ideal.Gen
open scoped BigOperators

/-- Row `r` of tile `T`. -/
def row (T : ℕ) (r : ℕ) : Fin 16384 := ⟨(1024 * T + r) % 16384, Nat.mod_lt _ (by norm_num)⟩

/-- Gate `g`'s lane among 128. -/
def lane (g : Fin 8) : Fin 128 := ⟨g, by omega⟩
/-- Gate `g`'s column of the projection. -/
def gcol (g : Fin 8) : Fin 4104 := ⟨4096 + g, by omega⟩

/-- Two stores of half the columns each leave the one's columns and then the other's. -/
theorem canon_cols (a b : FVec Ideal S1024x512 .bf16) (r : Fin 1024) (d : Fin 1024) :
    @Eq EReal (View.canon (colsL a b) (ix2 r d))
      (if h : (d : ℕ) < 512 then a (ix2 r ⟨d, h⟩) else b (ix2 r ⟨d - 512, by omega⟩)) := by
  rw [colsL]
  split
  · rename_i h
    rw [View.canon_cons_of_not_mem]
    · have : (ix2 r d : S1024x1024.Idx) = (colR 0).emb (ix2 r ⟨d, h⟩ : S1024x512.Idx) := by
        funext k; apply Fin.ext
        match k with
        | ⟨0, _⟩ => show (r : ℕ) = 0 + 1 * (r : ℕ); omega
        | ⟨1, _⟩ => show (d : ℕ) = 512 * (0 % 2) + 1 * (d : ℕ); omega
      rw [this]
      exact View.canon_cons_emb _ _ _ _
    · show _ ∉ (colR 1).set
      rw [colR, Rect.mem_set_unit]
      intro hm
      have : 512 * (1 % 2) ≤ (d : ℕ) := (hm (1 : Fin 2)).1
      omega
  · rename_i h
    have : (ix2 r d : S1024x1024.Idx) = (colR 1).emb (ix2 r ⟨d - 512, by omega⟩ : S1024x512.Idx) := by
      funext k; apply Fin.ext
      match k with
      | ⟨0, _⟩ => show (r : ℕ) = 0 + 1 * (r : ℕ); omega
      | ⟨1, _⟩ => show (d : ℕ) = 512 * (1 % 2) + 1 * ((d : ℕ) - 512); omega
    rw [this]
    exact View.canon_cons_emb _ _ _ _

/-- Two stores of half the rows each leave the one's rows and then the other's. -/
theorem canon_rows (a b : FVec Ideal S512x1024 .bf16) (d : Fin 1024) (r : Fin 1024) :
    @Eq EReal (View.canon (rowsL a b) (ix2 d r))
      (if h : (d : ℕ) < 512 then a (ix2 ⟨d, h⟩ r) else b (ix2 ⟨d - 512, by omega⟩ r)) := by
  rw [rowsL]
  split
  · rename_i h
    rw [View.canon_cons_of_not_mem]
    · have : (ix2 d r : S1024x1024.Idx) = (rowR 0).emb (ix2 ⟨d, h⟩ r : S512x1024.Idx) := by
        funext k; apply Fin.ext
        match k with
        | ⟨0, _⟩ => show (d : ℕ) = 512 * (0 % 2) + 1 * (d : ℕ); omega
        | ⟨1, _⟩ => show (r : ℕ) = 0 + 1 * (r : ℕ); omega
      rw [this]
      exact View.canon_cons_emb _ _ _ _
    · show _ ∉ (rowR 1).set
      rw [rowR, Rect.mem_set_unit]
      intro hm
      have : 512 * (1 % 2) ≤ (d : ℕ) := (hm (0 : Fin 2)).1
      omega
  · rename_i h
    have : (ix2 d r : S1024x1024.Idx) = (rowR 1).emb (ix2 ⟨d - 512, by omega⟩ r : S512x1024.Idx) := by
      funext k; apply Fin.ext
      match k with
      | ⟨0, _⟩ => show (d : ℕ) = 512 * (1 % 2) + 1 * ((d : ℕ) - 512); omega
      | ⟨1, _⟩ => show (r : ℕ) = 0 + 1 * (r : ℕ); omega
    rw [this]
    exact View.canon_cons_emb _ _ _ _

/-- Nothing is carried into the first tile of a batch entry. -/
theorem canon_zero (j : Fin 8) (f : Fin 2048) : @Eq EReal (View.canon (zeroL (F := Ideal)) (ix2 j f)) 0 := by
  rw [zeroL, View.canon_cons_unit_zero (by funext a; match a with | ⟨0, _⟩ => rfl | ⟨1, _⟩ => rfl)]
  pointwise

/-- A load of a whole buffer's contents reads them at the load's position. -/
theorem readAt_unread {F : FTy → Type} {s : Shape} {e : EltTy} (a : Memref sig .tc .vmem s e) (ha : a.IsWhole)
    (x : Vec F s e) (R : LoadRect s) (y : R.shape.Idx) : View.readAt (Elt F) a.view R (ha.unread x) y = x (R.idx y) := by
  rw [View.readAt_apply, Memref.IsWhole.read_unread]

/-- Where a chunk of the projection's weights is read. -/
theorem idx_w (n : Fin 8) (d : Fin 1024) (f : Fin 512) :
    (wR n).toLoadRect.idx (ix2 d f : S1024x512.Idx) = (ix2 d (⟨512 * n + f, by omega⟩ : Fin 4104) : S1024x4104.Idx) := by
  funext k; apply Fin.ext
  match k with
  | ⟨0, _⟩ => show 0 + 1 * (d : ℕ) = d; omega
  | ⟨1, _⟩ => show 512 * ((n : ℕ) % 8) + 1 * (f : ℕ) = 512 * n + f; omega
/-- Where a chunk of the carried rows is read. -/
theorem idx_carry (n : Fin 4) (j : Fin 8) (f : Fin 512) :
    (carryR n).toLoadRect.idx (ix2 j f : S8x512.Idx) = (ix2 j (col n f) : S8x2048.Idx) := by
  funext k; apply Fin.ext
  match k with
  | ⟨0, _⟩ => show 0 + 1 * (j : ℕ) = j; omega
  | ⟨1, _⟩ => show 512 * ((n : ℕ) % 4) + 1 * (f : ℕ) = 512 * n + f; omega
/-- Where a chunk of a tap is read. -/
theorem idx_tap (t : Fin 4) (n : Fin 4) (f : Fin 512) :
    (tapR t n).idx (ix2 0 f : S1x512.Idx) = (ix2 ⟨t, by omega⟩ (col n f) : S8x2048.Idx) := by
  funext k; apply Fin.ext
  match k with
  | ⟨0, _⟩ => show 0 + (t : ℕ) % 4 + 1 * 0 = t; omega
  | ⟨1, _⟩ => show 512 * ((n : ℕ) % 4) + 0 + 1 * (f : ℕ) = 512 * n + f; omega
/-- Where the tile's rows are read. -/
theorem idx_x (r d : Fin 1024) :
    (Rect.unit ![0, 0] S1024x1024.size inb_S1024x1024_S1024x1024_0_0).toLoadRect.idx (ix2 r d : S1024x1024.Idx) = (ix2 r d : S1024x1024.Idx) := by
  funext k; apply Fin.ext
  match k with
  | ⟨0, _⟩ => show 0 + 1 * (r : ℕ) = r; omega
  | ⟨1, _⟩ => show 0 + 1 * (d : ℕ) = d; omega
/-- Where the gates' weights are read. -/
theorem idx_g (d : Fin 1024) (g : Fin 128) :
    (Rect.unit ![0, 0] S1024x128.size inb_S1024x128_S1024x128_0_0).toLoadRect.idx (ix2 d g : S1024x128.Idx) = (ix2 d g : S1024x128.Idx) := by
  funext k; apply Fin.ext
  match k with
  | ⟨0, _⟩ => show 0 + 1 * (d : ℕ) = d; omega
  | ⟨1, _⟩ => show 0 + 1 * (g : ℕ) = g; omega
/-- Where the gates' bias is read. -/
theorem idx_b (g : Fin 128) :
    (Rect.unit ![0, 0] S1x128.size inb_S1x128_S1x128_0_0).toLoadRect.idx (ix2 0 g : S1x128.Idx) = (ix2 0 g : S1x128.Idx) := by
  funext k; apply Fin.ext
  match k with
  | ⟨0, _⟩ => rfl
  | ⟨1, _⟩ => show 0 + 1 * (g : ℕ) = g; omega

section
variable (P : Pt Ideal)

/-- The carried rows after `n` chunks: the last rows of the projection in the columns stored, what was there before in the
others. -/
theorem canon_carry (base : List (View.Piece (Elt Ideal) S8x2048 .f32)) (n : ℕ) (hn : n ≤ 4) (j : Fin 8) (f : Fin 2048) :
    @Eq EReal (View.canon (P.carryL base n) (ix2 j f))
      (if (f : ℕ) < 512 * n then P.h (f / 512) (ix2 ⟨1016 + j, by omega⟩ ⟨f % 512, Nat.mod_lt _ (by norm_num)⟩)
        else View.canon base (ix2 j f)) := by
  induction n with
  | zero => rw [if_neg (by omega)]; rfl
  | succ n ih =>
    rw [Pt.carryL]
    by_cases h : 512 * n ≤ (f : ℕ) ∧ (f : ℕ) < 512 * n + 512
    · rw [if_pos (by omega)]
      have hm : n % 4 = n := Nat.mod_eq_of_lt (by omega)
      have : (ix2 j f : S8x2048.Idx) = (carryR n).emb (ix2 j ⟨f % 512, Nat.mod_lt _ (by norm_num)⟩ : S8x512.Idx) := by
        funext k; apply Fin.ext
        match k with
        | ⟨0, _⟩ => show (j : ℕ) = 0 + 1 * (j : ℕ); omega
        | ⟨1, _⟩ => show (f : ℕ) = 512 * (n % 4) + 1 * ((f : ℕ) % 512); omega
      rw [this]
      refine (View.canon_cons_emb _ _ _ _).trans ?_
      have hd : (f : ℕ) / 512 = n := by omega
      rw [hd]
      refine Eq.trans ?_ (last_apply _ _ _)
      pointwise
    · rw [View.canon_cons_of_not_mem, ih (by omega)]
      · by_cases h2 : (f : ℕ) < 512 * n
        · rw [if_pos h2, if_pos (by omega)]
        · rw [if_neg h2, if_neg (by omega)]
      · show _ ∉ (carryR n).set
        rw [carryR, Rect.mem_set_unit]
        intro hm
        have h1 : 512 * (n % 4) ≤ (f : ℕ) ∧ (f : ℕ) < 512 * (n % 4) + 512 := hm (1 : Fin 2)
        omega

/-- In the first tile of a batch entry the carried rows are zero. -/
theorem prevA_apply (n : Fin 4) (j : Fin 8) (f : Fin 512) : @Eq EReal (P.prevA n (ix2 j f)) 0 := by
  rw [Pt.prevA, View.readCov_eq_canon']
  refine (congrArg _ (idx_carry n j f)).trans ?_
  rw [canon_carry P _ n (by omega), if_neg (by show ¬ 512 * (n : ℕ) + f < 512 * n; omega), canon_zero]

/-- In a later tile the carried rows are those of the tile before. -/
theorem prevB_apply (xs : Vec Ideal S8x2048 .f32) (n : Fin 4) (j : Fin 8) (f : Fin 512) :
    @Eq EReal (P.prevB xs n (ix2 j f)) (xs (ix2 j (col n f))) :=
  (readAt_unread P.ms P.hs xs _ _).trans (congrArg xs (idx_carry n j f))

variable (p : Ins) (T : ℕ)
  (ex : ∀ (r d : Fin 1024), @Eq EReal (P.x (ix2 r d)) (p.x (row T r) d))
  (ew : ∀ d f, @Eq EReal (P.w (ix2 d f)) (p.w d f))
  (eg : ∀ d (g : Fin 8), @Eq EReal (P.g (ix2 d (lane g))) (p.w d (gcol g)))
  (eb : ∀ g : Fin 8, @Eq EReal (P.b (ix2 (0 : Fin 1) (lane g))) (p.gb g))
  (ec : ∀ (k : Fin 4) f, @Eq EReal (P.c (ix2 (⟨k, by omega⟩ : Fin 8) f)) (p.cw k f))

include ex in
/-- The tile's rows at an index. -/
theorem x_eq (r d : Fin 1024) : @Eq EReal (P.xC (ix2 r d)) (p.x (row T r) d) :=
  (readAt_unread P.mx P.hx P.x _ _).trans ((congrArg P.x (idx_x r d)).trans (ex r d))

include ec in
/-- A tap at an index. -/
theorem tap_eq (k n : Fin 4) (f : Fin 512) : @Eq EReal (P.tapC k n (ix2 0 f)) (p.cw k (col n f)) :=
  (readAt_unread P.mc P.hc P.c _ _).trans ((congrArg P.c (idx_tap k n f)).trans (ec k _))

include ex ew in
/-- A chunk of the projection is the specification's. -/
theorem h_eq (n : Fin 8) (r : Fin 1024) (f : Fin 512) :
    @Eq EReal (P.h n (ix2 r f)) (H p (row T r) ⟨512 * n + f, by omega⟩) := by
  rw [Pt.h, h_apply, H]
  exact Finset.sum_congr rfl fun d _ => congrArg₂ (fun a b : EReal => a * b) (x_eq P p T ex r d)
    ((readAt_unread P.mw P.hw P.w _ _).trans ((congrArg P.w (idx_w n d f)).trans (ew d _)))

include ex ew in
/-- A chunk of the convolution's columns is the specification's. -/
theorem h_lo (n : Fin 4) (r : Fin 1024) (f : Fin 512) : @Eq EReal (P.h n (ix2 r f)) (H p (row T r) (lo (col n f))) :=
  h_eq P p T ex ew ⟨n, by omega⟩ r f

include ex ew in
/-- The rows carried to the next tile. -/
theorem carry_apply (base : List (View.Piece (Elt Ideal) S8x2048 .f32)) (j : Fin 8) (f : Fin 2048) :
    @Eq EReal (View.canon (P.carryL base 4) (ix2 j f)) (H p (row T (1016 + j)) (lo f)) := by
  obtain ⟨n, hn⟩ : ∃ n : Fin 4, (n : ℕ) = f / 512 := ⟨⟨f / 512, by omega⟩, rfl⟩
  obtain ⟨g, hg⟩ : ∃ g : Fin 512, (g : ℕ) = f % 512 := ⟨⟨f % 512, by omega⟩, rfl⟩
  have hf : f = col n g := Fin.ext (by show (f : ℕ) = 512 * n + g; omega)
  have hg' : (⟨f % 512, Nat.mod_lt _ (by norm_num)⟩ : Fin 512) = g := Fin.ext hg.symm
  rw [canon_carry _ _ 4 le_rfl, if_pos (by omega), hg', ← hn, h_lo P p T ex ew, ← hf]

section
variable (prev : ℕ → Vec Ideal S8x512 .f32) (hT : T < 16)
  (hp : ∀ (n : Fin 4) (j : Fin 8) (f : Fin 512), @Eq EReal (prev n (ix2 j f))
    (if T % 4 = 0 then 0 else H p (row (T - 1) (1016 + j)) (lo (col n f))))

include hp hT in
/-- A row of the tile before, as the specification has it `s` positions earlier. -/
theorem prev_back (s : ℕ) (n : Fin 4) (r : Fin 1024) (j : Fin 8) (f : Fin 512) (hr : (r : ℕ) < s) (hs : s ≤ 8)
    (hj : (j : ℕ) + s = 8 + r) : @Eq EReal (prev n (ix2 j f)) (back p s (row T r) (col n f)) := by
  have hR : ((row T r : Fin 16384) : ℕ) = 1024 * T + r := Nat.mod_eq_of_lt (by omega)
  rw [hp, back]
  by_cases h0 : T % 4 = 0
  · rw [if_pos h0, if_pos (by omega)]
  · rw [if_neg h0, if_neg (by omega)]
    refine congrArg (fun R => H p R (lo (col n f))) (Fin.ext ?_)
    show (1024 * (T - 1) + (1016 + (j : ℕ))) % 16384 = ((row T r : Fin 16384) : ℕ) - s
    omega

include ex ew hT in
/-- A row of this tile, as the specification has it `s` positions earlier. -/
theorem h_back (s : ℕ) (n : Fin 4) (r : Fin 1024) (f : Fin 512) (hr : ¬ (r : ℕ) < s) :
    @Eq EReal (P.h n (ix2 ⟨r - s, by omega⟩ f)) (back p s (row T r) (col n f)) := by
  have hR : ((row T r : Fin 16384) : ℕ) = 1024 * T + r := Nat.mod_eq_of_lt (by omega)
  rw [h_lo P p T ex ew, back, if_neg (by omega)]
  refine congrArg (fun R => H p R (lo (col n f))) (Fin.ext ?_)
  show (1024 * T + ((r : ℕ) - s)) % 16384 = ((row T r : Fin 16384) : ℕ) - s
  omega

include ex ew ec hp hT in
/-- A chunk of the convolution is the specification's. -/
theorem k_eq (n : Fin 4) (r : Fin 1024) (f : Fin 512) : @Eq EReal (P.k prev n (ix2 r f)) (conv p (row T r) (col n f)) := by
  have s3 : @Eq EReal (shiftV 3#32 (P.h n) (prev n) (ix2 r f)) (back p 3 (row T r) (col n f)) := by
    rw [shift3_apply]
    split
    · rename_i h
      exact prev_back p T prev hT hp 3 n r _ f h (by norm_num) (by show 5 + (r : ℕ) + 3 = 8 + r; omega)
    · rename_i h
      exact h_back P p T ex ew hT 3 n r f h
  have s2 : @Eq EReal (shiftV 2#32 (P.h n) (prev n) (ix2 r f)) (back p 2 (row T r) (col n f)) := by
    rw [shift2_apply]
    split
    · rename_i h
      exact prev_back p T prev hT hp 2 n r _ f h (by norm_num) (by show 6 + (r : ℕ) + 2 = 8 + r; omega)
    · rename_i h
      exact h_back P p T ex ew hT 2 n r f h
  have s1 : @Eq EReal (shiftV 1#32 (P.h n) (prev n) (ix2 r f)) (back p 1 (row T r) (col n f)) := by
    rw [shift1_apply]
    split
    · rename_i h
      exact prev_back p T prev hT hp 1 n r _ f h (by norm_num) (by show 7 + (r : ℕ) + 1 = 8 + r; omega)
    · rename_i h
      exact h_back P p T ex ew hT 1 n r f h
  rw [Pt.k, conv_apply, conv, s3, s2, s1, h_lo P p T ex ew, show P.tapC 0 n (ix2 0 f) = _ from tap_eq P p ec 0 n f,
    show P.tapC 1 n (ix2 0 f) = _ from tap_eq P p ec 1 n f, show P.tapC 2 n (ix2 0 f) = _ from tap_eq P p ec 2 n f,
    show P.tapC 3 n (ix2 0 f) = _ from tap_eq P p ec 3 n f]

include ex ew ec hp hT in
/-- The queries a tile leaves. -/
theorem qL_apply (r d : Fin 1024) : @Eq EReal (View.canon (P.qL prev) (ix2 r d)) (q p (row T r) d) := by
  rw [Pt.qL, canon_cols, q, silu]
  split
  · rename_i h
    rw [q_apply, show P.k prev 0 (ix2 r ⟨d, h⟩) = _ from k_eq P p T ex ew ec prev hT hp 0 r ⟨d, h⟩]
    have : col 0 ⟨d, h⟩ = ⟨d, by omega⟩ := Fin.ext (by show 512 * 0 + (d : ℕ) = d; omega)
    rw [this]
  · rename_i h
    rw [q_apply, show P.k prev 1 (ix2 r ⟨d - 512, by omega⟩) = _ from k_eq P p T ex ew ec prev hT hp 1 r ⟨d - 512, by omega⟩]
    have : col 1 ⟨d - 512, by omega⟩ = ⟨d, by omega⟩ := Fin.ext (by show 512 * 1 + ((d : ℕ) - 512) = d; omega)
    rw [this]

include ex ew ec hp hT in
/-- The keys a tile leaves. -/
theorem ktL_apply (d r : Fin 1024) : @Eq EReal (View.canon (P.ktL prev) (ix2 d r)) (kt p d (row T r)) := by
  rw [Pt.ktL, canon_rows, kt, silu]
  split
  · rename_i h
    rw [kt_apply, show P.k prev 2 (ix2 r ⟨d, h⟩) = _ from k_eq P p T ex ew ec prev hT hp 2 r ⟨d, h⟩]
    have : col 2 ⟨d, h⟩ = ⟨1024 + d, by omega⟩ := Fin.ext (by show 512 * 2 + (d : ℕ) = 1024 + d; omega)
    rw [this]
  · rename_i h
    rw [kt_apply, show P.k prev 3 (ix2 r ⟨d - 512, by omega⟩) = _ from k_eq P p T ex ew ec prev hT hp 3 r ⟨d - 512, by omega⟩]
    have : col 3 ⟨d - 512, by omega⟩ = ⟨1024 + d, by omega⟩ := Fin.ext (by show 512 * 3 + ((d : ℕ) - 512) = 1024 + d; omega)
    rw [this]
end

include ex ew in
/-- The values a tile leaves. -/
theorem vL_apply (r d : Fin 1024) : @Eq EReal (View.canon P.vL (ix2 r d)) (v p (row T r) d) := by
  rw [Pt.vL, canon_cols, v]
  split
  · rename_i h
    rw [v_apply, show P.h 4 (ix2 r ⟨d, h⟩) = _ from h_eq P p T ex ew 4 r ⟨d, h⟩]
    exact congrArg (H p _) (Fin.ext (by show 512 * 4 + (d : ℕ) = 2048 + d; omega))
  · rename_i h
    rw [v_apply, show P.h 5 (ix2 r ⟨d - 512, by omega⟩) = _ from h_eq P p T ex ew 5 r ⟨d - 512, by omega⟩]
    exact congrArg (H p _) (Fin.ext (by show 512 * 5 + ((d : ℕ) - 512) = 2048 + d; omega))

include ex ew in
/-- The output gates a tile leaves. -/
theorem oL_apply (r d : Fin 1024) : @Eq EReal (View.canon P.oL (ix2 r d)) (o p (row T r) d) := by
  rw [Pt.oL, canon_cols, o]
  split
  · rename_i h
    rw [o_apply, show P.h 6 (ix2 r ⟨d, h⟩) = _ from h_eq P p T ex ew 6 r ⟨d, h⟩]
    exact congrArg (fun f => Ideal.logistic (H p _ f)) (Fin.ext (by show 512 * 6 + (d : ℕ) = 3072 + d; omega))
  · rename_i h
    rw [o_apply, show P.h 7 (ix2 r ⟨d - 512, by omega⟩) = _ from h_eq P p T ex ew 7 r ⟨d - 512, by omega⟩]
    exact congrArg (fun f => Ideal.logistic (H p _ f)) (Fin.ext (by show 512 * 7 + ((d : ℕ) - 512) = 3072 + d; omega))

include ex eg eb in
/-- The heads' gates a tile leaves. -/
theorem gL_apply (g : Fin 8) (r : Fin 1024) : @Eq EReal (View.canon P.gL (ix2 g r)) (gates p g (row T r)) := by
  have hz : @Eq EReal (preV P.xC P.gC P.bC (ix2 g r)) (pre p g (row T r)) := by
    refine (pre_apply _ _ _ g r).trans (congrArg₂ (fun a b : EReal => a + b) (Finset.sum_congr rfl fun d _ =>
      congrArg₂ (fun a b : EReal => a * b) (x_eq P p T ex r d) ?_) ?_)
    · exact (readAt_unread P.mg P.hg P.g _ _).trans ((congrArg P.g (idx_g d _)).trans (eg d g))
    · exact (readAt_unread P.mb P.hb P.b _ _).trans ((congrArg P.b (idx_b _)).trans (eb g))
  rw [Pt.gL, View.canon_cons_unit_zero (by funext a; match a with | ⟨0, _⟩ => rfl | ⟨1, _⟩ => rfl)]
  refine (gates_apply _ g r).trans ?_
  rw [gates, hz]
end
end Cert.Proj
-- ==== Proof.ProjScatter.lean ====
module
public import proofs.«01_k».proof.Proof.ProjBlock
public import Idealize.ShloMosaic.Lib.Routing.OpsOne
@[expose] public section
set_option maxRecDepth 65536
noncomputable section
/-! An array written over the corner of an array of zeros: the gates' weights and bias and the convolution's taps. -/
namespace Cert.Proj
open Idealize.ShloMosaic Idealize.ShloMosaic.TcCoe Idealize.ShloMosaic.Routing

/-- Writing a matrix at index 0 along one dimension of a larger matrix leaves it in the larger one's corner. -/
theorem scatter_corner (A B a b : ℕ) (dim : Fin 2) (ha : a ≤ A) (hb : b ≤ B)
    (d : ScatterDims (shape2 A B) (shape1 1) (shape2 a b)) (huw : d.updateWindowDims = [0, 1]) (hiw : d.insertedWindowDims = [])
    (hsd : d.scatterDimsToOperandDims = [dim]) (x0 : (shape2 A B).Idx → EReal) (idx : IVec (shape1 1) 32)
    (hidx : (idx (ValueIdx.ix1 0)).toInt = 0) (u : (shape2 a b).Idx → EReal) (k : Fin a) (f : Fin b) :
    Host.scatter d (fun _ b => b) x0 idx u (ValueIdx.ix2 ⟨k, by omega⟩ ⟨f, by omega⟩) = u (ValueIdx.ix2 k f) := by
  obtain ⟨uw, iw, sd, iv, wf⟩ := d
  dsimp only at huw hiw hsd
  subst huw hiw hsd
  have land : ∀ (k' : Fin a) (f' : Fin b) (e : Fin A) (g : Fin B),
      (ScatterDims.mk (s := shape2 A B) (si := shape1 1) (u := shape2 a b) [0, 1] [] [dim] iv wf).resultIdx? (ValueIdx.ix2 k' f') idx = some (ValueIdx.ix2 e g)
        ↔ (k' : ℕ) = e ∧ (f' : ℕ) = g := by
    intro k' f' e g
    rw [Routing.resultIdx?_ix2]
    have s : ∀ q : Fin 2, (ScatterDims.mk (s := shape2 A B) (si := shape1 1) (u := shape2 a b) [0, 1] [] [dim] iv wf).start (ValueIdx.ix2 k' f') idx q = 0 := by
      intro q
      unfold ScatterDims.start
      split
      · rename_i hq
        have hq' : q = dim := List.mem_singleton.1 hq
        subst hq'
        refine Eq.trans (congrArg (fun i => (idx i).toInt) ?_) hidx
        funext b
        match b with
        | ⟨0, _⟩ => exact Subsingleton.elim (α := Fin 1) _ _
      · rfl
    have w0 : (ScatterDims.mk (s := shape2 A B) (si := shape1 1) (u := shape2 a b) [0, 1] [] [dim] iv wf).window (ValueIdx.ix2 k' f') 0 = k' := rfl
    have w1 : (ScatterDims.mk (s := shape2 A B) (si := shape1 1) (u := shape2 a b) [0, 1] [] [dim] iv wf).window (ValueIdx.ix2 k' f') 1 = f' := rfl
    rw [s, s, w0, w1]
    omega
  refine scatter_set_hit _ x0 idx u _ _ (fun j hj => ?_) (ValueIdx.ix2 k f) ((land k f ⟨k, by omega⟩ ⟨f, by omega⟩).2 ⟨rfl, rfl⟩)
  have e := (congrArg (fun t => ScatterDims.resultIdx? _ t idx) (ValueIdx.eq_ix2 j).symm).trans hj
  have e' := (land _ _ _ _).1 e
  rw [ValueIdx.eq_ix2 j]
  exact congrArg₂ (fun a b => u (ValueIdx.ix2 a b)) (Fin.ext e'.1) (Fin.ext e'.2)

/-- Writing a vector at the corner of a one-row matrix leaves it at the start of the row. -/
theorem scatter_start (d : ScatterDims (shape2 1 128) (shape1 2) (shape1 8)) (huw : d.updateWindowDims = [0])
    (hiw : d.insertedWindowDims = [0]) (hsd : d.scatterDimsToOperandDims = [0, 1]) (x0 : (shape2 1 128).Idx → EReal)
    (idx : IVec (shape1 2) 32) (hidx : ∀ i, (idx i).toInt = 0) (u : (shape1 8).Idx → EReal) (g : Fin 8) :
    Host.scatter d (fun _ b => b) x0 idx u (ValueIdx.ix2 0 ⟨g, by omega⟩) = u (ValueIdx.ix1 g) := by
  obtain ⟨uw, iw, sd, iv, wf⟩ := d
  dsimp only at huw hiw hsd
  subst huw hiw hsd
  have land : ∀ (k : Fin 8) (e : Fin 1) (g : Fin 128),
      (ScatterDims.mk (s := shape2 1 128) (si := shape1 2) (u := shape1 8) [0] [0] [0, 1] iv wf).resultIdx? (ValueIdx.ix1 k) idx = some (ValueIdx.ix2 e g)
        ↔ 0 = (e : ℕ) ∧ (k : ℕ) = g := by
    intro k e g
    rw [Routing.resultIdx?_ix2]
    have s : ∀ q : Fin 2, (ScatterDims.mk (s := shape2 1 128) (si := shape1 2) (u := shape1 8) [0] [0] [0, 1] iv wf).start (ValueIdx.ix1 k) idx q = 0 := by
      intro q
      unfold ScatterDims.start
      split
      · exact hidx _
      · rfl
    have w0 : (ScatterDims.mk (s := shape2 1 128) (si := shape1 2) (u := shape1 8) [0] [0] [0, 1] iv wf).window (ValueIdx.ix1 k) 0 = 0 := rfl
    have w1 : (ScatterDims.mk (s := shape2 1 128) (si := shape1 2) (u := shape1 8) [0] [0] [0, 1] iv wf).window (ValueIdx.ix1 k) 1 = k := rfl
    rw [s, s, w0, w1]
    omega
  refine scatter_set_hit _ x0 idx u _ _ (fun j hj => ?_) (ValueIdx.ix1 g) ((land g 0 ⟨g, by omega⟩).2 ⟨rfl, rfl⟩)
  have e := (congrArg (fun t => ScatterDims.resultIdx? _ t idx) (ValueIdx.eq_ix1 j).symm).trans hj
  have e' := (land _ _ _).1 e
  rw [ValueIdx.eq_ix1 j]
  exact congrArg (fun a => u (ValueIdx.ix1 a)) (Fin.ext e'.2)
end Cert.Proj
-- ==== Proof.ProjTables.lean ====
module
public import proofs.«01_k».proof.Proof.ProjScatter
public import Idealize.ShloMosaic.Lib.Claim
public import Idealize.ShloMosaic.Lib.StableHlo.ReadAt
@[expose] public section
set_option maxRecDepth 65536
noncomputable section
/-! The blocks of the input projection, read at an index. -/
namespace Cert.Proj
open Idealize.ShloMosaic Idealize.ShloMosaic.TcCoe Idealize.ShloMosaic.Tactic
open Cert.Kernel4Ideal Cert.Kernel4Ideal.Gen
open scoped BigOperators
open Idealize.SL.Sem
variable (m : (ℓ : Loc nD τ sig) → Buf (Elt Ideal) ℓ) (c : Dev nD)

/-- The specification's inputs, of the argument arrays. -/
def ins (x : S16384x1024.Idx → EReal) (w : S1024x4104.Idx → EReal) (b : S8.Idx → EReal) (cw : S4x2048.Idx → EReal) : Ins where
  x R d := x (ix2 R d)
  w d f := w (ix2 d f)
  gb g := b (ix1 g)
  cw k f := cw (ix2 k f)

/-- The specification's inputs among the arguments. -/
abbrev IM : Ins := ins (m ((c : Thread nD τ).loc main_arg0)) (m ((c : Thread nD τ).loc main_arg1))
  (m ((c : Thread nD τ).loc main_arg2)) (m ((c : Thread nD τ).loc main_arg3))

/-- Which block a grid point has of window 0. -/
theorem idx_0 : ∀ t : Fin grid0.N, win0_0.index t = ![(t : ℕ), 0] := by decide +kernel
/-- Which block a grid point has of window 1. -/
theorem idx_1 : ∀ t : Fin grid0.N, win0_1.index t = ![0, 0] := by decide +kernel
/-- Which block a grid point has of window 2. -/
theorem idx_2 : ∀ t : Fin grid0.N, win0_2.index t = ![0, 0] := by decide +kernel
/-- Which block a grid point has of window 3. -/
theorem idx_3 : ∀ t : Fin grid0.N, win0_3.index t = ![0, 0] := by decide +kernel
/-- Which block a grid point has of window 4. -/
theorem idx_4 : ∀ t : Fin grid0.N, win0_4.index t = ![0, 0] := by decide +kernel
/-- Which block a grid point has of window 5. -/
theorem idx_5 : ∀ t : Fin grid0.N, win0_5.index t = ![(t : ℕ), 0] := by decide +kernel
/-- Which block a grid point has of window 6. -/
theorem idx_6 : ∀ t : Fin grid0.N, win0_6.index t = ![0, (t : ℕ)] := by decide +kernel
/-- Which block a grid point has of window 7. -/
theorem idx_7 : ∀ t : Fin grid0.N, win0_7.index t = ![(t : ℕ), 0] := by decide +kernel
/-- Which block a grid point has of window 8. -/
theorem idx_8 : ∀ t : Fin grid0.N, win0_8.index t = ![(t : ℕ), 0] := by decide +kernel
/-- Which block a grid point has of window 9. -/
theorem idx_9 : ∀ t : Fin grid0.N, win0_9.index t = ![0, (t : ℕ)] := by decide +kernel

/-- The tile's rows. -/
theorem blk_x (t : Fin cfg0.N) (r d : Fin 1024) : @Eq EReal (iblk m c 0 t (ix2 r d)) ((IM m c).x (row t r) d) := by
  have ht : (t : ℕ) < 16 := t.isLt
  have e : row t r = ⟨1024 * t + r, by omega⟩ := Fin.ext (Nat.mod_eq_of_lt (by omega))
  rw [e]
  show @Eq EReal (iblk m c 0 t (ix2 r d)) (m ((c : Thread nD τ).loc main_arg0) (ix2 _ d))
  blk_ext [iblk, V, idx_0 t]
/-- The projection's weights. -/
theorem blk_w (t : Fin cfg0.N) (d : Fin 1024) (f : Fin 4104) : @Eq EReal (iblk m c 1 t (ix2 d f)) ((IM m c).w d f) := by
  refine Eq.trans (b := (V m c main_v10 (ix2 d f) : EReal)) (by blk_ext [iblk, idx_1 t]) ?_
  unfold V
  after_reads_at
  rfl
/-- The gates' weights. -/
theorem blk_g (t : Fin cfg0.N) (d : Fin 1024) (g : Fin 8) :
    @Eq EReal ((iblk m c 2 t : Vec Ideal S1024x128 .bf16) (ix2 d (⟨g, by omega⟩ : Fin 128))) ((IM m c).w d ⟨4096 + g, by omega⟩) := by
  refine Eq.trans (b := (V m c main_v4 (ix2 d ⟨g, by omega⟩) : EReal)) (by blk_ext [iblk, idx_2 t]) ?_
  unfold V
  after_reads_at
  refine (scatter_corner 1024 128 1024 8 1 (by norm_num) (by norm_num) _ rfl rfl rfl _ _ rfl _ d g).trans ?_
  pointwise
  rfl
/-- The gates' bias. -/
theorem blk_b (t : Fin cfg0.N) (g : Fin 8) : @Eq EReal ((iblk m c 3 t : Vec Ideal S1x128 .f32) (ix2 (0 : Fin 1) (⟨g, by omega⟩ : Fin 128))) ((IM m c).gb g) := by
  refine Eq.trans (b := (V m c main_v9 (ix2 0 ⟨g, by omega⟩) : EReal)) (by blk_ext [iblk, idx_3 t]) ?_
  unfold V
  after_reads_at
  refine scatter_start _ rfl rfl rfl _ _ (fun i => ?_) _ g
  idx_vars i
  match i0 with
  | ⟨0, _⟩ =>
    refine (congrArg BitVec.toInt (concatenate_pair_apply_left (t := S2) (s₁ := S1) (s₂ := S1) 0 _ _ _ (ix1 (0 : Fin 2)) rfl (ix1 (0 : Fin 1))
      (fun b => by match b with | ⟨0, _⟩ => rfl))).trans ?_
    after_reads_at
    rfl
  | ⟨1, _⟩ =>
    refine (congrArg BitVec.toInt (concatenate_pair_apply_right (t := S2) (s₁ := S1) (s₂ := S1) 0 _ _ _ (ix1 (1 : Fin 2)) rfl rfl (ix1 (0 : Fin 1))
      (fun b hb => by match b with | ⟨0, _⟩ => exact absurd rfl hb) rfl)).trans ?_
    after_reads_at
    rfl
/-- The convolution's taps. -/
theorem blk_c (t : Fin cfg0.N) (k : Fin 4) (f : Fin 2048) : @Eq EReal ((iblk m c 4 t : Vec Ideal S8x2048 .f32) (ix2 (⟨k, by omega⟩ : Fin 8) f)) ((IM m c).cw k f) := by
  refine Eq.trans (b := (V m c main_v13 (ix2 ⟨k, by omega⟩ f) : EReal)) (by blk_ext [iblk, idx_4 t]) ?_
  unfold V
  after_reads_at
  exact scatter_corner 8 2048 4 2048 0 (by norm_num) (by norm_num) _ rfl rfl rfl _ _ rfl _ k f
end Cert.Proj
-- ==== Proof.ProjKernel.lean ====
module
public import proofs.«01_k».proof.Proof.ProjTables
public import proofs.«01_k».proof.Proof.Gen.Kernel4Ideal.Value
@[expose] public section
set_option maxRecDepth 65536
set_option maxHeartbeats 1000000
noncomputable section
/-! The input projection: what each tile leaves, and the result arrays. -/
namespace Cert.Proj
open Idealize.ShloMosaic Idealize.ShloMosaic.TcCoe Idealize.ShloMosaic.Tactic
open Cert.Kernel4Ideal Cert.Kernel4Ideal.Gen
open scoped BigOperators
open Idealize.SL.Sem
variable (m : (ℓ : Loc nD τ sig) → Buf (Elt Ideal) ℓ) (c : Dev nD)

/-- The buffers of grid point `t` and their contents. -/
def PT (t : Fin cfg0.N) : Pt Ideal :=
  pt (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk m c 4 t)

/-- The contents of window 0. -/
theorem PT0 (t : Fin cfg0.N) : (PT m c t).x = iblk m c 0 t := by
  unfold PT
  dsimp only
/-- The contents of window 1. -/
theorem PT1 (t : Fin cfg0.N) : (PT m c t).w = iblk m c 1 t := by
  unfold PT
  dsimp only
/-- The contents of window 2. -/
theorem PT2 (t : Fin cfg0.N) : (PT m c t).g = iblk m c 2 t := by
  unfold PT
  dsimp only
/-- The contents of window 3. -/
theorem PT3 (t : Fin cfg0.N) : (PT m c t).b = iblk m c 3 t := by
  unfold PT
  dsimp only
/-- The contents of window 4. -/
theorem PT4 (t : Fin cfg0.N) : (PT m c t).c = iblk m c 4 t := by
  unfold PT
  dsimp only

/-- The grid point's rows. -/
theorem PT_x (t : Fin cfg0.N) (r d : Fin 1024) : @Eq EReal ((PT m c t).x (ix2 r d)) ((IM m c).x (row t r) d) := by
  rw [PT0]
  exact blk_x m c t r d
/-- The grid point's weights. -/
theorem PT_w (t : Fin cfg0.N) (d : Fin 1024) (f : Fin 4104) : @Eq EReal ((PT m c t).w (ix2 d f)) ((IM m c).w d f) := by
  rw [PT1]
  exact blk_w m c t d f
/-- The grid point's gate weights. -/
theorem PT_g (t : Fin cfg0.N) (d : Fin 1024) (g : Fin 8) :
    @Eq EReal ((PT m c t).g (ix2 d (lane g))) ((IM m c).w d (gcol g)) := by
  rw [PT2]
  exact blk_g m c t d g
/-- The grid point's gate bias. -/
theorem PT_b (t : Fin cfg0.N) (g : Fin 8) : @Eq EReal ((PT m c t).b (ix2 (0 : Fin 1) (lane g))) ((IM m c).gb g) := by
  rw [PT3]
  exact blk_b m c t g
/-- The grid point's taps. -/
theorem PT_c (t : Fin cfg0.N) (k : Fin 4) (f : Fin 2048) :
    @Eq EReal ((PT m c t).c (ix2 (⟨k, by omega⟩ : Fin 8) f)) ((IM m c).cw k f) := by
  rw [PT4]
  exact blk_c m c t k f

/-- The first tile of a batch entry. -/
theorem leftA (t : Fin cfg0.N) (h0 : (t : ℕ) % 4 = 0) : outsAt0 m c t.val t.isLt = (PT m c t).leaves (PT m c t).prevA zeroL :=
  (outsAt0_A m c t h0).trans (tileA c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t)
    ((hcond0_0 t).mpr h0) (PT m c t) rfl)

/-- A later tile. -/
theorem leftB (t : Fin cfg0.N) (h0 : ¬ (t : ℕ) % 4 = 0) : outsAt0 m c t.val t.isLt = (PT m c t).leaves
    ((PT m c t).prevB (outsAt0 m c (t.val - 1) (Nat.lt_of_le_of_lt (Nat.sub_le _ _) t.isLt)).2.2.2.2.2) [] :=
  (outsAt0_B m c t h0).trans (tileB c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t)
    (fun h => h0 ((hcond0_0 t).mp h)) _ (PT m c t) rfl)

/-- The carried rows after any tile. -/
theorem carry_eq (t : Fin cfg0.N) (j : Fin 8) (f : Fin 2048) :
    @Eq EReal ((outsAt0 m c t.val t.isLt).2.2.2.2.2 (ix2 j f)) (H (IM m c) (row t (1016 + j)) (lo f)) := by
  by_cases h0 : (t : ℕ) % 4 = 0
  · rw [leftA m c t h0, leaves_carry]
    exact carry_apply (PT m c t) (IM m c) t (PT_x m c t) (PT_w m c t) _ j f
  · rw [leftB m c t h0, leaves_carry]
    exact carry_apply (PT m c t) (IM m c) t (PT_x m c t) (PT_w m c t) _ j f

/-- The rows carried into a grid point are the tile before's last, or zero in the first tile of a batch entry. -/
theorem left_eq (t : Fin cfg0.N) : ∃ prev base, outsAt0 m c t.val t.isLt = (PT m c t).leaves prev base
    ∧ ∀ (n : Fin 4) (j : Fin 8) (f : Fin 512), @Eq EReal (prev n (ix2 j f))
      (if (t : ℕ) % 4 = 0 then 0 else H (IM m c) (row (t - 1) (1016 + j)) (lo (col n f))) := by
  by_cases h0 : (t : ℕ) % 4 = 0
  · refine ⟨_, _, leftA m c t h0, fun n j f => ?_⟩
    rw [if_pos h0]
    exact prevA_apply (PT m c t) n j f
  · refine ⟨_, _, leftB m c t h0, fun n j f => ?_⟩
    rw [if_neg h0]
    exact (prevB_apply (PT m c t) _ n j f).trans (carry_eq m c ⟨(t : ℕ) - 1, by omega⟩ j (col n f))

/-- The queries after the kernel's run. -/
theorem q_arr : (dats m 0 c).arrAt 5 cfg0.N = fun i : S16384x1024.Idx => q (IM m c) (i 0) (i 1) := by
  refine (dats m 0 c).arrAt_eq_of_covers 5 _ (by decide +kernel) fun t hf y => ?_
  blk_simp
  rw [after0_5]
  idx_vars y
  have ht : (t : ℕ) < 16 := t.isLt
  have key : @Eq EReal ((outsAt0 m c t.val t.isLt).1 (ix2 y0 y1)) (q (IM m c) (row t y0) y1) := by
    obtain ⟨prev, base, e, hp⟩ := left_eq m c t
    rw [e, leaves_q]
    exact qL_apply (PT m c t) (IM m c) t (PT_x m c t) (PT_w m c t) (PT_c m c t) prev ht hp y0 y1
  refine key.trans (congrArg₂ (q (IM m c)) (Fin.ext ?_) (Fin.ext ?_)).symm
  · blk_simp
    rw [idx_5 t]
    show (t : ℕ) * 1024 + (y0 : ℕ) = (1024 * t + y0) % 16384
    omega
  · blk_simp
    rw [idx_5 t]
    show 0 * 1024 + (y1 : ℕ) = y1
    omega

/-- The keys after the kernel's run. -/
theorem kt_arr : (dats m 0 c).arrAt 6 cfg0.N = fun i : S1024x16384.Idx => kt (IM m c) (i 0) (i 1) := by
  refine (dats m 0 c).arrAt_eq_of_covers 6 _ (by decide +kernel) fun t hf y => ?_
  blk_simp
  rw [after0_6]
  idx_vars y
  have ht : (t : ℕ) < 16 := t.isLt
  have key : @Eq EReal ((outsAt0 m c t.val t.isLt).2.1 (ix2 y0 y1)) (kt (IM m c) y0 (row t y1)) := by
    obtain ⟨prev, base, e, hp⟩ := left_eq m c t
    rw [e, leaves_kt]
    exact ktL_apply (PT m c t) (IM m c) t (PT_x m c t) (PT_w m c t) (PT_c m c t) prev ht hp y0 y1
  refine key.trans (congrArg₂ (kt (IM m c)) (Fin.ext ?_) (Fin.ext ?_)).symm
  · blk_simp
    rw [idx_6 t]
    show 0 * 1024 + (y0 : ℕ) = y0
    omega
  · blk_simp
    rw [idx_6 t]
    show (t : ℕ) * 1024 + (y1 : ℕ) = (1024 * t + y1) % 16384
    omega

/-- The values after the kernel's run. -/
theorem v_arr : (dats m 0 c).arrAt 7 cfg0.N = fun i : S16384x1024.Idx => v (IM m c) (i 0) (i 1) := by
  refine (dats m 0 c).arrAt_eq_of_covers 7 _ (by decide +kernel) fun t hf y => ?_
  blk_simp
  rw [after0_7]
  idx_vars y
  have ht : (t : ℕ) < 16 := t.isLt
  have key : @Eq EReal ((outsAt0 m c t.val t.isLt).2.2.1 (ix2 y0 y1)) (v (IM m c) (row t y0) y1) := by
    obtain ⟨prev, base, e, hp⟩ := left_eq m c t
    rw [e, leaves_v]
    exact vL_apply (PT m c t) (IM m c) t (PT_x m c t) (PT_w m c t) y0 y1
  refine key.trans (congrArg₂ (v (IM m c)) (Fin.ext ?_) (Fin.ext ?_)).symm
  · blk_simp
    rw [idx_7 t]
    show (t : ℕ) * 1024 + (y0 : ℕ) = (1024 * t + y0) % 16384
    omega
  · blk_simp
    rw [idx_7 t]
    show 0 * 1024 + (y1 : ℕ) = y1
    omega

/-- The output gates after the kernel's run. -/
theorem o_arr : (dats m 0 c).arrAt 8 cfg0.N = fun i : S16384x1024.Idx => o (IM m c) (i 0) (i 1) := by
  refine (dats m 0 c).arrAt_eq_of_covers 8 _ (by decide +kernel) fun t hf y => ?_
  blk_simp
  rw [after0_8]
  idx_vars y
  have ht : (t : ℕ) < 16 := t.isLt
  have key : @Eq EReal ((outsAt0 m c t.val t.isLt).2.2.2.1 (ix2 y0 y1)) (o (IM m c) (row t y0) y1) := by
    obtain ⟨prev, base, e, hp⟩ := left_eq m c t
    rw [e, leaves_o]
    exact oL_apply (PT m c t) (IM m c) t (PT_x m c t) (PT_w m c t) y0 y1
  refine key.trans (congrArg₂ (o (IM m c)) (Fin.ext ?_) (Fin.ext ?_)).symm
  · blk_simp
    rw [idx_8 t]
    show (t : ℕ) * 1024 + (y0 : ℕ) = (1024 * t + y0) % 16384
    omega
  · blk_simp
    rw [idx_8 t]
    show 0 * 1024 + (y1 : ℕ) = y1
    omega

/-- The heads' gates after the kernel's run. -/
theorem gates_arr : (dats m 0 c).arrAt 9 cfg0.N = fun i : S8x16384.Idx => gates (IM m c) (i 0) (i 1) := by
  refine (dats m 0 c).arrAt_eq_of_covers 9 _ (by decide +kernel) fun t hf y => ?_
  blk_simp
  rw [after0_9]
  idx_vars y
  have ht : (t : ℕ) < 16 := t.isLt
  have key : @Eq EReal ((outsAt0 m c t.val t.isLt).2.2.2.2.1 (ix2 y0 y1)) (gates (IM m c) y0 (row t y1)) := by
    obtain ⟨prev, base, e, hp⟩ := left_eq m c t
    rw [e, leaves_gates]
    exact gL_apply (PT m c t) (IM m c) t (PT_x m c t) (PT_g m c t) (PT_b m c t) y0 y1
  refine key.trans (congrArg₂ (gates (IM m c)) (Fin.ext ?_) (Fin.ext ?_)).symm
  · blk_simp
    rw [idx_9 t]
    show 0 * 8 + (y0 : ℕ) = y0
    omega
  · blk_simp
    rw [idx_9 t]
    show (t : ℕ) * 1024 + (y1 : ℕ) = (1024 * t + y1) % 16384
    omega
end Cert.Proj
-- ==== Proof.ProjRef.lean ====
module
public import proofs.«01_k».proof.Proof.ProjTables
public import proofs.«01_k».proof.Proof.Gen.Reference4Ideal.Read
@[expose] public section
set_option maxRecDepth 65536
noncomputable section
/-! The input projection in the reference. -/
namespace Cert.ProjRef
open Idealize.ShloMosaic Idealize.ShloMosaic.TcCoe
open Cert.Reference4Ideal Cert.Reference4Ideal.Gen Cert.Reference4Ideal.Read Cert.Proj
open scoped BigOperators

/-- The logarithm of one plus an exponential below the top is a real number. -/
theorem log1p_exp_real (y : EReal) (hy : y ≠ ⊤) : ∃ l : ℝ, Ideal.log1p (Ideal.exp y) = (l : EReal) := by
  have h : ∀ e : ℝ, 0 ≤ e → ∃ l : ℝ, Ideal.log1p (e : EReal) = (l : EReal) := fun e he => by
    refine ⟨Real.log (1 + e), ?_⟩
    have h1 : (1 : EReal) + (e : EReal) = ((1 + e : ℝ) : EReal) := by rw [EReal.coe_add, EReal.coe_one]
    rw [Ideal.log1p, h1]
    show (if 1 + e ≤ 0 then (⊥ : EReal) else (Real.log (1 + e) : EReal)) = _
    rw [if_neg (by linarith)]
  induction y with
  | bot => exact h 0 le_rfl
  | top => exact absurd rfl hy
  | coe r => exact h (Real.exp r) (Real.exp_pos r).le

/-- The reference's logarithm of the logistic function, by its softplus, is the specification's. -/
theorem logsig_eq (x : EReal) : -(max (-x) 0 + Ideal.log1p (Ideal.exp (-(max (-x - 0) (-(-x - 0)))))) = logsig x := by
  have e : -(max (-x - 0) (-(-x - 0))) = 0 - max x (-x) := by
    rw [sub_zero, neg_neg, max_comm, zero_sub]
  have ht : 0 - max x (-x) ≠ ⊤ := by
    rw [zero_sub]
    intro h
    have hb : max x (-x) = ⊥ := by rw [← neg_neg (max x (-x)), h]; rfl
    have h1 : x ≤ ⊥ := hb ▸ le_max_left x (-x)
    have h2 : -x ≤ ⊥ := hb ▸ le_max_right x (-x)
    rw [le_bot_iff] at h1 h2
    rw [h1] at h2
    exact absurd h2 (by decide)
  obtain ⟨l, hl⟩ := log1p_exp_real _ ht
  rw [logsig, e, hl, EReal.neg_add (Or.inr (EReal.coe_ne_top l)) (Or.inr (EReal.coe_ne_bot l))]
  congr 1
  rcases le_total x 0 with h | h
  · rw [min_eq_left h, max_eq_left (EReal.neg_nonneg.2 h), neg_neg]
  · rw [min_eq_right h, max_eq_right (neg_zero (G := EReal) ▸ EReal.neg_le_neg_iff.2 h), neg_zero]

variable (x0 : Vec Ideal S16384x1024 .f32) (x1 : Vec Ideal S1024x4104 .f32) (x2 : Vec Ideal S8 .f32) (x3 : Vec Ideal S4x2048 .f32)

/-- Position `s` of batch entry `e`. -/
abbrev rw3 (e : Fin 4) (s : Fin 4096) : Fin 16384 := ⟨e * 4096 + s, by omega⟩

/-- The reference's projection is the specification's. -/
theorem h_apply (e : Fin 4) (s : Fin 4096) (f : Fin 4104) :
    @Eq EReal (val_main_v1 (F := Ideal) x0 x1 (ix3 e s f)) (H (ins x0 x1 x2 x3) (rw3 e s) f) := by
  unfold H
  pointwise [val_main_v1, val_main_v0]
  rfl

/-- The convolution's columns, three rows of zeros before them. -/
theorem pad_apply (e : Fin 4) (s : Fin 4099) (f : Fin 2048) :
    @Eq EReal (val_main_v6 (F := Ideal) x0 x1 (ix3 e s f)) (if h : 3 ≤ (s : ℕ) then val_main_v1 (F := Ideal) x0 x1 (ix3 e ⟨s - 3, by omega⟩ (lo f)) else 0) := by
  pointwise [val_main_v6, val_main_v2]
  by_cases h : 3 ≤ (s : ℕ)
  · rw [dif_pos ⟨h, by omega⟩, dif_pos h]
  · rw [dif_neg fun q => h q.1, dif_neg h]
    show (((0#32 : BitVec 32).toInt : ℝ) : EReal) = 0
    simp

/-- The padded columns, `b` positions before `s`. -/
theorem pad_eq (b k : ℕ) (hb : b + k = 3) (e : Fin 4) (s : Fin 4096) (f : Fin 2048) :
    @Eq EReal (val_main_v6 (F := Ideal) x0 x1 (ix3 e ⟨k + s, by omega⟩ f)) (back (ins x0 x1 x2 x3) b (rw3 e s) f) := by
  rw [pad_apply, back]
  split
  · rename_i h
    have h' : 3 ≤ k + (s : ℕ) := h
    rw [if_neg (by show ¬ ((e : ℕ) * 4096 + s) % 4096 < b; omega), h_apply x0 x1 x2 x3]
    refine congrArg (fun R => H (ins x0 x1 x2 x3) R (lo f)) (Fin.ext ?_)
    show (e : ℕ) * 4096 + (k + (s : ℕ) - 3) = e * 4096 + s - b
    omega
  · rename_i h
    have h' : ¬ 3 ≤ k + (s : ℕ) := h
    rw [if_pos (by show ((e : ℕ) * 4096 + s) % 4096 < b; omega)]

/-- The reference's convolution is the specification's. -/
theorem conv_apply (e : Fin 4) (s : Fin 4096) (f : Fin 2048) :
    @Eq EReal (val_main_v33 (F := Ideal) x0 x1 x3 (ix3 e s f)) (conv (ins x0 x1 x2 x3) (rw3 e s) f) := by
  have q0 := pad_eq x0 x1 x2 x3 3 0 rfl e s f
  have q1 := pad_eq x0 x1 x2 x3 2 1 rfl e s f
  have q2 := pad_eq x0 x1 x2 x3 1 2 rfl e s f
  have q3 := pad_eq x0 x1 x2 x3 0 3 rfl e s f
  have z : back (ins x0 x1 x2 x3) 0 (rw3 e s) f = H (ins x0 x1 x2 x3) (rw3 e s) (lo f) := if_neg (Nat.not_lt_zero _)
  have e0 : (⟨0 + (s : ℕ), by omega⟩ : Fin 4099) = ⟨s, by omega⟩ := Fin.ext (Nat.zero_add _)
  rw [e0] at q0
  rw [z] at q3
  rw [conv, ← q0, ← q1, ← q2, ← q3]
  generalize hy : val_main_v6 (F := Ideal) x0 x1 = y
  have t : @Eq EReal (val_main_v33 (F := Ideal) x0 x1 x3 (ix3 e s f))
      (x3 (ix2 0 f) * y (ix3 e ⟨s, by omega⟩ f) + x3 (ix2 1 f) * y (ix3 e ⟨1 + s, by omega⟩ f)
        + x3 (ix2 2 f) * y (ix3 e ⟨2 + s, by omega⟩ f) + x3 (ix2 3 f) * y (ix3 e ⟨3 + s, by omega⟩ f)) := by
    rw [← hy]
    generalize hy' : val_main_v6 (F := Ideal) x0 x1 = y'
    pointwise [val_main_v33, val_main_v32, val_main_v31, val_main_v30, val_main_v29, val_main_v28, val_main_v27, val_main_v26,
      val_main_v25, val_main_v24, val_main_v23, val_main_v22, val_main_v21, val_main_v20, val_main_v19, val_main_v18, val_main_v17,
      val_main_v16, val_main_v15, val_main_v14, val_main_v13, val_main_v12, val_main_v11, val_main_v10, val_main_v9, val_main_v8,
      val_main_v7, hy']
  rw [t, mul_comm (x3 (ix2 0 f) : EReal), mul_comm (x3 (ix2 1 f) : EReal), mul_comm (x3 (ix2 2 f) : EReal), mul_comm (x3 (ix2 3 f) : EReal)]
  rfl

/-- The reference's SiLU is the specification's. -/
theorem silu_apply (e : Fin 4) (s : Fin 4096) (f : Fin 2048) :
    @Eq EReal (val_main_v34 (F := Ideal) x0 x1 x3 (ix3 e s f)) (silu (ins x0 x1 x2 x3) (rw3 e s) f) := by
  rw [silu, ← conv_apply x0 x1 x2 x3]
  generalize hy : val_main_v33 (F := Ideal) x0 x1 x3 = y
  pointwise [val_main_v34, val_main_call1_v5, val_main_call1_v4, val_main_call1_cst_0, val_main_call1_v3, val_main_call1_v2,
    val_main_call1_cst, val_main_call1_v1, val_main_call1_v0, hy]
  rfl

/-- A row's position in its batch entry. -/
theorem split (R : Fin 16384) : ∃ (e : Fin 4) (s : Fin 4096), rw3 e s = R :=
  ⟨⟨R / 4096, by omega⟩, ⟨R % 4096, by omega⟩, Fin.ext (by show (R : ℕ) / 4096 * 4096 + R % 4096 = R; omega)⟩

/-- The reference's queries are the specification's. -/
theorem q_eq (R : Fin 16384) (d : Fin 1024) :
    @Eq EReal (val_main_v51 (F := Ideal) x0 x1 x3 (ix2 R d)) (q (ins x0 x1 x2 x3) R d) := by
  obtain ⟨e, s, rfl⟩ := split R
  rw [q, ← silu_apply]
  have t : @Eq EReal (val_main_v51 (F := Ideal) x0 x1 x3 (ix2 (rw3 e s) d)) (val_main_v35 (F := Ideal) x0 x1 x3 (ix3 e s d)) := by
    show @Eq EReal (val_main_v50 (F := Ideal) x0 x1 x3 (ix2 (rw3 e s) d)) _
    refine shapeCast_apply _ _ _ _ ?_
    rw [Shape.rowMajor_val_three, Shape.rowMajor_val_two]
    rfl
  rw [t]
  generalize hy : val_main_v34 (F := Ideal) x0 x1 x3 = y
  pointwise [val_main_v35, hy]

/-- The reference's keys are the specification's. -/
theorem kt_eq (d : Fin 1024) (R : Fin 16384) :
    @Eq EReal (val_main_v52 (F := Ideal) x0 x1 x3 (ix2 d R)) (kt (ins x0 x1 x2 x3) d R) := by
  obtain ⟨e, s, rfl⟩ := split R
  rw [kt, ← silu_apply]
  have t0 : @Eq EReal (val_main_v52 (F := Ideal) x0 x1 x3 (ix2 d (rw3 e s))) (val_main_v45 (F := Ideal) x0 x1 x3 (ix2 (rw3 e s) d)) := by
    generalize hy : val_main_v45 (F := Ideal) x0 x1 x3 = y
    pointwise [val_main_v52, val_main_v46, hy]
  have t : @Eq EReal (val_main_v45 (F := Ideal) x0 x1 x3 (ix2 (rw3 e s) d)) (val_main_v44 (F := Ideal) x0 x1 x3 (ix3 e s d)) := by
    refine shapeCast_apply _ _ _ _ ?_
    rw [Shape.rowMajor_val_three, Shape.rowMajor_val_two]
    rfl
  rw [t0, t]
  generalize hy : val_main_v34 (F := Ideal) x0 x1 x3 = y
  pointwise [val_main_v44, val_main_v43, val_main_cst, val_main_v36, hy]

/-- The reference's values are the specification's. -/
theorem v_eq (R : Fin 16384) (d : Fin 1024) :
    @Eq EReal (val_main_v54 (F := Ideal) x0 x1 (ix2 R d)) (v (ins x0 x1 x2 x3) R d) := by
  obtain ⟨e, s, rfl⟩ := split R
  rw [v, ← h_apply]
  have t : @Eq EReal (val_main_v54 (F := Ideal) x0 x1 (ix2 (rw3 e s) d)) (val_main_v3 (F := Ideal) x0 x1 (ix3 e s d)) := by
    show @Eq EReal (val_main_v53 (F := Ideal) x0 x1 (ix2 (rw3 e s) d)) _
    refine shapeCast_apply _ _ _ _ ?_
    rw [Shape.rowMajor_val_three, Shape.rowMajor_val_two]
    rfl
  rw [t]
  generalize hy : val_main_v1 (F := Ideal) x0 x1 = y
  pointwise [val_main_v3, hy]

/-- The reference's output gates are the specification's. -/
theorem o_eq (R : Fin 16384) (d : Fin 1024) :
    @Eq EReal (val_main_v62 (F := Ideal) x0 x1 (ix2 R d)) (o (ins x0 x1 x2 x3) R d) := by
  obtain ⟨e, s, rfl⟩ := split R
  rw [o, ← h_apply]
  have t : @Eq EReal (val_main_v62 (F := Ideal) x0 x1 (ix2 (rw3 e s) d)) (val_main_v60 (F := Ideal) x0 x1 (ix3 e s d)) := by
    show @Eq EReal (val_main_v61 (F := Ideal) x0 x1 (ix2 (rw3 e s) d)) _
    refine shapeCast_apply _ _ _ _ ?_
    rw [Shape.rowMajor_val_three, Shape.rowMajor_val_two]
    rfl
  rw [t]
  generalize hy : val_main_v1 (F := Ideal) x0 x1 = y
  pointwise [val_main_v60, val_main_v59, val_main_v58, val_main_v57, val_main_v56, val_main_v55, val_main_cst_0, val_main_cst_1, val_main_v4, hy]
  rfl

/-- The reference's gates before the logarithm. -/
theorem pre_apply (e : Fin 4) (s : Fin 4096) (g : Fin 8) :
    @Eq EReal (val_main_v39 (F := Ideal) x0 x1 x2 (ix3 e s g)) (pre (ins x0 x1 x2 x3) g (rw3 e s)) := by
  rw [pre, ← h_apply]
  generalize hy : val_main_v1 (F := Ideal) x0 x1 = y
  pointwise [val_main_v39, val_main_v38, val_main_v37, val_main_v5, hy]
  rfl

/-- The reference's input gates. -/
theorem in_apply (e : Fin 4) (s : Fin 4096) (g : Fin 4) :
    @Eq EReal (val_main_v40 (F := Ideal) x0 x1 x2 (ix3 e s g)) (pre (ins x0 x1 x2 x3) ⟨g, by omega⟩ (rw3 e s)) := by
  rw [← pre_apply]
  generalize hy : val_main_v39 (F := Ideal) x0 x1 x2 = y
  pointwise [val_main_v40, hy]

/-- The reference's forget gates. -/
theorem forget_apply (e : Fin 4) (s : Fin 4096) (g : Fin 4) :
    @Eq EReal (val_main_v42 (F := Ideal) x0 x1 x2 (ix3 e s g)) (logsig (pre (ins x0 x1 x2 x3) ⟨4 + g, by omega⟩ (rw3 e s))) := by
  rw [← logsig_eq, ← pre_apply]
  generalize hy : val_main_v39 (F := Ideal) x0 x1 x2 = y
  pointwise [val_main_v42, val_main_call2_v1, val_main_call2_call0_v11, val_main_call2_call0_v10, val_main_call2_call0_v9,
    val_main_call2_call0_v8, val_main_call2_call0_v7, val_main_call2_call0_v6, val_main_call2_call0_v5, val_main_call2_call0_v4,
    val_main_call2_call0_v3, val_main_call2_call0_v2, val_main_call2_call0_v1, val_main_call2_call0_v0, val_main_call2_call0_cst,
    val_main_call2_v0, val_main_v41, hy]
  rw [if_neg (not_not_intro rfl)]
  rfl

/-- The reference's gates are the specification's. -/
theorem gates_eq (g : Fin 8) (R : Fin 16384) :
    @Eq EReal (val_main_v49 (F := Ideal) x0 x1 x2 (ix2 g R)) (gates (ins x0 x1 x2 x3) g R) := by
  obtain ⟨e, s, rfl⟩ := split R
  have t0 : @Eq EReal (val_main_v49 (F := Ideal) x0 x1 x2 (ix2 g (rw3 e s))) (val_main_v48 (F := Ideal) x0 x1 x2 (ix2 (rw3 e s) g)) := by
    generalize hy : val_main_v48 (F := Ideal) x0 x1 x2 = y
    pointwise [val_main_v49, hy]
  have t : @Eq EReal (val_main_v48 (F := Ideal) x0 x1 x2 (ix2 (rw3 e s) g)) (val_main_v47 (F := Ideal) x0 x1 x2 (ix3 e s g)) := by
    refine shapeCast_apply _ _ _ _ ?_
    rw [Shape.rowMajor_val_three, Shape.rowMajor_val_two]
    rfl
  rw [t0, t, gates]
  unfold val_main_v47
  split
  · rename_i h
    refine Eq.trans ?_ (in_apply x0 x1 x2 x3 e s ⟨g, h⟩)
    exact concatenate_pair_apply_left (t := S4x4096x8) (s₁ := S4x4096x4) (s₂ := S4x4096x4) 2 _ _ _ (ix3 e s g) rfl (ix3 e s ⟨g, h⟩) (fun b => by
      match b with
      | ⟨0, _⟩ => rfl
      | ⟨1, _⟩ => rfl
      | ⟨2, _⟩ => rfl)
  · rename_i h
    have hg : (⟨4 + ((g : ℕ) - 4), by omega⟩ : Fin 8) = g := Fin.ext (by show 4 + ((g : ℕ) - 4) = g; omega)
    refine Eq.trans ?_ ((forget_apply x0 x1 x2 x3 e s ⟨g - 4, by omega⟩).trans (by rw [hg]))
    exact concatenate_pair_apply_right (t := S4x4096x8) (s₁ := S4x4096x4) (s₂ := S4x4096x4) 2 _ _ _ (ix3 e s g) rfl rfl (ix3 e s ⟨g - 4, by omega⟩) (fun b hb => by
      match b with
      | ⟨0, _⟩ => rfl
      | ⟨1, _⟩ => rfl
      | ⟨2, _⟩ => exact absurd rfl hb) (by show (g : ℕ) - 4 + 4 = g; omega)
end Cert.ProjRef
-- ==== Proof.ProjClaims.lean ====
module
public import proofs.«01_k».proof.Defs
public import proofs.«01_k».proof.Proof.ProjKernel
public import proofs.«01_k».proof.Proof.ProjRef
public import proofs.«01_k».proof.Proof.Gen.Kernel4.Frame
public import proofs.«01_k».proof.Proof.Gen.Kernel4Ideal.Frame
public import Idealize.ShloMosaic.Lib.Quiescent
@[expose] public section
noncomputable section
/-! The claims about the odd layer's input projection. -/
namespace Cert.Proj
open Idealize.ShloMosaic Idealize.SL.Sem

/-- The kernel terminates and leaves its arguments and the counters as they were. -/
theorem frame_kernel : Cert.quiescent_Kernel4 (hKernel4 := Cert.Kernel4.Gen.facts) :=
  fun m ρ _ => Cert.Kernel4.Gen.frame m ρ
/-- So does its idealization. -/
theorem frame_kernelIdeal : Cert.quiescent_Kernel4Ideal (hKernel4Ideal := Cert.Kernel4Ideal.Gen.facts) :=
  fun m ρ _ => Cert.Kernel4Ideal.Gen.frame m ρ
/-- So does the reference, which has no semaphores. -/
theorem frame_referenceIdeal : Cert.quiescent_Reference4Ideal (hReference4Ideal := Cert.Reference4Ideal.Gen.facts) :=
  fun m ρ _ => (θ_run _ _ _).mono (fun r h => ⟨fun c => (h c).2.2.2.2.2, sem_eq_zero_of_no_sems rfl r.2⟩)
    (Cert.Reference4Ideal.Value.run m ρ)

/-- Over the extended reals the kernel's five results are the reference's. -/
theorem algebraic : Cert.algebraic_Kernel4Ideal_Reference4Ideal (hKernel4Ideal := Cert.Kernel4Ideal.Gen.facts)
    (hReference4Ideal := Cert.Reference4Ideal.Gen.facts) :=
  fun m ρ m' ρ' _ hag => ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    Cert.Kernel4Ideal.Value.run_blocks m ρ,
    (θ_run _ _ _).mono (fun r h c => ⟨(h c).1.trans (by
      obtain ⟨h0, h1, h2, h3⟩ := hag c
      refine (Cert.Reference4Ideal.Read.val_main_v51_eq _ _).trans (Eq.trans ?_ (q_arr m c).symm)
      funext i
      idx_vars i
      refine (Cert.ProjRef.q_eq _ _ (m' ((c.tc : Thread _ _).loc Cert.Reference4Ideal.main_arg2)) _ i0 i1).trans ?_
      unfold IM
      rw [← h0, ← h1, ← h2, ← h3]), (h c).2.1.trans (by
      obtain ⟨h0, h1, h2, h3⟩ := hag c
      refine (Cert.Reference4Ideal.Read.val_main_v52_eq _ _).trans (Eq.trans ?_ (kt_arr m c).symm)
      funext i
      idx_vars i
      refine (Cert.ProjRef.kt_eq _ _ (m' ((c.tc : Thread _ _).loc Cert.Reference4Ideal.main_arg2)) _ i0 i1).trans ?_
      unfold IM
      rw [← h0, ← h1, ← h2, ← h3]), (h c).2.2.1.trans (by
      obtain ⟨h0, h1, h2, h3⟩ := hag c
      refine (Cert.Reference4Ideal.Read.val_main_v54_eq _ _).trans (Eq.trans ?_ (v_arr m c).symm)
      funext i
      idx_vars i
      refine (Cert.ProjRef.v_eq _ _ (m' ((c.tc : Thread _ _).loc Cert.Reference4Ideal.main_arg2))
        (m' ((c.tc : Thread _ _).loc Cert.Reference4Ideal.main_arg3)) i0 i1).trans ?_
      unfold IM
      rw [← h0, ← h1, ← h2, ← h3]), (h c).2.2.2.1.trans (by
      obtain ⟨h0, h1, h2, h3⟩ := hag c
      refine (Cert.Reference4Ideal.Read.val_main_v62_eq _ _).trans (Eq.trans ?_ (o_arr m c).symm)
      funext i
      idx_vars i
      refine (Cert.ProjRef.o_eq _ _ (m' ((c.tc : Thread _ _).loc Cert.Reference4Ideal.main_arg2))
        (m' ((c.tc : Thread _ _).loc Cert.Reference4Ideal.main_arg3)) i0 i1).trans ?_
      unfold IM
      rw [← h0, ← h1, ← h2, ← h3]), (h c).2.2.2.2.1.trans (by
      obtain ⟨h0, h1, h2, h3⟩ := hag c
      refine (Cert.Reference4Ideal.Read.val_main_v49_eq _ _ _).trans (Eq.trans ?_ (gates_arr m c).symm)
      funext i
      idx_vars i
      refine (Cert.ProjRef.gates_eq _ _ _ (m' ((c.tc : Thread _ _).loc Cert.Reference4Ideal.main_arg3)) i0 i1).trans ?_
      unfold IM
      rw [← h0, ← h1, ← h2, ← h3]), (h c).2.2.2.2.2⟩) (Cert.Reference4Ideal.Value.run m' ρ')⟩
end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.RetClaims
public import proofs.«01_k».proof.Proof.Tail2Claims
public import proofs.«01_k».proof.Proof.Tail3Claims
public import proofs.«01_k».proof.Proof.ProjClaims
public import Idealize.ShloMosaic.Adequacy
public import Idealize.ShloMosaic.Init

@[expose] public section

noncomputable section

namespace Cert.Proof

open Idealize.ShloMosaic Idealize.SL.Sem Cert.Kernel

/-- Every claim of the certificate: retention, the two layers' ends and the odd layer's input projection. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Ret.frame_kernel, Cert.Ret.frame_kernelIdeal, Cert.Ret.frame_referenceIdeal,
    Cert.Tail2.frame_kernel, Cert.Tail2.frame_kernelIdeal, Cert.Tail2.frame_referenceIdeal,
    Cert.Tail3.frame_kernel, Cert.Tail3.frame_kernelIdeal, Cert.Tail3.frame_referenceIdeal,
    Cert.Proj.frame_kernel, Cert.Proj.frame_kernelIdeal, Cert.Proj.frame_referenceIdeal,
    trivial, Cert.Ret.algebraic, trivial, Cert.Tail2.algebraic, trivial, Cert.Tail3.algebraic, trivial, Cert.Proj.algebraic⟩

end Cert.Proof

end
